-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutRef (m : (ℓ : Loc Cert.OutRef.nD Cert.OutRef.τ Cert.OutRef.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnRef (m : (ℓ : Loc Cert.FfnRef.nD Cert.FfnRef.τ Cert.FfnRef.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Sample (m : (ℓ : Loc Cert.Sample.nD Cert.Sample.τ Cert.Sample.sig) → Buf (Elt Bits) ℓ) : Prop :=
  True

def Pre_SampleRef (m : (ℓ : Loc Cert.SampleRef.nD Cert.SampleRef.τ Cert.SampleRef.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleRef (m : (ℓ : Loc Cert.FfnSampleRef.nD Cert.FfnSampleRef.τ Cert.FfnSampleRef.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8))
      ∧ r.2.sem = fun _ => 0)

def quiescent_OutRef [hOutRef : Cert.OutRef.Facts] : Prop :=
  ∀ (m : (ℓ : Loc Cert.OutRef.nD Cert.OutRef.τ Cert.OutRef.sig) → Buf (Elt Bits) ℓ) (g : Dev Cert.OutRef.nD → PrngReg), Pre_OutRef m →
    θ_run (Cert.OutRef.defs (F := Bits)) (onTc (τ := Cert.OutRef.τ) (Cert.OutRef.main (F := Bits))) ⟨m, fun _ => 0, g⟩ (fun r => (∀ c : Dev Cert.OutRef.nD,
      r.2.mem ((c.tc : Thread Cert.OutRef.nD Cert.OutRef.τ).loc Cert.OutRef.main_arg0) = m ((c.tc : Thread Cert.OutRef.nD Cert.OutRef.τ).loc Cert.OutRef.main_arg0)
      ∧ r.2.mem ((c.tc : Thread Cert.OutRef.nD Cert.OutRef.τ).loc Cert.OutRef.main_arg1) = m ((c.tc : Thread Cert.OutRef.nD Cert.OutRef.τ).loc Cert.OutRef.main_arg1)
      ∧ r.2.mem ((c.tc : Thread Cert.OutRef.nD Cert.OutRef.τ).loc Cert.OutRef.main_arg2) = m ((c.tc : Thread Cert.OutRef.nD Cert.OutRef.τ).loc Cert.OutRef.main_arg2)
      ∧ r.2.mem ((c.tc : Thread Cert.OutRef.nD Cert.OutRef.τ).loc Cert.OutRef.main_arg3) = m ((c.tc : Thread Cert.OutRef.nD Cert.OutRef.τ).loc Cert.OutRef.main_arg3)
      ∧ r.2.mem ((c.tc : Thread Cert.OutRef.nD Cert.OutRef.τ).loc Cert.OutRef.main_arg4) = m ((c.tc : Thread Cert.OutRef.nD Cert.OutRef.τ).loc Cert.OutRef.main_arg4)
      ∧ r.2.mem ((c.tc : Thread Cert.OutRef.nD Cert.OutRef.τ).loc Cert.OutRef.main_arg5) = m ((c.tc : Thread Cert.OutRef.nD Cert.OutRef.τ).loc Cert.OutRef.main_arg5)
      ∧ r.2.mem ((c.tc : Thread Cert.OutRef.nD Cert.OutRef.τ).loc Cert.OutRef.main_arg6) = m ((c.tc : Thread Cert.OutRef.nD Cert.OutRef.τ).loc Cert.OutRef.main_arg6)
      ∧ r.2.mem ((c.tc : Thread Cert.OutRef.nD Cert.OutRef.τ).loc Cert.OutRef.main_arg7) = m ((c.tc : Thread Cert.OutRef.nD Cert.OutRef.τ).loc Cert.OutRef.main_arg7)
      ∧ r.2.mem ((c.tc : Thread Cert.OutRef.nD Cert.OutRef.τ).loc Cert.OutRef.main_arg8) = m ((c.tc : Thread Cert.OutRef.nD Cert.OutRef.τ).loc Cert.OutRef.main_arg8))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnRef [hFfnRef : Cert.FfnRef.Facts] : Prop :=
  ∀ (m : (ℓ : Loc Cert.FfnRef.nD Cert.FfnRef.τ Cert.FfnRef.sig) → Buf (Elt Bits) ℓ) (g : Dev Cert.FfnRef.nD → PrngReg), Pre_FfnRef m →
    θ_run (Cert.FfnRef.defs (F := Bits)) (onTc (τ := Cert.FfnRef.τ) (Cert.FfnRef.main (F := Bits))) ⟨m, fun _ => 0, g⟩ (fun r => (∀ c : Dev Cert.FfnRef.nD,
      r.2.mem ((c.tc : Thread Cert.FfnRef.nD Cert.FfnRef.τ).loc Cert.FfnRef.main_arg0) = m ((c.tc : Thread Cert.FfnRef.nD Cert.FfnRef.τ).loc Cert.FfnRef.main_arg0)
      ∧ r.2.mem ((c.tc : Thread Cert.FfnRef.nD Cert.FfnRef.τ).loc Cert.FfnRef.main_arg1) = m ((c.tc : Thread Cert.FfnRef.nD Cert.FfnRef.τ).loc Cert.FfnRef.main_arg1)
      ∧ r.2.mem ((c.tc : Thread Cert.FfnRef.nD Cert.FfnRef.τ).loc Cert.FfnRef.main_arg2) = m ((c.tc : Thread Cert.FfnRef.nD Cert.FfnRef.τ).loc Cert.FfnRef.main_arg2)
      ∧ r.2.mem ((c.tc : Thread Cert.FfnRef.nD Cert.FfnRef.τ).loc Cert.FfnRef.main_arg3) = m ((c.tc : Thread Cert.FfnRef.nD Cert.FfnRef.τ).loc Cert.FfnRef.main_arg3)
      ∧ r.2.mem ((c.tc : Thread Cert.FfnRef.nD Cert.FfnRef.τ).loc Cert.FfnRef.main_arg4) = m ((c.tc : Thread Cert.FfnRef.nD Cert.FfnRef.τ).loc Cert.FfnRef.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8))
      ∧ r.2.sem = fun _ => 0)

def quiescent_SampleRef [hSampleRef : Cert.SampleRef.Facts] : Prop :=
  ∀ (m : (ℓ : Loc Cert.SampleRef.nD Cert.SampleRef.τ Cert.SampleRef.sig) → Buf (Elt Bits) ℓ) (g : Dev Cert.SampleRef.nD → PrngReg), Pre_SampleRef m →
    θ_run (Cert.SampleRef.defs (F := Bits)) (onTc (τ := Cert.SampleRef.τ) (Cert.SampleRef.main (F := Bits))) ⟨m, fun _ => 0, g⟩ (fun r => (∀ c : Dev Cert.SampleRef.nD,
      r.2.mem ((c.tc : Thread Cert.SampleRef.nD Cert.SampleRef.τ).loc Cert.SampleRef.main_arg0) = m ((c.tc : Thread Cert.SampleRef.nD Cert.SampleRef.τ).loc Cert.SampleRef.main_arg0)
      ∧ r.2.mem ((c.tc : Thread Cert.SampleRef.nD Cert.SampleRef.τ).loc Cert.SampleRef.main_arg1) = m ((c.tc : Thread Cert.SampleRef.nD Cert.SampleRef.τ).loc Cert.SampleRef.main_arg1)
      ∧ r.2.mem ((c.tc : Thread Cert.SampleRef.nD Cert.SampleRef.τ).loc Cert.SampleRef.main_arg2) = m ((c.tc : Thread Cert.SampleRef.nD Cert.SampleRef.τ).loc Cert.SampleRef.main_arg2)
      ∧ r.2.mem ((c.tc : Thread Cert.SampleRef.nD Cert.SampleRef.τ).loc Cert.SampleRef.main_arg3) = m ((c.tc : Thread Cert.SampleRef.nD Cert.SampleRef.τ).loc Cert.SampleRef.main_arg3)
      ∧ r.2.mem ((c.tc : Thread Cert.SampleRef.nD Cert.SampleRef.τ).loc Cert.SampleRef.main_arg4) = m ((c.tc : Thread Cert.SampleRef.nD Cert.SampleRef.τ).loc Cert.SampleRef.main_arg4)
      ∧ r.2.mem ((c.tc : Thread Cert.SampleRef.nD Cert.SampleRef.τ).loc Cert.SampleRef.main_arg5) = m ((c.tc : Thread Cert.SampleRef.nD Cert.SampleRef.τ).loc Cert.SampleRef.main_arg5)
      ∧ r.2.mem ((c.tc : Thread Cert.SampleRef.nD Cert.SampleRef.τ).loc Cert.SampleRef.main_arg6) = m ((c.tc : Thread Cert.SampleRef.nD Cert.SampleRef.τ).loc Cert.SampleRef.main_arg6)
      ∧ r.2.mem ((c.tc : Thread Cert.SampleRef.nD Cert.SampleRef.τ).loc Cert.SampleRef.main_arg7) = m ((c.tc : Thread Cert.SampleRef.nD Cert.SampleRef.τ).loc Cert.SampleRef.main_arg7)
      ∧ r.2.mem ((c.tc : Thread Cert.SampleRef.nD Cert.SampleRef.τ).loc Cert.SampleRef.main_arg8) = m ((c.tc : Thread Cert.SampleRef.nD Cert.SampleRef.τ).loc Cert.SampleRef.main_arg8))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4))
      ∧ r.2.sem = fun _ => 0)

def quiescent_FfnSampleRef [hFfnSampleRef : Cert.FfnSampleRef.Facts] : Prop :=
  ∀ (m : (ℓ : Loc Cert.FfnSampleRef.nD Cert.FfnSampleRef.τ Cert.FfnSampleRef.sig) → Buf (Elt Bits) ℓ) (g : Dev Cert.FfnSampleRef.nD → PrngReg), Pre_FfnSampleRef m →
    θ_run (Cert.FfnSampleRef.defs (F := Bits)) (onTc (τ := Cert.FfnSampleRef.τ) (Cert.FfnSampleRef.main (F := Bits))) ⟨m, fun _ => 0, g⟩ (fun r => (∀ c : Dev Cert.FfnSampleRef.nD,
      r.2.mem ((c.tc : Thread Cert.FfnSampleRef.nD Cert.FfnSampleRef.τ).loc Cert.FfnSampleRef.main_arg0) = m ((c.tc : Thread Cert.FfnSampleRef.nD Cert.FfnSampleRef.τ).loc Cert.FfnSampleRef.main_arg0)
      ∧ r.2.mem ((c.tc : Thread Cert.FfnSampleRef.nD Cert.FfnSampleRef.τ).loc Cert.FfnSampleRef.main_arg1) = m ((c.tc : Thread Cert.FfnSampleRef.nD Cert.FfnSampleRef.τ).loc Cert.FfnSampleRef.main_arg1)
      ∧ r.2.mem ((c.tc : Thread Cert.FfnSampleRef.nD Cert.FfnSampleRef.τ).loc Cert.FfnSampleRef.main_arg2) = m ((c.tc : Thread Cert.FfnSampleRef.nD Cert.FfnSampleRef.τ).loc Cert.FfnSampleRef.main_arg2)
      ∧ r.2.mem ((c.tc : Thread Cert.FfnSampleRef.nD Cert.FfnSampleRef.τ).loc Cert.FfnSampleRef.main_arg3) = m ((c.tc : Thread Cert.FfnSampleRef.nD Cert.FfnSampleRef.τ).loc Cert.FfnSampleRef.main_arg3)
      ∧ r.2.mem ((c.tc : Thread Cert.FfnSampleRef.nD Cert.FfnSampleRef.τ).loc Cert.FfnSampleRef.main_arg4) = m ((c.tc : Thread Cert.FfnSampleRef.nD Cert.FfnSampleRef.τ).loc Cert.FfnSampleRef.main_arg4))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
      ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
      ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8)
      ∧ r.2.mem ((c.tc : Thread Cert.InRefIdeal.nD Cert.InRefIdeal.τ).loc Cert.InRefIdeal.main_arg9) = m ((c.tc : Thread Cert.InRefIdeal.nD Cert.InRefIdeal.τ).loc Cert.InRefIdeal.main_arg9)
      ∧ r.2.mem ((c.tc : Thread Cert.InRefIdeal.nD Cert.InRefIdeal.τ).loc Cert.InRefIdeal.main_arg10) = m ((c.tc : Thread Cert.InRefIdeal.nD Cert.InRefIdeal.τ).loc Cert.InRefIdeal.main_arg10)
      ∧ r.2.mem ((c.tc : Thread Cert.InRefIdeal.nD Cert.InRefIdeal.τ).loc Cert.InRefIdeal.main_arg11) = m ((c.tc : Thread Cert.InRefIdeal.nD Cert.InRefIdeal.τ).loc Cert.InRefIdeal.main_arg11))
      ∧ r.2.sem = fun _ => 0)

def preserves_OutFfn_OutFfnIdeal : Prop :=
  True

def preserves_OutRef_OutRefIdeal : Prop :=
  True

def algebraic_OutFfnIdeal_OutRefIdeal [hOutFfnIdeal : Cert.OutFfnIdeal.Facts] [hOutRefIdeal : Cert.OutRefIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutFfnIdeal m →
    (∀ c : Dev Cert.OutFfnIdeal.nD,
      m' ((c.tc : Thread Cert.OutRefIdeal.nD Cert.OutRefIdeal.τ).loc Cert.OutRefIdeal.main_arg0) = m ((c.tc : Thread Cert.OutFfnIdeal.nD Cert.OutFfnIdeal.τ).loc Cert.OutFfnIdeal.main_arg0)
      ∧ m' ((c.tc : Thread Cert.OutRefIdeal.nD Cert.OutRefIdeal.τ).loc Cert.OutRefIdeal.main_arg1) = m ((c.tc : Thread Cert.OutFfnIdeal.nD Cert.OutFfnIdeal.τ).loc Cert.OutFfnIdeal.main_arg1)
      ∧ m' ((c.tc : Thread Cert.OutRefIdeal.nD Cert.OutRefIdeal.τ).loc Cert.OutRefIdeal.main_arg2) = m ((c.tc : Thread Cert.OutFfnIdeal.nD Cert.OutFfnIdeal.τ).loc Cert.OutFfnIdeal.main_arg2)
      ∧ m' ((c.tc : Thread Cert.OutRefIdeal.nD Cert.OutRefIdeal.τ).loc Cert.OutRefIdeal.main_arg3) = m ((c.tc : Thread Cert.OutFfnIdeal.nD Cert.OutFfnIdeal.τ).loc Cert.OutFfnIdeal.main_arg3)
      ∧ m' ((c.tc : Thread Cert.OutRefIdeal.nD Cert.OutRefIdeal.τ).loc Cert.OutRefIdeal.main_arg4) = m ((c.tc : Thread Cert.OutFfnIdeal.nD Cert.OutFfnIdeal.τ).loc Cert.OutFfnIdeal.main_arg4)
      ∧ m' ((c.tc : Thread Cert.OutRefIdeal.nD Cert.OutRefIdeal.τ).loc Cert.OutRefIdeal.main_arg5) = m ((c.tc : Thread Cert.OutFfnIdeal.nD Cert.OutFfnIdeal.τ).loc Cert.OutFfnIdeal.main_arg5)
      ∧ m' ((c.tc : Thread Cert.OutRefIdeal.nD Cert.OutRefIdeal.τ).loc Cert.OutRefIdeal.main_arg6) = m ((c.tc : Thread Cert.OutFfnIdeal.nD Cert.OutFfnIdeal.τ).loc Cert.OutFfnIdeal.main_arg6)
      ∧ m' ((c.tc : Thread Cert.OutRefIdeal.nD Cert.OutRefIdeal.τ).loc Cert.OutRefIdeal.main_arg7) = m ((c.tc : Thread Cert.OutFfnIdeal.nD Cert.OutFfnIdeal.τ).loc Cert.OutFfnIdeal.main_arg7)
      ∧ m' ((c.tc : Thread Cert.OutRefIdeal.nD Cert.OutRefIdeal.τ).loc Cert.OutRefIdeal.main_arg8) = m ((c.tc : Thread Cert.OutFfnIdeal.nD Cert.OutFfnIdeal.τ).loc Cert.OutFfnIdeal.main_arg8)) →
    ∃ (v0 : (c : Dev Cert.OutFfnIdeal.nD) → Buf (Elt Ideal) ((c.tc : Thread Cert.OutFfnIdeal.nD Cert.OutFfnIdeal.τ).loc Cert.OutFfnIdeal.main_v13)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v13) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v51) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_Ffn_FfnIdeal : Prop :=
  True

def preserves_FfnRef_FfnRefIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Sample_SampleIdeal : Prop :=
  True

def preserves_SampleRef_SampleRefIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)) →
    ∃ (v0 : (c : Dev Cert.SampleIdeal.nD) → Buf (Elt Ideal) ((c.tc : Thread Cert.SampleIdeal.nD Cert.SampleIdeal.τ).loc Cert.SampleIdeal.main_v15)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v15) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v52) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8))

def preserves_FfnSample_FfnSampleIdeal : Prop :=
  True

def preserves_FfnSampleRef_FfnSampleRefIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v35) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4))

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)
      ∧ m' ((c.tc : Thread Cert.InRefIdeal.nD Cert.InRefIdeal.τ).loc Cert.InRefIdeal.main_arg3) = m ((c.tc : Thread Cert.InProjIdeal.nD Cert.InProjIdeal.τ).loc Cert.InProjIdeal.main_arg3)
      ∧ m' ((c.tc : Thread Cert.InRefIdeal.nD Cert.InRefIdeal.τ).loc Cert.InRefIdeal.main_arg4) = m ((c.tc : Thread Cert.InProjIdeal.nD Cert.InProjIdeal.τ).loc Cert.InProjIdeal.main_arg4)
      ∧ m' ((c.tc : Thread Cert.InRefIdeal.nD Cert.InRefIdeal.τ).loc Cert.InRefIdeal.main_arg5) = m ((c.tc : Thread Cert.InProjIdeal.nD Cert.InProjIdeal.τ).loc Cert.InProjIdeal.main_arg5)
      ∧ m' ((c.tc : Thread Cert.InRefIdeal.nD Cert.InRefIdeal.τ).loc Cert.InRefIdeal.main_arg6) = m ((c.tc : Thread Cert.InProjIdeal.nD Cert.InProjIdeal.τ).loc Cert.InProjIdeal.main_arg6)
      ∧ m' ((c.tc : Thread Cert.InRefIdeal.nD Cert.InRefIdeal.τ).loc Cert.InRefIdeal.main_arg7) = m ((c.tc : Thread Cert.InProjIdeal.nD Cert.InProjIdeal.τ).loc Cert.InProjIdeal.main_arg7)
      ∧ m' ((c.tc : Thread Cert.InRefIdeal.nD Cert.InRefIdeal.τ).loc Cert.InRefIdeal.main_arg8) = m ((c.tc : Thread Cert.InProjIdeal.nD Cert.InProjIdeal.τ).loc Cert.InProjIdeal.main_arg8)
      ∧ m' ((c.tc : Thread Cert.InRefIdeal.nD Cert.InRefIdeal.τ).loc Cert.InRefIdeal.main_arg9) = m ((c.tc : Thread Cert.InProjIdeal.nD Cert.InProjIdeal.τ).loc Cert.InProjIdeal.main_arg9)
      ∧ m' ((c.tc : Thread Cert.InRefIdeal.nD Cert.InRefIdeal.τ).loc Cert.InRefIdeal.main_arg10) = m ((c.tc : Thread Cert.InProjIdeal.nD Cert.InProjIdeal.τ).loc Cert.InProjIdeal.main_arg10)
      ∧ m' ((c.tc : Thread Cert.InRefIdeal.nD Cert.InRefIdeal.τ).loc Cert.InRefIdeal.main_arg11) = m ((c.tc : Thread Cert.InProjIdeal.nD Cert.InProjIdeal.τ).loc Cert.InProjIdeal.main_arg11)) →
    ∃ (v0 : (c : Dev Cert.InProjIdeal.nD) → Buf (Elt Ideal) ((c.tc : Thread Cert.InProjIdeal.nD Cert.InProjIdeal.τ).loc Cert.InProjIdeal.main_v45_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v45_1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9)
          ∧ r.2.mem ((c.tc : Thread Cert.InProjIdeal.nD Cert.InProjIdeal.τ).loc Cert.InProjIdeal.main_arg10) = m ((c.tc : Thread Cert.InProjIdeal.nD Cert.InProjIdeal.τ).loc Cert.InProjIdeal.main_arg10)
          ∧ r.2.mem ((c.tc : Thread Cert.InProjIdeal.nD Cert.InProjIdeal.τ).loc Cert.InProjIdeal.main_arg11) = m ((c.tc : Thread Cert.InProjIdeal.nD Cert.InProjIdeal.τ).loc Cert.InProjIdeal.main_arg11))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v17) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8)
          ∧ r.2.mem ((c.tc : Thread Cert.InRefIdeal.nD Cert.InRefIdeal.τ).loc Cert.InRefIdeal.main_arg9) = m' ((c.tc : Thread Cert.InRefIdeal.nD Cert.InRefIdeal.τ).loc Cert.InRefIdeal.main_arg9)
          ∧ r.2.mem ((c.tc : Thread Cert.InRefIdeal.nD Cert.InRefIdeal.τ).loc Cert.InRefIdeal.main_arg10) = m' ((c.tc : Thread Cert.InRefIdeal.nD Cert.InRefIdeal.τ).loc Cert.InRefIdeal.main_arg10)
          ∧ r.2.mem ((c.tc : Thread Cert.InRefIdeal.nD Cert.InRefIdeal.τ).loc Cert.InRefIdeal.main_arg11) = m' ((c.tc : Thread Cert.InRefIdeal.nD Cert.InRefIdeal.τ).loc Cert.InRefIdeal.main_arg11))

def Claim : Prop :=
  ∃ (hKernelIdeal : Cert.KernelIdeal.Facts) (hReferenceIdeal : Cert.ReferenceIdeal.Facts) (hOutFfn : Cert.OutFfn.Facts) (hOutRef : Cert.OutRef.Facts) (hOutFfnIdeal : Cert.OutFfnIdeal.Facts) (hOutRefIdeal : Cert.OutRefIdeal.Facts) (hFfn : Cert.Ffn.Facts) (hFfnRef : Cert.FfnRef.Facts) (hFfnIdeal : Cert.FfnIdeal.Facts) (hFfnRefIdeal : Cert.FfnRefIdeal.Facts) (hSample : Cert.Sample.Facts) (hSampleRef : Cert.SampleRef.Facts) (hSampleIdeal : Cert.SampleIdeal.Facts) (hSampleRefIdeal : Cert.SampleRefIdeal.Facts) (hFfnSample : Cert.FfnSample.Facts) (hFfnSampleRef : Cert.FfnSampleRef.Facts) (hFfnSampleIdeal : Cert.FfnSampleIdeal.Facts) (hFfnSampleRefIdeal : Cert.FfnSampleRefIdeal.Facts) (hInProjIdeal : Cert.InProjIdeal.Facts) (hInRefIdeal : Cert.InRefIdeal.Facts),
    quiescent_KernelIdeal (hKernelIdeal := hKernelIdeal)
    ∧ quiescent_ReferenceIdeal (hReferenceIdeal := hReferenceIdeal)
    ∧ quiescent_OutFfn (hOutFfn := hOutFfn)
    ∧ quiescent_OutRef (hOutRef := hOutRef)
    ∧ quiescent_OutFfnIdeal (hOutFfnIdeal := hOutFfnIdeal)
    ∧ quiescent_OutRefIdeal (hOutRefIdeal := hOutRefIdeal)
    ∧ quiescent_Ffn (hFfn := hFfn)
    ∧ quiescent_FfnRef (hFfnRef := hFfnRef)
    ∧ quiescent_FfnIdeal (hFfnIdeal := hFfnIdeal)
    ∧ quiescent_FfnRefIdeal (hFfnRefIdeal := hFfnRefIdeal)
    ∧ quiescent_Sample (hSample := hSample)
    ∧ quiescent_SampleRef (hSampleRef := hSampleRef)
    ∧ quiescent_SampleIdeal (hSampleIdeal := hSampleIdeal)
    ∧ quiescent_SampleRefIdeal (hSampleRefIdeal := hSampleRefIdeal)
    ∧ quiescent_FfnSample (hFfnSample := hFfnSample)
    ∧ quiescent_FfnSampleRef (hFfnSampleRef := hFfnSampleRef)
    ∧ quiescent_FfnSampleIdeal (hFfnSampleIdeal := hFfnSampleIdeal)
    ∧ quiescent_FfnSampleRefIdeal (hFfnSampleRefIdeal := hFfnSampleRefIdeal)
    ∧ quiescent_InProjIdeal (hInProjIdeal := hInProjIdeal)
    ∧ quiescent_InRefIdeal (hInRefIdeal := hInRefIdeal)
    ∧ preserves_OutFfn_OutFfnIdeal
    ∧ preserves_OutRef_OutRefIdeal
    ∧ algebraic_OutFfnIdeal_OutRefIdeal (hOutFfnIdeal := hOutFfnIdeal) (hOutRefIdeal := hOutRefIdeal)
    ∧ preserves_Ffn_FfnIdeal
    ∧ preserves_FfnRef_FfnRefIdeal
    ∧ algebraic_FfnIdeal_FfnRefIdeal (hFfnIdeal := hFfnIdeal) (hFfnRefIdeal := hFfnRefIdeal)
    ∧ preserves_Sample_SampleIdeal
    ∧ preserves_SampleRef_SampleRefIdeal
    ∧ algebraic_SampleIdeal_SampleRefIdeal (hSampleIdeal := hSampleIdeal) (hSampleRefIdeal := hSampleRefIdeal)
    ∧ preserves_FfnSample_FfnSampleIdeal
    ∧ preserves_FfnSampleRef_FfnSampleRefIdeal
    ∧ algebraic_FfnSampleIdeal_FfnSampleRefIdeal (hFfnSampleIdeal := hFfnSampleIdeal) (hFfnSampleRefIdeal := hFfnSampleRefIdeal)
    ∧ algebraic_InProjIdeal_InRefIdeal (hInProjIdeal := hInProjIdeal) (hInRefIdeal := hInRefIdeal)
-- ==== KernelIdeal.lean ====
abbrev S16x2048x8x64 : Shape := ⟨4, ![16, 2048, 8, 64]⟩
abbrev S16x2048x64 : Shape := ⟨3, ![16, 2048, 64]⟩
abbrev S16x2048x8 : Shape := ⟨3, ![16, 2048, 8]⟩
abbrev S16x2048x512 : Shape := ⟨3, ![16, 2048, 512]⟩
abbrev S_ : Shape := ⟨0, ![]⟩
abbrev S16x2048x256 : Shape := ⟨3, ![16, 2048, 256]⟩
abbrev S16x8x256x512 : Shape := ⟨4, ![16, 8, 256, 512]⟩
abbrev S16x8x512x256 : Shape := ⟨4, ![16, 8, 512, 256]⟩
abbrev S8x128 : Shape := ⟨2, ![8, 128]⟩
abbrev S1x1x8x128 : Shape := ⟨4, ![1, 1, 8, 128]⟩
abbrev S16x2048x8x128 : Shape := ⟨4, ![16, 2048, 8, 128]⟩
abbrev S16x2048x1024 : Shape := ⟨3, ![16, 2048, 1024]⟩
abbrev S16x1024x2048 : Shape := ⟨3, ![16, 1024, 2048]⟩
abbrev S16x2048x8x256 : Shape := ⟨4, ![16, 2048, 8, 256]⟩
abbrev S16x2048x2048 : Shape := ⟨3, ![16, 2048, 2048]⟩
abbrev S16x8x2048 : Shape := ⟨3, ![16, 8, 2048]⟩
abbrev S16x512x2048 : Shape := ⟨3, ![16, 512, 2048]⟩
abbrev S1x2048x512 : Shape := ⟨3, ![1, 2048, 512]⟩
abbrev S1x2048x256 : Shape := ⟨3, ![1, 2048, 256]⟩
abbrev S1x8x512x256 : Shape := ⟨4, ![1, 8, 512, 256]⟩
abbrev S1x1024x256 : Shape := ⟨3, ![1, 1024, 256]⟩
abbrev S1x8x256 : Shape := ⟨3, ![1, 8, 256]⟩
abbrev S1x512x256 : Shape := ⟨3, ![1, 512, 256]⟩
abbrev S2048x256 : Shape := ⟨2, ![2048, 256]⟩
abbrev S64x256 : Shape := ⟨2, ![64, 256]⟩
abbrev S512x256 : Shape := ⟨2, ![512, 256]⟩
abbrev S8x2048x256 : Shape := ⟨3, ![8, 2048, 256]⟩
abbrev S8x256 : Shape := ⟨2, ![8, 256]⟩
abbrev S1x256 : Shape := ⟨2, ![1, 256]⟩
abbrev S1x256x256 : Shape := ⟨3, ![1, 256, 256]⟩
abbrev S256x256 : Shape := ⟨2, ![256, 256]⟩
abbrev S2048x1 : Shape := ⟨2, ![2048, 1]⟩
abbrev S1x1792x256 : Shape := ⟨3, ![1, 1792, 256]⟩
abbrev S1792x256 : Shape := ⟨2, ![1792, 256]⟩
abbrev S1792x1 : Shape := ⟨2, ![1792, 1]⟩
abbrev S1x1536x256 : Shape := ⟨3, ![1, 1536, 256]⟩
abbrev S1536x256 : Shape := ⟨2, ![1536, 256]⟩
abbrev S1536x1 : Shape := ⟨2, ![1536, 1]⟩
abbrev S1x1280x256 : Shape := ⟨3, ![1, 1280, 256]⟩
abbrev S1280x256 : Shape := ⟨2, ![1280, 256]⟩
abbrev S1280x1 : Shape := ⟨2, ![1280, 1]⟩
abbrev S1024x256 : Shape := ⟨2, ![1024, 256]⟩
abbrev S1024x1 : Shape := ⟨2, ![1024, 1]⟩
abbrev S1x768x256 : Shape := ⟨3, ![1, 768, 256]⟩
abbrev S768x256 : Shape := ⟨2, ![768, 256]⟩
abbrev S768x1 : Shape := ⟨2, ![768, 1]⟩
abbrev S512x1 : Shape := ⟨2, ![512, 1]⟩
abbrev S256x1 : Shape := ⟨2, ![256, 1]⟩
abbrev S32x256 : Shape := ⟨2, ![32, 256]⟩
abbrev S8x32x256 : Shape := ⟨3, ![8, 32, 256]⟩
abbrev S256 : Shape := ⟨1, ![256]⟩
abbrev S1x1x256 : Shape := ⟨3, ![1, 1, 256]⟩
abbrev S1 : Shape := ⟨1, ![1]⟩
abbrev S1x1x1 : Shape := ⟨3, ![1, 1, 1]⟩
abbrev S1x2048x128 : Shape := ⟨3, ![1, 2048, 128]⟩
abbrev S2048x128 : Shape := ⟨2, ![2048, 128]⟩
abbrev S1x128x256 : Shape := ⟨3, ![1, 128, 256]⟩
abbrev S128x256 : Shape := ⟨2, ![128, 256]⟩
abbrev S64x32x256 : Shape := ⟨3, ![64, 32, 256]⟩
abbrev S4x8x256 : Shape := ⟨3, ![4, 8, 256]⟩
abbrev S1x1792x128 : Shape := ⟨3, ![1, 1792, 128]⟩
abbrev S1792x128 : Shape := ⟨2, ![1792, 128]⟩
abbrev S56x32x256 : Shape := ⟨3, ![56, 32, 256]⟩
abbrev S1x1536x128 : Shape := ⟨3, ![1, 1536, 128]⟩
abbrev S1536x128 : Shape := ⟨2, ![1536, 128]⟩
abbrev S48x32x256 : Shape := ⟨3, ![48, 32, 256]⟩
abbrev S1x1280x128 : Shape := ⟨3, ![1, 1280, 128]⟩
abbrev S1280x128 : Shape := ⟨2, ![1280, 128]⟩
abbrev S40x32x256 : Shape := ⟨3, ![40, 32, 256]⟩
abbrev S1x1024x128 : Shape := ⟨3, ![1, 1024, 128]⟩
abbrev S1024x128 : Shape := ⟨2, ![1024, 128]⟩
abbrev S32x32x256 : Shape := ⟨3, ![32, 32, 256]⟩
abbrev S1x768x128 : Shape := ⟨3, ![1, 768, 128]⟩
abbrev S768x128 : Shape := ⟨2, ![768, 128]⟩
abbrev S24x32x256 : Shape := ⟨3, ![24, 32, 256]⟩
abbrev S1x512x128 : Shape := ⟨3, ![1, 512, 128]⟩
abbrev S512x128 : Shape := ⟨2, ![512, 128]⟩
abbrev S16x32x256 : Shape := ⟨3, ![16, 32, 256]⟩
abbrev S1x256x128 : Shape := ⟨3, ![1, 256, 128]⟩
abbrev S256x128 : Shape := ⟨2, ![256, 128]⟩
abbrev S32x8x256 : Shape := ⟨3, ![32, 8, 256]⟩
abbrev S1x1x64x256 : Shape := ⟨4, ![1, 1, 64, 256]⟩
abbrev S1x64x256 : Shape := ⟨3, ![1, 64, 256]⟩

abbrev nBuf : Space → Nat
  | .hbm => 56
  | .vmem => 20
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8x64, .f32⟩
  | .hbm, ⟨4, _⟩ => ⟨S16x2048x64, .f32⟩
  | .hbm, ⟨5, _⟩ => ⟨S16x2048x8, .f32⟩
  | .hbm, ⟨6, _⟩ => ⟨S16x2048x512, .f32⟩
  | .hbm, ⟨7, _⟩ => ⟨S16x2048x512, .bf16⟩
  | .hbm, ⟨8, _⟩ => ⟨S16x2048x64, .bf16⟩
  | .hbm, ⟨9, _⟩ => ⟨S16x2048x64, .f32⟩
  | .hbm, ⟨10, _⟩ => ⟨S16x2048x64, .f32⟩
  | .hbm, ⟨11, _⟩ => ⟨S16x2048x64, .bf16⟩
  | .hbm, ⟨12, _⟩ => ⟨S_, .bf16⟩
  | .hbm, ⟨13, _⟩ => ⟨S16x2048x64, .bf16⟩
  | .hbm, ⟨14, _⟩ => ⟨S16x2048x256, .bf16⟩
  | .hbm, ⟨15, _⟩ => ⟨S16x8x256x512, .f32⟩
  | .hbm, ⟨16, _⟩ => ⟨S16x8x512x256, .f32⟩
  | .hbm, ⟨17, _⟩ => ⟨S16x8x512x256, .bf16⟩
  | .hbm, ⟨18, _⟩ => ⟨S_, .f32⟩
  | .hbm, ⟨19, _⟩ => ⟨S16x2048x8x64, .f32⟩
  | .hbm, ⟨20, _⟩ => ⟨S16x2048x8x64, .f32⟩
  | .hbm, ⟨21, _⟩ => ⟨S16x2048x8x64, .bf16⟩
  | .hbm, ⟨22, _⟩ => ⟨S8x128, .i32⟩
  | .hbm, ⟨23, _⟩ => ⟨S8x128, .i32⟩
  | .hbm, ⟨24, _⟩ => ⟨S_, .i32⟩
  | .hbm, ⟨25, _⟩ => ⟨S8x128, .i32⟩
  | .hbm, ⟨26, _⟩ => ⟨S8x128, .i32⟩
  | .hbm, ⟨27, _⟩ => ⟨S_, .i32⟩
  | .hbm, ⟨28, _⟩ => ⟨S8x128, .i32⟩
  | .hbm, ⟨29, _⟩ => ⟨S8x128, .i32⟩
  | .hbm, ⟨30, _⟩ => ⟨S8x128, .i1⟩
  | .hbm, ⟨31, _⟩ => ⟨S1x1x8x128, .i1⟩
  | .hbm, ⟨32, _⟩ => ⟨S16x2048x8x128, .bf16⟩
  | .hbm, ⟨33, _⟩ => ⟨S_, .bf16⟩
  | .hbm, ⟨34, _⟩ => ⟨S16x2048x8x128, .i1⟩
  | .hbm, ⟨35, _⟩ => ⟨S16x2048x8x128, .bf16⟩
  | .hbm, ⟨36, _⟩ => ⟨S16x2048x8x128, .bf16⟩
  | .hbm, ⟨37, _⟩ => ⟨S16x2048x1024, .bf16⟩
  | .hbm, ⟨38, _⟩ => ⟨S16x1024x2048, .bf16⟩
  | .hbm, ⟨39, _⟩ => ⟨S_, .f32⟩
  | .hbm, ⟨40, _⟩ => ⟨S16x2048x8x64, .f32⟩
  | .hbm, ⟨41, _⟩ => ⟨S16x2048x8x64, .f32⟩
  | .hbm, ⟨42, _⟩ => ⟨S16x2048x8x64, .bf16⟩
  | .hbm, ⟨43, _⟩ => ⟨S16x2048x8x64, .f32⟩
  | .hbm, ⟨44, _⟩ => ⟨S16x2048x8x64, .f32⟩
  | .hbm, ⟨45, _⟩ => ⟨S16x2048x8x64, .bf16⟩
  | .hbm, ⟨46, _⟩ => ⟨S_, .bf16⟩
  | .hbm, ⟨47, _⟩ => ⟨S16x2048x8x64, .bf16⟩
  | .hbm, ⟨48, _⟩ => ⟨S16x2048x8x256, .bf16⟩
  | .hbm, ⟨49, _⟩ => ⟨S16x2048x2048, .bf16⟩
  | .hbm, ⟨50, _⟩ => ⟨S16x2048x2048, .bf16⟩
  | .hbm, ⟨51, _⟩ => ⟨S_, .f32⟩
  | .hbm, ⟨52, _⟩ => ⟨S16x2048x8, .f32⟩
  | .hbm, ⟨53, _⟩ => ⟨S16x2048x8, .f32⟩
  | .hbm, ⟨54, _⟩ => ⟨S16x8x2048, .f32⟩
  | .hbm, ⟨55, _⟩ => ⟨S16x512x2048, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x8x512x256, .bf16⟩
  | .local _ .vmem, ⟨5, _⟩ => ⟨S1x8x512x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x8x256, .f32⟩
  | .local _ .vmem, ⟨11, _⟩ => ⟨S1x8x256, .f32⟩
  | .local _ .vmem, ⟨12, _⟩ => ⟨S1x512x256, .bf16⟩
  | .local _ .vmem, ⟨13, _⟩ => ⟨S1x512x256, .bf16⟩
  | .local _ .vmem, ⟨14, _⟩ => ⟨S2048x256, .f32⟩
  | .local _ .vmem, ⟨15, _⟩ => ⟨S2048x256, .f32⟩
  | .local _ .vmem, ⟨16, _⟩ => ⟨S64x256, .f32⟩
  | .local _ .vmem, ⟨17, _⟩ => ⟨S64x256, .f32⟩
  | .local _ .vmem, ⟨18, _⟩ => ⟨S512x256, .f32⟩
  | .local _ .vmem, ⟨19, _⟩ => ⟨S8x2048x256, .f32⟩
  | _, _ => ⟨S16x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32_13 : BitVec 32 := 0#32
  let c31_i32 : BitVec 32 := 31#32
  let v35 : BitVec 32 := Scalar.addi c0_i32_13 c31_i32
  let c1_i32_14 : BitVec 32 := 1#32
  ⟨c0_i32_13, v35, c1_i32_14⟩
@[reducible] def k0_t2_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let v265 : BitVec 32 := Scalar.subi v0 c0_i32_153
  let c1_i32_154 : BitVec 32 := 1#32
  let v267 : BitVec 32 := Scalar.divsi v265 c1_i32_154
  let v268 : BitVec 32 := Scalar.muli v267 c1_i32_154
  let v269 : BitVec 32 := Scalar.addi c0_i32_153 v268
  let c1_i32_155 : BitVec 32 := 1#32
  ⟨c0_i32_153, v269, c1_i32_155⟩
def k0_mult1 (i : grid0.Coords) (k0_t2 : Fin (k0_t2_loop i).trips) : BitVec 32 :=
  let c0_i32_158 : BitVec 32 := 0#32
  let c0_i32_153 : BitVec 32 := 0#32
  let c1_i32_155 : BitVec 32 := 1#32
  let arg15 : BitVec 32 := Scf.iv c0_i32_153 c1_i32_155 k0_t2
  let c256_i32_157 : BitVec 32 := 256#32
  let v270 : BitVec 32 := Scalar.muli arg15 c256_i32_157
  let v271 : BitVec 32 := Scalar.addi c0_i32_158 v270
  v271
def k0_off1 (i : grid0.Coords) (k0_t2 : Fin (k0_t2_loop i).trips) : Fin 2 → Nat :=
  let c0_i32_158 : BitVec 32 := 0#32
  let c0_i32_153 : BitVec 32 := 0#32
  let c1_i32_155 : BitVec 32 := 1#32
  let arg15 : BitVec 32 := Scf.iv c0_i32_153 c1_i32_155 k0_t2
  let c256_i32_157 : BitVec 32 := 256#32
  let v270 : BitVec 32 := Scalar.muli arg15 c256_i32_157
  let v271 : BitVec 32 := Scalar.addi c0_i32_158 v270
  let v272 : BitVec 32 := v271
  let v273 : Index := Scalar.indexCast v272
  let c0_159 : Index := 0#32
  ![v273.toNat, 0]
@[reducible] def k0_t3_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let v265 : BitVec 32 := Scalar.subi v0 c0_i32_153
  let c1_i32_154 : BitVec 32 := 1#32
  let v267 : BitVec 32 := Scalar.divsi v265 c1_i32_154
  let v268 : BitVec 32 := Scalar.muli v267 c1_i32_154
  let v269 : BitVec 32 := Scalar.addi c0_i32_153 v268
  let v266 : BitVec 32 := Scalar.addi c0_i32_153 v265
  let c1_i32_156 : BitVec 32 := 1#32
  ⟨v269, v266, c1_i32_156⟩
def k0_mult2 (i : grid0.Coords) (k0_t3 : Fin (k0_t3_loop i).trips) : BitVec 32 :=
  let c0_i32_158 : BitVec 32 := 0#32
  let c0_i32_153 : BitVec 32 := 0#32
  let arg1 : BitVec 32 := BitVec.ofNat 32 (i 1).val
  let c1_i32 : BitVec 32 := 1#32
  let v0 : BitVec 32 := Scalar.addi arg1 c1_i32
  let v265 : BitVec 32 := Scalar.subi v0 c0_i32_153
  let c1_i32_154 : BitVec 32 := 1#32
  let v267 : BitVec 32 := Scalar.divsi v265 c1_i32_154
  let v268 : BitVec 32 := Scalar.muli v267 c1_i32_154
  let v269 : BitVec 32 := Scalar.addi c0_i32_153 v268
  let c1_i32_156 : BitVec 32 := 1#32
  let arg15 : BitVec 32 := Scf.iv v269 c1_i32_156 k0_t3
  let c256_i32_157 : BitVec 32 := 256#32
  let v270 : BitVec 32 := Scalar.muli arg15 c256_i32_157
  let v271 : BitVec 32 := Scalar.addi c0_i32_158 v270
  v271
def k0_off2 (i : grid0.Coords) (k0_t3 : Fin (k0_t3_loop i).trips) : Fin 2 → Nat :=
  let c0_i32_158 : BitVec 32 := 0#32
  let c0_i32_153 : BitVec 32 := 0#32
  let arg1 : BitVec 32 := BitVec.ofNat 32 (i 1).val
  let c1_i32 : BitVec 32 := 1#32
  let v0 : BitVec 32 := Scalar.addi arg1 c1_i32
  let v265 : BitVec 32 := Scalar.subi v0 c0_i32_153
  let c1_i32_154 : BitVec 32 := 1#32
  let v267 : BitVec 32 := Scalar.divsi v265 c1_i32_154
  let v268 : BitVec 32 := Scalar.muli v267 c1_i32_154
  let v269 : BitVec 32 := Scalar.addi c0_i32_153 v268
  let c1_i32_156 : BitVec 32 := 1#32
  let arg15 : BitVec 32 := Scf.iv v269 c1_i32_156 k0_t3
  let c256_i32_157 : BitVec 32 := 256#32
  let v270 : BitVec 32 := Scalar.muli arg15 c256_i32_157
  let v271 : BitVec 32 := Scalar.addi c0_i32_158 v270
  let v272 : BitVec 32 := v271
  let v273 : Index := Scalar.indexCast v272
  let c0_159 : Index := 0#32
  ![v273.toNat, 0]
@[reducible] def k0_t4_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_153
  let c1_i32_154 : BitVec 32 := 1#32
  let v268 : BitVec 32 := Scalar.divsi v266 c1_i32_154
  let v269 : BitVec 32 := Scalar.muli v268 c1_i32_154
  let v270 : BitVec 32 := Scalar.addi c0_i32_153 v269
  let c1_i32_155 : BitVec 32 := 1#32
  ⟨c0_i32_153, v270, c1_i32_155⟩
def k0_mult3 (i : grid0.Coords) (k0_t4 : Fin (k0_t4_loop i).trips) : BitVec 32 :=
  let c0_i32_158 : BitVec 32 := 0#32
  let c0_i32_153 : BitVec 32 := 0#32
  let c1_i32_155 : BitVec 32 := 1#32
  let arg15 : BitVec 32 := Scf.iv c0_i32_153 c1_i32_155 k0_t4
  let c256_i32_157 : BitVec 32 := 256#32
  let v273 : BitVec 32 := Scalar.muli arg15 c256_i32_157
  let v274 : BitVec 32 := Scalar.addi c0_i32_158 v273
  v274
def k0_off3 (i : grid0.Coords) (k0_t4 : Fin (k0_t4_loop i).trips) : Fin 2 → Nat :=
  let c0_i32_158 : BitVec 32 := 0#32
  let c0_i32_153 : BitVec 32 := 0#32
  let c1_i32_155 : BitVec 32 := 1#32
  let arg15 : BitVec 32 := Scf.iv c0_i32_153 c1_i32_155 k0_t4
  let c256_i32_157 : BitVec 32 := 256#32
  let v273 : BitVec 32 := Scalar.muli arg15 c256_i32_157
  let v274 : BitVec 32 := Scalar.addi c0_i32_158 v273
  let v275 : BitVec 32 := v274
  let v276 : Index := Scalar.indexCast v275
  let c0_159 : Index := 0#32
  ![v276.toNat, 0]
@[reducible] def k0_t5_loop (i : grid0.Coords) : Scf.Loop 32 :=
  let c0_i32_153 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_153
  let c1_i32_154 : BitVec 32 := 1#32
  let v268 : BitVec 32 := Scalar.divsi v266 c1_i32_154
  let v269 : BitVec 32 := Scalar.muli v268 c1_i32_154
  let v270 : BitVec 32 := Scalar.addi c0_i32_153 v269
  let v267 : BitVec 32 := Scalar.addi c0_i32_153 v266
  let c1_i32_156 : BitVec 32 := 1#32
  ⟨v270, v267, c1_i32_156⟩
def k0_mult4 (i : grid0.Coords) (k0_t5 : Fin (k0_t5_loop i).trips) : BitVec 32 :=
  let c0_i32_158 : BitVec 32 := 0#32
  let c0_i32_153 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_153
  let c1_i32_154 : BitVec 32 := 1#32
  let v268 : BitVec 32 := Scalar.divsi v266 c1_i32_154
  let v269 : BitVec 32 := Scalar.muli v268 c1_i32_154
  let v270 : BitVec 32 := Scalar.addi c0_i32_153 v269
  let c1_i32_156 : BitVec 32 := 1#32
  let arg15 : BitVec 32 := Scf.iv v270 c1_i32_156 k0_t5
  let c256_i32_157 : BitVec 32 := 256#32
  let v273 : BitVec 32 := Scalar.muli arg15 c256_i32_157
  let v274 : BitVec 32 := Scalar.addi c0_i32_158 v273
  v274
def k0_off4 (i : grid0.Coords) (k0_t5 : Fin (k0_t5_loop i).trips) : Fin 2 → Nat :=
  let c0_i32_158 : BitVec 32 := 0#32
  let c0_i32_153 : BitVec 32 := 0#32
  let arg1 : BitVec 32 := BitVec.ofNat 32 (i 1).val
  let c1_i32 : BitVec 32 := 1#32
  let v0 : BitVec 32 := Scalar.addi arg1 c1_i32
  let v266 : BitVec 32 := Scalar.subi v0 c0_i32_153
  let c1_i32_154 : BitVec 32 := 1#32
  let v268 : BitVec 32 := Scalar.divsi v266 c1_i32_154
  let v269 : BitVec 32 := Scalar.muli v268 c1_i32_154
  let v270 : BitVec 32 := Scalar.addi c0_i32_153 v269
  let c1_i32_156 : BitVec 32 := 1#32
  let arg15 : BitVec 32 := Scf.iv v270 c1_i32_156 k0_t5
  let c256_i32_157 : BitVec 32 := 256#32
  let v273 : BitVec 32 := Scalar.muli arg15 c256_i32_157
  let v274 : BitVec 32 := Scalar.addi c0_i32_158 v273
  let v275 : BitVec 32 := v274
  let v276 : Index := Scalar.indexCast v275
  let c0_159 : Index := 0#32
  ![v276.toNat, 0]
@[reducible] def k0_t6_loop (i : grid0.Coords) : Scf.Loop 32 :=
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_93 : BitVec 32 := 1#32
  ⟨c0_i32_91, v183, c1_i32_93⟩
def k0_mult5 (i : grid0.Coords) (k0_t6 : Fin (k0_t6_loop i).trips) : BitVec 32 :=
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  v264
def k0_off5 (i : grid0.Coords) (k0_t6 : Fin (k0_t6_loop i).trips) : Fin 3 → Nat :=
  let c0_153 : Index := 0#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v266 : Index := Scalar.indexCast v265
  let c0_154 : Index := 0#32
  ![0, v266.toNat, 0]
def k0_off6 (i : grid0.Coords) (k0_t6 : Fin (k0_t6_loop i).trips) : Fin 4 → Nat :=
  let c0_164 : Index := 0#32
  let c0_i32_91 : BitVec 32 := 0#32
  let c1_i32_93 : BitVec 32 := 1#32
  let arg15 : BitVec 32 := Scf.iv c0_i32_91 c1_i32_93 k0_t6
  let v281 : Index := Scalar.indexCast arg15
  let c0_165 : Index := 0#32
  let c0_166 : Index := 0#32
  ![0, v281.toNat, 0, 0]
def k0_off7 (i : grid0.Coords) (k0_t6 : Fin (k0_t6_loop i).trips) : Fin 3 → Nat :=
  let c1 : Index := 1#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v290 : Index := Scalar.indexCast v265
  let c0_170 : Index := 0#32
  ![1, v290.toNat, 0]
def k0_off8 (i : grid0.Coords) (k0_t6 : Fin (k0_t6_loop i).trips) : Fin 4 → Nat :=
  let c0_180 : Index := 0#32
  let c0_i32_91 : BitVec 32 := 0#32
  let c1_i32_93 : BitVec 32 := 1#32
  let arg15 : BitVec 32 := Scf.iv c0_i32_91 c1_i32_93 k0_t6
  let v305 : Index := Scalar.indexCast arg15
  let c64_181 : Index := 64#32
  let c0_182 : Index := 0#32
  ![0, v305.toNat, 64, 0]
def k0_off9 (i : grid0.Coords) (k0_t6 : Fin (k0_t6_loop i).trips) : Fin 3 → Nat :=
  let c2 : Index := 2#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v314 : Index := Scalar.indexCast v265
  let c0_186 : Index := 0#32
  ![2, v314.toNat, 0]
def k0_off10 (i : grid0.Coords) (k0_t6 : Fin (k0_t6_loop i).trips) : Fin 4 → Nat :=
  let c0_196 : Index := 0#32
  let c0_i32_91 : BitVec 32 := 0#32
  let c1_i32_93 : BitVec 32 := 1#32
  let arg15 : BitVec 32 := Scf.iv c0_i32_91 c1_i32_93 k0_t6
  let v329 : Index := Scalar.indexCast arg15
  let c128_197 : Index := 128#32
  let c0_198 : Index := 0#32
  ![0, v329.toNat, 128, 0]
def k0_off11 (i : grid0.Coords) (k0_t6 : Fin (k0_t6_loop i).trips) : Fin 3 → Nat :=
  let c3 : Index := 3#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v338 : Index := Scalar.indexCast v265
  let c0_202 : Index := 0#32
  ![3, v338.toNat, 0]
def k0_off12 (i : grid0.Coords) (k0_t6 : Fin (k0_t6_loop i).trips) : Fin 4 → Nat :=
  let c0_212 : Index := 0#32
  let c0_i32_91 : BitVec 32 := 0#32
  let c1_i32_93 : BitVec 32 := 1#32
  let arg15 : BitVec 32 := Scf.iv c0_i32_91 c1_i32_93 k0_t6
  let v353 : Index := Scalar.indexCast arg15
  let c192_213 : Index := 192#32
  let c0_214 : Index := 0#32
  ![0, v353.toNat, 192, 0]
def k0_off13 (i : grid0.Coords) (k0_t6 : Fin (k0_t6_loop i).trips) : Fin 3 → Nat :=
  let c4 : Index := 4#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v362 : Index := Scalar.indexCast v265
  let c0_218 : Index := 0#32
  ![4, v362.toNat, 0]
def k0_off14 (i : grid0.Coords) (k0_t6 : Fin (k0_t6_loop i).trips) : Fin 4 → Nat :=
  let c0_228 : Index := 0#32
  let c0_i32_91 : BitVec 32 := 0#32
  let c1_i32_93 : BitVec 32 := 1#32
  let arg15 : BitVec 32 := Scf.iv c0_i32_91 c1_i32_93 k0_t6
  let v377 : Index := Scalar.indexCast arg15
  let c256_229 : Index := 256#32
  let c0_230 : Index := 0#32
  ![0, v377.toNat, 256, 0]
def k0_off15 (i : grid0.Coords) (k0_t6 : Fin (k0_t6_loop i).trips) : Fin 3 → Nat :=
  let c5 : Index := 5#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v386 : Index := Scalar.indexCast v265
  let c0_234 : Index := 0#32
  ![5, v386.toNat, 0]
def k0_off16 (i : grid0.Coords) (k0_t6 : Fin (k0_t6_loop i).trips) : Fin 4 → Nat :=
  let c0_244 : Index := 0#32
  let c0_i32_91 : BitVec 32 := 0#32
  let c1_i32_93 : BitVec 32 := 1#32
  let arg15 : BitVec 32 := Scf.iv c0_i32_91 c1_i32_93 k0_t6
  let v401 : Index := Scalar.indexCast arg15
  let c320_245 : Index := 320#32
  let c0_246 : Index := 0#32
  ![0, v401.toNat, 320, 0]
def k0_off17 (i : grid0.Coords) (k0_t6 : Fin (k0_t6_loop i).trips) : Fin 3 → Nat :=
  let c6 : Index := 6#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v410 : Index := Scalar.indexCast v265
  let c0_250 : Index := 0#32
  ![6, v410.toNat, 0]
def k0_off18 (i : grid0.Coords) (k0_t6 : Fin (k0_t6_loop i).trips) : Fin 4 → Nat :=
  let c0_260 : Index := 0#32
  let c0_i32_91 : BitVec 32 := 0#32
  let c1_i32_93 : BitVec 32 := 1#32
  let arg15 : BitVec 32 := Scf.iv c0_i32_91 c1_i32_93 k0_t6
  let v425 : Index := Scalar.indexCast arg15
  let c384_261 : Index := 384#32
  let c0_262 : Index := 0#32
  ![0, v425.toNat, 384, 0]
def k0_off19 (i : grid0.Coords) (k0_t6 : Fin (k0_t6_loop i).trips) : Fin 3 → Nat :=
  let c7 : Index := 7#32
  let c0_i32_91 : BitVec 32 := 0#32
  let c1_i32_93 : BitVec 32 := 1#32
  let arg15 : BitVec 32 := Scf.iv c0_i32_91 c1_i32_93 k0_t6
  let c256_i32_152 : BitVec 32 := 256#32
  let v264 : BitVec 32 := Scalar.muli arg15 c256_i32_152
  let v265 : BitVec 32 := v264
  let v434 : Index := Scalar.indexCast v265
  let c0_266 : Index := 0#32
  ![7, v434.toNat, 0]
def k0_off20 (i : grid0.Coords) (k0_t6 : Fin (k0_t6_loop i).trips) : Fin 4 → Nat :=
  let c0_276 : Index := 0#32
  let c0_i32_91 : BitVec 32 := 0#32
  let c1_i32_93 : BitVec 32 := 1#32
  let arg15 : BitVec 32 := Scf.iv c0_i32_91 c1_i32_93 k0_t6
  let v449 : Index := Scalar.indexCast arg15
  let c448_277 : Index := 448#32
  let c0_278 : Index := 0#32
  ![0, v449.toNat, 448, 0]
@[reducible] def k0_t7_loop (i : grid0.Coords) : Scf.Loop 32 :=
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let v180 : BitVec 32 := Scalar.addi c0_i32_91 v179
  let c1_i32_94 : BitVec 32 := 1#32
  ⟨v183, v180, c1_i32_94⟩
def k0_mult6 (i : grid0.Coords) (k0_t7 : Fin (k0_t7_loop i).trips) : BitVec 32 :=
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  v264
def k0_off21 (i : grid0.Coords) (k0_t7 : Fin (k0_t7_loop i).trips) : Fin 3 → Nat :=
  let c0_153 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v266 : Index := Scalar.indexCast v265
  let c0_154 : Index := 0#32
  ![0, v266.toNat, 0]
def k0_off22 (i : grid0.Coords) (k0_t7 : Fin (k0_t7_loop i).trips) : Fin 4 → Nat :=
  let c0_164 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v281 : Index := Scalar.indexCast arg15
  let c0_165 : Index := 0#32
  let c0_166 : Index := 0#32
  ![0, v281.toNat, 0, 0]
def k0_off23 (i : grid0.Coords) (k0_t7 : Fin (k0_t7_loop i).trips) : Fin 3 → Nat :=
  let c1 : Index := 1#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v290 : Index := Scalar.indexCast v265
  let c0_170 : Index := 0#32
  ![1, v290.toNat, 0]
def k0_off24 (i : grid0.Coords) (k0_t7 : Fin (k0_t7_loop i).trips) : Fin 4 → Nat :=
  let c0_180 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v305 : Index := Scalar.indexCast arg15
  let c64_181 : Index := 64#32
  let c0_182 : Index := 0#32
  ![0, v305.toNat, 64, 0]
def k0_off25 (i : grid0.Coords) (k0_t7 : Fin (k0_t7_loop i).trips) : Fin 3 → Nat :=
  let c2 : Index := 2#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v314 : Index := Scalar.indexCast v265
  let c0_186 : Index := 0#32
  ![2, v314.toNat, 0]
def k0_off26 (i : grid0.Coords) (k0_t7 : Fin (k0_t7_loop i).trips) : Fin 4 → Nat :=
  let c0_196 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v329 : Index := Scalar.indexCast arg15
  let c128_197 : Index := 128#32
  let c0_198 : Index := 0#32
  ![0, v329.toNat, 128, 0]
def k0_off27 (i : grid0.Coords) (k0_t7 : Fin (k0_t7_loop i).trips) : Fin 3 → Nat :=
  let c3 : Index := 3#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v338 : Index := Scalar.indexCast v265
  let c0_202 : Index := 0#32
  ![3, v338.toNat, 0]
def k0_off28 (i : grid0.Coords) (k0_t7 : Fin (k0_t7_loop i).trips) : Fin 4 → Nat :=
  let c0_212 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v353 : Index := Scalar.indexCast arg15
  let c192_213 : Index := 192#32
  let c0_214 : Index := 0#32
  ![0, v353.toNat, 192, 0]
def k0_off29 (i : grid0.Coords) (k0_t7 : Fin (k0_t7_loop i).trips) : Fin 3 → Nat :=
  let c4 : Index := 4#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v362 : Index := Scalar.indexCast v265
  let c0_218 : Index := 0#32
  ![4, v362.toNat, 0]
def k0_off30 (i : grid0.Coords) (k0_t7 : Fin (k0_t7_loop i).trips) : Fin 4 → Nat :=
  let c0_228 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v377 : Index := Scalar.indexCast arg15
  let c256_229 : Index := 256#32
  let c0_230 : Index := 0#32
  ![0, v377.toNat, 256, 0]
def k0_off31 (i : grid0.Coords) (k0_t7 : Fin (k0_t7_loop i).trips) : Fin 3 → Nat :=
  let c5 : Index := 5#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v386 : Index := Scalar.indexCast v265
  let c0_234 : Index := 0#32
  ![5, v386.toNat, 0]
def k0_off32 (i : grid0.Coords) (k0_t7 : Fin (k0_t7_loop i).trips) : Fin 4 → Nat :=
  let c0_244 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v401 : Index := Scalar.indexCast arg15
  let c320_245 : Index := 320#32
  let c0_246 : Index := 0#32
  ![0, v401.toNat, 320, 0]
def k0_off33 (i : grid0.Coords) (k0_t7 : Fin (k0_t7_loop i).trips) : Fin 3 → Nat :=
  let c6 : Index := 6#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v410 : Index := Scalar.indexCast v265
  let c0_250 : Index := 0#32
  ![6, v410.toNat, 0]
def k0_off34 (i : grid0.Coords) (k0_t7 : Fin (k0_t7_loop i).trips) : Fin 4 → Nat :=
  let c0_260 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v425 : Index := Scalar.indexCast arg15
  let c384_261 : Index := 384#32
  let c0_262 : Index := 0#32
  ![0, v425.toNat, 384, 0]
def k0_off35 (i : grid0.Coords) (k0_t7 : Fin (k0_t7_loop i).trips) : Fin 3 → Nat :=
  let c7 : Index := 7#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let c256_i32_152 : BitVec 32 := 256#32
  let v264 : BitVec 32 := Scalar.muli arg15 c256_i32_152
  let v265 : BitVec 32 := v264
  let v434 : Index := Scalar.indexCast v265
  let c0_266 : Index := 0#32
  ![7, v434.toNat, 0]
def k0_off36 (i : grid0.Coords) (k0_t7 : Fin (k0_t7_loop i).trips) : Fin 4 → Nat :=
  let c0_276 : Index := 0#32
  let c0_i32_91 : BitVec 32 := 0#32
  let arg1 : BitVec 32 := BitVec.ofNat 32 (i 1).val
  let c1_i32_89 : BitVec 32 := 1#32
  let v178 : BitVec 32 := Scalar.addi arg1 c1_i32_89
  let v179 : BitVec 32 := Scalar.subi v178 c0_i32_91
  let c1_i32_92 : BitVec 32 := 1#32
  let v181 : BitVec 32 := Scalar.divsi v179 c1_i32_92
  let v182 : BitVec 32 := Scalar.muli v181 c1_i32_92
  let v183 : BitVec 32 := Scalar.addi c0_i32_91 v182
  let c1_i32_94 : BitVec 32 := 1#32
  let arg15 : BitVec 32 := Scf.iv v183 c1_i32_94 k0_t7
  let v449 : Index := Scalar.indexCast arg15
  let c448_277 : Index := 448#32
  let c0_278 : Index := 0#32
  ![0, v449.toNat, 448, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16x2048x8x64 : Shape := ⟨4, ![16, 2048, 8, 64]⟩
abbrev S16x2048x64 : Shape := ⟨3, ![16, 2048, 64]⟩
abbrev S16x2048x8 : Shape := ⟨3, ![16, 2048, 8]⟩
abbrev S2048 : Shape := ⟨1, ![2048]⟩
abbrev S16x2048x8x2048 : Shape := ⟨4, ![16, 2048, 8, 2048]⟩
abbrev S_ : Shape := ⟨0, ![]⟩
abbrev S16x2048x2048 : Shape := ⟨3, ![16, 2048, 2048]⟩
abbrev S1x2048 : Shape := ⟨2, ![1, 2048]⟩
abbrev S2048x1 : Shape := ⟨2, ![2048, 1]⟩
abbrev S2048x2048 : Shape := ⟨2, ![2048, 2048]⟩
abbrev S1x2048x2048 : Shape := ⟨3, ![1, 2048, 2048]⟩
abbrev S16x2048x256 : Shape := ⟨3, ![16, 2048, 256]⟩
abbrev S16x2048x256x1 : Shape := ⟨4, ![16, 2048, 256, 1]⟩
abbrev S1x2048x1 : Shape := ⟨3, ![1, 2048, 1]⟩
abbrev S16x2048x256x8x64 : Shape := ⟨5, ![16, 2048, 256, 8, 64]⟩
abbrev S16x2048x8x256 : Shape := ⟨4, ![16, 2048, 8, 256]⟩
abbrev S16x2048x1x256 : Shape := ⟨4, ![16, 2048, 1, 256]⟩
abbrev S16x2048x8x1 : Shape := ⟨4, ![16, 2048, 8, 1]⟩
abbrev S16x2048x512 : Shape := ⟨3, ![16, 2048, 512]⟩
abbrev S16x512x2048 : Shape := ⟨3, ![16, 512, 2048]⟩

abbrev nBuf : Space → Nat
  | .hbm => 126
  | .vmem => 0
  | .smem => 0
  | _ => 0

abbrev bufTy : (tb : Table) → Fin (tcTables nBuf tb) → BufTy
  | .hbm, ⟨0, _⟩ => ⟨S16x2048x8x64, .f32⟩
  | .hbm, ⟨1, _⟩ => ⟨S16x2048x8x64, .f32⟩
  | .hbm, ⟨2, _⟩ => ⟨S16x2048x8x64, .f32⟩
  | .hbm, ⟨3, _⟩ => ⟨S16x2048x8x64, .f32⟩
  | .hbm, ⟨4, _⟩ => ⟨S16x2048x64, .f32⟩
  | .hbm, ⟨5, _⟩ => ⟨S16x2048x8, .f32⟩
  | .hbm, ⟨6, _⟩ => ⟨S2048, .i32⟩
  | .hbm, ⟨7, _⟩ => ⟨S2048, .i32⟩
  | .hbm, ⟨8, _⟩ => ⟨S16x2048x8x2048, .f32⟩
  | .hbm, ⟨9, _⟩ => ⟨S_, .f32⟩
  | .hbm, ⟨10, _⟩ => ⟨S16x2048x8x2048, .f32⟩
  | .hbm, ⟨11, _⟩ => ⟨S16x2048x8x2048, .f32⟩
  | .hbm, ⟨12, _⟩ => ⟨S_, .f32⟩
  | .hbm, ⟨13, _⟩ => ⟨S16x2048x8, .f32⟩
  | .hbm, ⟨14, _⟩ => ⟨S16x2048x8, .f32⟩
  | .hbm, ⟨15, _⟩ => ⟨S_, .f32⟩
  | .hbm, ⟨16, _⟩ => ⟨S16x2048x8x2048, .f32⟩
  | .hbm, ⟨17, _⟩ => ⟨S16x2048x8x2048, .f32⟩
  | .hbm, ⟨18, _⟩ => ⟨S16x2048x2048, .f32⟩
  | .hbm, ⟨19, _⟩ => ⟨S_, .i32⟩
  | .hbm, ⟨20, _⟩ => ⟨S_, .i32⟩
  | .hbm, ⟨21, _⟩ => ⟨S2048, .i32⟩
  | .hbm, ⟨22, _⟩ => ⟨S2048, .i32⟩
  | .hbm, ⟨23, _⟩ => ⟨S2048, .i32⟩
  | .hbm, ⟨24, _⟩ => ⟨S_, .i32⟩
  | .hbm, ⟨25, _⟩ => ⟨S2048, .i32⟩
  | .hbm, ⟨26, _⟩ => ⟨S2048, .i1⟩
  | .hbm, ⟨27, _⟩ => ⟨S2048, .i32⟩
  | .hbm, ⟨28, _⟩ => ⟨S2048, .i32⟩
  | .hbm, ⟨29, _⟩ => ⟨S_, .i32⟩
  | .hbm, ⟨30, _⟩ => ⟨S2048, .i32⟩
  | .hbm, ⟨31, _⟩ => ⟨S2048, .i1⟩
  | .hbm, ⟨32, _⟩ => ⟨S2048, .i1⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S2048, .i1⟩
  | .hbm, ⟨51, _⟩ => ⟨S_, .i32⟩
  | .hbm, ⟨52, _⟩ => ⟨S2048, .i32⟩
  | .hbm, ⟨53, _⟩ => ⟨S2048, .i32⟩
  | .hbm, ⟨54, _⟩ => ⟨S2048, .i32⟩
  | .hbm, ⟨55, _⟩ => ⟨S1x2048, .i32⟩
  | .hbm, ⟨56, _⟩ => ⟨S2048x1, .i32⟩
  | .hbm, ⟨57, _⟩ => ⟨S2048x2048, .i32⟩
  | .hbm, ⟨58, _⟩ => ⟨S2048x2048, .i32⟩
  | .hbm, ⟨59, _⟩ => ⟨S2048x2048, .i1⟩
  | .hbm, ⟨60, _⟩ => ⟨S1x2048x2048, .i1⟩
  | .hbm, ⟨61, _⟩ => ⟨S_, .f32⟩
  | .hbm, ⟨62, _⟩ => ⟨S_, .f32⟩
  | .hbm, ⟨63, _⟩ => ⟨S16x2048x2048, .i1⟩
  | .hbm, ⟨64, _⟩ => ⟨S16x2048x2048, .f32⟩
  | .hbm, ⟨65, _⟩ => ⟨S16x2048x2048, .f32⟩
  | .hbm, ⟨66, _⟩ => ⟨S16x2048x256, .f32⟩
  | .hbm, ⟨67, _⟩ => ⟨S16x2048x256, .i32⟩
  | .hbm, ⟨68, _⟩ => ⟨S_, .i32⟩
  | .hbm, ⟨69, _⟩ => ⟨S16x2048x256, .i32⟩
  | .hbm, ⟨70, _⟩ => ⟨S16x2048x256, .i1⟩
  | .hbm, ⟨71, _⟩ => ⟨S_, .i32⟩
  | .hbm, ⟨72, _⟩ => ⟨S16x2048x256, .i32⟩
  | .hbm, ⟨73, _⟩ => ⟨S16x2048x256, .i32⟩
  | .hbm, ⟨74, _⟩ => ⟨S16x2048x256, .i32⟩
  | .hbm, ⟨75, _⟩ => ⟨S16x2048x256x1, .i32⟩
  | .hbm, ⟨76, _⟩ => ⟨S16x2048x256, .i32⟩
  | .hbm, ⟨77, _⟩ => ⟨S1x2048x1, .i32⟩
  | .hbm, ⟨78, _⟩ => ⟨S16x2048x256, .i32⟩
  | .hbm, ⟨79, _⟩ => ⟨S16x2048x256, .i1⟩
  | .hbm, ⟨80, _⟩ => ⟨S_, .i32⟩
  | .hbm, ⟨81, _⟩ => ⟨S16x2048x256, .i32⟩
  | .hbm, ⟨82, _⟩ => ⟨S16x2048x256, .i1⟩
  | .hbm, ⟨83, _⟩ => ⟨S_, .i32⟩
  | .hbm, ⟨84, _⟩ => ⟨S16x2048x256, .i32⟩
  | .hbm, ⟨85, _⟩ => ⟨S16x2048x256, .i32⟩
  | .hbm, ⟨86, _⟩ => ⟨S16x2048x256, .i32⟩
  | .hbm, ⟨87, _⟩ => ⟨S16x2048x256x1, .i32⟩
  | .hbm, ⟨88, _⟩ => ⟨S16x2048x256x8x64, .f32⟩
  | .hbm, ⟨89, _⟩ => ⟨S_, .i32⟩
  | .hbm, ⟨90, _⟩ => ⟨S16x2048x256, .i32⟩
  | .hbm, ⟨91, _⟩ => ⟨S16x2048x256, .i1⟩
  | .hbm, ⟨92, _⟩ => ⟨S_, .i32⟩
  | .hbm, ⟨93, _⟩ => ⟨S16x2048x256, .i32⟩
  | .hbm, ⟨94, _⟩ => ⟨S16x2048x256, .i32⟩
  | .hbm, ⟨95, _⟩ => ⟨S16x2048x256, .i32⟩
  | .hbm, ⟨96, _⟩ => ⟨S16x2048x256x1, .i32⟩
  | .hbm, ⟨97, _⟩ => ⟨S16x2048x256x8x64, .f32⟩
  | .hbm, ⟨98, _⟩ => ⟨S16x2048x8x256, .f32⟩
  | .hbm, ⟨99, _⟩ => ⟨S_, .f32⟩
  | .hbm, ⟨100, _⟩ => ⟨S16x2048x8x256, .f32⟩
  | .hbm, ⟨101, _⟩ => ⟨S16x2048x8x256, .f32⟩
  | .hbm, ⟨102, _⟩ => ⟨S16x2048x1x256, .i1⟩
  | .hbm, ⟨103, _⟩ => ⟨S_, .f32⟩
  | .hbm, ⟨104, _⟩ => ⟨S_, .f32⟩
  | .hbm, ⟨105, _⟩ => ⟨S16x2048x8x256, .i1⟩
  | .hbm, ⟨106, _⟩ => ⟨S16x2048x8x256, .f32⟩
  | .hbm, ⟨107, _⟩ => ⟨S16x2048x8x256, .f32⟩
  | .hbm, ⟨108, _⟩ => ⟨S_, .f32⟩
  | .hbm, ⟨109, _⟩ => ⟨S16x2048x8, .f32⟩
  | .hbm, ⟨110, _⟩ => ⟨S_, .f32⟩
  | .hbm, ⟨111, _⟩ => ⟨S16x2048x8, .f32⟩
  | .hbm, ⟨112, _⟩ => ⟨S16x2048x8, .f32⟩
  | .hbm, ⟨113, _⟩ => ⟨S16x2048x8x1, .f32⟩
  | .hbm, ⟨114, _⟩ => ⟨S16x2048x8x256, .f32⟩
  | .hbm, ⟨115, _⟩ => ⟨S16x2048x8x256, .f32⟩
  | .hbm, ⟨116, _⟩ => ⟨S16x2048x8x256, .f32⟩
  | .hbm, ⟨117, _⟩ => ⟨S_, .f32⟩
  | .hbm, ⟨118, _⟩ => ⟨S16x2048x8, .f32⟩
  | .hbm, ⟨119, _⟩ => ⟨S16x2048x8x1, .f32⟩
  | .hbm, ⟨120, _⟩ => ⟨S16x2048x8x256, .f32⟩
  | .hbm, ⟨121, _⟩ => ⟨S16x2048x8x256, .f32⟩
  | .hbm, ⟨122, _⟩ => ⟨S16x2048x8x64, .f32⟩
  | .hbm, ⟨123, _⟩ => ⟨S16x2048x512, .f32⟩
  | .hbm, ⟨124, _⟩ => ⟨S16x512x2048, .f32⟩
  | .hbm, ⟨125, _⟩ => ⟨S16x512x2048, .bf16⟩
  | _, _ => ⟨S16x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_call0_cst : Ref sig .tc := ⟨.hbm, 15, rfl⟩
abbrev main_call0_v0 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_c : Ref sig .tc := ⟨.hbm, 29, rfl⟩
abbrev main_call1_v9 : Ref sig .tc := ⟨.hbm, 30, rfl⟩
abbrev main_call1_v10 : Ref sig .tc := ⟨.hbm, 31, rfl⟩
abbrev main_call1_v11 : Ref sig .tc := ⟨.hbm, 32, rfl⟩
abbrev main_call1_c_0 : Ref sig .tc := ⟨.hbm, 33, rfl⟩
abbrev main_call1_v12 : Ref sig .tc := ⟨.hbm, 34, rfl⟩
abbrev main_call1_v13 : Ref sig .tc := ⟨.hbm, 35, rfl⟩
abbrev main_v9 : Ref sig .tc := ⟨.hbm, 36, rfl⟩
abbrev main_c_1 : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_c : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_0 : Ref sig .tc := ⟨.hbm, 51, rfl⟩
abbrev main_call2_v12 : Ref sig .tc := ⟨.hbm, 52, rfl⟩
abbrev main_call2_v13 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_cst_2 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_v17 : Ref sig .tc := ⟨.hbm, 65, rfl⟩
abbrev main_values : Ref sig .tc := ⟨.hbm, 66, rfl⟩
abbrev main_indices : Ref sig .tc := ⟨.hbm, 67, rfl⟩
abbrev main_c_3 : Ref sig .tc := ⟨.hbm, 68, rfl⟩
abbrev main_v18 : Ref sig .tc := ⟨.hbm, 69, rfl⟩
abbrev main_v19 : Ref sig .tc := ⟨.hbm, 70, rfl⟩
abbrev main_c_4 : Ref sig .tc := ⟨.hbm, 71, rfl⟩
abbrev main_v20 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_c_5 : Ref sig .tc := ⟨.hbm, 80, rfl⟩
abbrev main_v28 : Ref sig .tc := ⟨.hbm, 81, rfl⟩
abbrev main_v29 : Ref sig .tc := ⟨.hbm, 82, rfl⟩
abbrev main_c_6 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_v34 : Ref sig .tc := ⟨.hbm, 88, rfl⟩
abbrev main_c_7 : Ref sig .tc := ⟨.hbm, 89, rfl⟩
abbrev main_v35 : Ref sig .tc := ⟨.hbm, 90, rfl⟩
abbrev main_v36 : Ref sig .tc := ⟨.hbm, 91, rfl⟩
abbrev main_c_8 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_9 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_10 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v46 : Ref sig .tc := ⟨.hbm, 107, rfl⟩
abbrev main_cst_11 : Ref sig .tc := ⟨.hbm, 108, rfl⟩
abbrev main_v47 : Ref sig .tc := ⟨.hbm, 109, rfl⟩
abbrev main_cst_12 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_cst_13 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩

abbrev nD : Nat := 1
abbrev τ : Topo := Topo.v7x

variable {F : FTy → Type} [FloatOps F]
-- ==== OutFfn.lean ====
abbrev S16x2048x1024 : Shape := ⟨3, ![16, 2048, 1024]⟩
abbrev S16x2048x512 : Shape := ⟨3, ![16, 2048, 512]⟩
abbrev S16x2048x8x64 : Shape := ⟨4, ![16, 2048, 8, 64]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S16x512x2048 : Shape := ⟨3, ![16, 512, 2048]⟩
abbrev S1x1024 : Shape := ⟨2, ![1, 1024]⟩
abbrev S1x512x1024 : Shape := ⟨3, ![1, 512, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 23
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x8x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024x5632, .bf16⟩
  | .hbm, ⟨10, _⟩ => ⟨S2816x1024, .bf16⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S16x2048x512, .bf16⟩
  | .hbm, ⟨16, _⟩ => ⟨S16x2048x512, .f32⟩
  | .hbm, ⟨17, _⟩ => ⟨S16x512x2048, .f32⟩
  | .hbm, ⟨18, _⟩ => ⟨S16x512x2048, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S1x512x1024, .f32⟩
  | .local _ .vmem, ⟨14, _⟩ => ⟨S1x512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== OutRef.lean ====
abbrev S16x2048x1024 : Shape := ⟨3, ![16, 2048, 1024]⟩
abbrev S16x2048x512 : Shape := ⟨3, ![16, 2048, 512]⟩
abbrev S16x2048x8x64 : Shape := ⟨4, ![16, 2048, 8, 64]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 79
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x512, .f32⟩
  | .hbm, ⟨2, _⟩ => ⟨S16x2048x8x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S16x2048x512, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S_, .f32⟩
  | .hbm, ⟨14, _⟩ => ⟨S16x2048, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S_, .f32⟩
  | .hbm, ⟨20, _⟩ => ⟨S16x2048x1, .f32⟩
  | .hbm, ⟨21, _⟩ => ⟨S16x2048x1, .f32⟩
  | .hbm, ⟨22, _⟩ => ⟨S16x2048x1, .f32⟩
  | .hbm, ⟨23, _⟩ => ⟨S16x2048x1024, .f32⟩
  | .hbm, ⟨24, _⟩ => ⟨S16x2048x1024, .f32⟩
  | .hbm, ⟨25, _⟩ => ⟨S1x1x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S_, .f32⟩
  | .hbm, ⟨37, _⟩ => ⟨S16x2048x1, .f32⟩
  | .hbm, ⟨38, _⟩ => ⟨S16x2048x1, .f32⟩
  | .hbm, ⟨39, _⟩ => ⟨S16x2048x1, .f32⟩
  | .hbm, ⟨40, _⟩ => ⟨S16x2048x1024, .f32⟩
  | .hbm, ⟨41, _⟩ => ⟨S16x2048x1024, .f32⟩
  | .hbm, ⟨42, _⟩ => ⟨S1x1x1024, .f32⟩
  | .hbm, ⟨43, _⟩ => ⟨S16x2048x1024, .f32⟩
  | .hbm, ⟨44, _⟩ => ⟨S16x2048x1024, .f32⟩
  | .hbm, ⟨45, _⟩ => ⟨S16x2048x5632, .f32⟩
  | .hbm, ⟨46, _⟩ => ⟨S16x2048x2816, .f32⟩
  | .hbm, ⟨47, _⟩ => ⟨S16x2048x2816, .f32⟩
  | .hbm, ⟨48, _⟩ => ⟨S16x2048x2816, .f32⟩
  | .hbm, ⟨49, _⟩ => ⟨S16x2048x2816, .f32⟩
  | .hbm, ⟨50, _⟩ => ⟨S_, .f32⟩
  | .hbm, ⟨51, _⟩ => ⟨S16x2048x2816, .f32⟩
  | .hbm, ⟨52, _⟩ => ⟨S16x2048x2816, .f32⟩
  | .hbm, ⟨53, _⟩ => ⟨S_, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S16x2048x2816, .f32⟩
  | .hbm, ⟨58, _⟩ => ⟨S16x2048x1024, .f32⟩
  | .hbm, ⟨59, _⟩ => ⟨S16x2048x1024, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S_, .f32⟩
  | .hbm, ⟨67, _⟩ => ⟨S16x2048x1, .f32⟩
  | .hbm, ⟨68, _⟩ => ⟨S16x2048x1, .f32⟩
  | .hbm, ⟨69, _⟩ => ⟨S16x2048x1, .f32⟩
  | .hbm, ⟨70, _⟩ => ⟨S16x2048x1024, .f32⟩
  | .hbm, ⟨71, _⟩ => ⟨S16x2048x1024, .f32⟩
  | .hbm, ⟨72, _⟩ => ⟨S1x1x1024, .f32⟩
  | .hbm, ⟨73, _⟩ => ⟨S16x2048x1024, .f32⟩
  | .hbm, ⟨74, _⟩ => ⟨S16x2048x1024, .f32⟩
  | .hbm, ⟨75, _⟩ => ⟨S_, .f32⟩
  | .hbm, ⟨76, _⟩ => ⟨S16x2048x1024, .f32⟩
  | .hbm, ⟨77, _⟩ => ⟨S16x2048x1024, .f32⟩
  | .hbm, ⟨78, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩

abbrev nD : Nat := 1
abbrev τ : Topo := Topo.v7x

variable {F : FTy → Type} [FloatOps F]
-- ==== Ffn.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S32768x1024, .f32⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRef.lean ====
abbrev S16x2048x1024 : Shape := ⟨3, ![16, 2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x5632, .f32⟩
  | .hbm, ⟨22, _⟩ => ⟨S16x2048x2816, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x1024, .f32⟩
  | .hbm, ⟨47, _⟩ => ⟨S16x2048x1024, .f32⟩
  | .hbm, ⟨48, _⟩ => ⟨S1x1x1024, .f32⟩
  | .hbm, ⟨49, _⟩ => ⟨S16x2048x1024, .f32⟩
  | .hbm, ⟨50, _⟩ => ⟨S16x2048x1024, .f32⟩
  | .hbm, ⟨51, _⟩ => ⟨S_, .f32⟩
  | .hbm, ⟨52, _⟩ => ⟨S16x2048x1024, .f32⟩
  | .hbm, ⟨53, _⟩ => ⟨S16x2048x1024, .f32⟩
  | .hbm, ⟨54, _⟩ => ⟨S16x2048x1024, .f32⟩
  | .hbm, ⟨55, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Sample.lean ====
abbrev S8x32x1024 : Shape := ⟨3, ![8, 32, 1024]⟩
abbrev S8x32x512 : Shape := ⟨3, ![8, 32, 512]⟩
abbrev S8x32x8x64 : Shape := ⟨4, ![8, 32, 8, 64]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S512x1024 : Shape := ⟨2, ![512, 1024]⟩
abbrev S1x256x1024 : Shape := ⟨3, ![1, 256, 1024]⟩
abbrev S1x256x512 : Shape := ⟨3, ![1, 256, 512]⟩
abbrev S1x1024 : Shape := ⟨2, ![1, 1024]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S1024x256 : Shape := ⟨2, ![1024, 256]⟩
abbrev S256x256 : Shape := ⟨2, ![256, 256]⟩

abbrev nBuf : Space → Nat
  | .hbm => 25
  | .vmem => 11
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x8x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S1024x5632, .bf16⟩
  | .hbm, ⟨10, _⟩ => ⟨S2816x1024, .bf16⟩
  | .hbm, ⟨11, _⟩ => ⟨S512x1024, .f32⟩
  | .hbm, ⟨12, _⟩ => ⟨S512x1024, .bf16⟩
  | .hbm, ⟨13, _⟩ => ⟨S512x1024, .f32⟩
  | .hbm, ⟨14, _⟩ => ⟨S512x1024, .bf16⟩
  | .hbm, ⟨15, _⟩ => ⟨S8x32x512, .bf16⟩
  | .hbm, ⟨16, _⟩ => ⟨S8x32x512, .f32⟩
  | .hbm, ⟨17, _⟩ => ⟨S8x32x512, .bf16⟩
  | .hbm, ⟨18, _⟩ => ⟨S1x256x1024, .f32⟩
  | .hbm, ⟨19, _⟩ => ⟨S1x256x512, .bf16⟩
  | .hbm, ⟨20, _⟩ => ⟨S1x256x512, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x256x1024, .f32⟩
  | .local _ .vmem, ⟨0, _⟩ => ⟨S1x256x1024, .f32⟩
  | .local _ .vmem, ⟨1, _⟩ => ⟨S1x256x512, .bf16⟩
  | .local _ .vmem, ⟨2, _⟩ => ⟨S1x256x512, .bf16⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S1x256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== SampleRef.lean ====
abbrev S8x32x1024 : Shape := ⟨3, ![8, 32, 1024]⟩
abbrev S8x32x512 : Shape := ⟨3, ![8, 32, 512]⟩
abbrev S8x32x8x64 : Shape := ⟨4, ![8, 32, 8, 64]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x5632 : Shape := ⟨3, ![8, 32, 5632]⟩
abbrev S8x32x2816 : Shape := ⟨3, ![8, 32, 2816]⟩
abbrev S1x256x1024 : Shape := ⟨3, ![1, 256, 1024]⟩

abbrev nBuf : Space → Nat
  | .hbm => 80
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S8x32x512, .f32⟩
  | .hbm, ⟨2, _⟩ => ⟨S8x32x8x64, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x5632, .f32⟩
  | .hbm, ⟨8, _⟩ => ⟨S2816x1024, .f32⟩
  | .hbm, ⟨9, _⟩ => ⟨S8x32x512, .f32⟩
  | .hbm, ⟨10, _⟩ => ⟨S8x32x1024, .f32⟩
  | .hbm, ⟨11, _⟩ => ⟨S8x32x1024, .f32⟩
  | .hbm, ⟨12, _⟩ => ⟨S8x32x1024, .f32⟩
  | .hbm, ⟨13, _⟩ => ⟨S_, .f32⟩
  | .hbm, ⟨14, _⟩ => ⟨S8x32, .f32⟩
  | .hbm, ⟨15, _⟩ => ⟨S8x32x1, .f32⟩
  | .hbm, ⟨16, _⟩ => ⟨S_, .f32⟩
  | .hbm, ⟨17, _⟩ => ⟨S8x32x1, .f32⟩
  | .hbm, ⟨18, _⟩ => ⟨S8x32x1, .f32⟩
  | .hbm, ⟨19, _⟩ => ⟨S_, .f32⟩
  | .hbm, ⟨20, _⟩ => ⟨S8x32x1, .f32⟩
  | .hbm, ⟨21, _⟩ => ⟨S8x32x1, .f32⟩
  | .hbm, ⟨22, _⟩ => ⟨S8x32x1, .f32⟩
  | .hbm, ⟨23, _⟩ => ⟨S8x32x1024, .f32⟩
  | .hbm, ⟨24, _⟩ => ⟨S8x32x1024, .f32⟩
  | .hbm, ⟨25, _⟩ => ⟨S1x1x1024, .f32⟩
  | .hbm, ⟨26, _⟩ => ⟨S8x32x1024, .f32⟩
  | .hbm, ⟨27, _⟩ => ⟨S8x32x1024, .f32⟩
  | .hbm, ⟨28, _⟩ => ⟨S8x32x1024, .f32⟩
  | .hbm, ⟨29, _⟩ => ⟨S8x32x1024, .f32⟩
  | .hbm, ⟨30, _⟩ => ⟨S_, .f32⟩
  | .hbm, ⟨31, _⟩ => ⟨S8x32, .f32⟩
  | .hbm, ⟨32, _⟩ => ⟨S8x32x1, .f32⟩
  | .hbm, ⟨33, _⟩ => ⟨S_, .f32⟩
  | .hbm, ⟨34, _⟩ => ⟨S8x32x1, .f32⟩
  | .hbm, ⟨35, _⟩ => ⟨S8x32x1, .f32⟩
  | .hbm, ⟨36, _⟩ => ⟨S_, .f32⟩
  | .hbm, ⟨37, _⟩ => ⟨S8x32x1, .f32⟩
  | .hbm, ⟨38, _⟩ => ⟨S8x32x1, .f32⟩
  | .hbm, ⟨39, _⟩ => ⟨S8x32x1, .f32⟩
  | .hbm, ⟨40, _⟩ => ⟨S8x32x1024, .f32⟩
  | .hbm, ⟨41, _⟩ => ⟨S8x32x1024, .f32⟩
  | .hbm, ⟨42, _⟩ => ⟨S1x1x1024, .f32⟩
  | .hbm, ⟨43, _⟩ => ⟨S8x32x1024, .f32⟩
  | .hbm, ⟨44, _⟩ => ⟨S8x32x1024, .f32⟩
  | .hbm, ⟨45, _⟩ => ⟨S8x32x5632, .f32⟩
  | .hbm, ⟨46, _⟩ => ⟨S8x32x2816, .f32⟩
  | .hbm, ⟨47, _⟩ => ⟨S8x32x2816, .f32⟩
  | .hbm, ⟨48, _⟩ => ⟨S8x32x2816, .f32⟩
  | .hbm, ⟨49, _⟩ => ⟨S8x32x2816, .f32⟩
  | .hbm, ⟨50, _⟩ => ⟨S_, .f32⟩
  | .hbm, ⟨51, _⟩ => ⟨S8x32x2816, .f32⟩
  | .hbm, ⟨52, _⟩ => ⟨S8x32x2816, .f32⟩
  | .hbm, ⟨53, _⟩ => ⟨S_, .f32⟩
  | .hbm, ⟨54, _⟩ => ⟨S8x32x2816, .f32⟩
  | .hbm, ⟨55, _⟩ => ⟨S8x32x2816, .f32⟩
  | .hbm, ⟨56, _⟩ => ⟨S8x32x2816, .f32⟩
  | .hbm, ⟨57, _⟩ => ⟨S8x32x2816, .f32⟩
  | .hbm, ⟨58, _⟩ => ⟨S8x32x1024, .f32⟩
  | .hbm, ⟨59, _⟩ => ⟨S8x32x1024, .f32⟩
  | .hbm, ⟨60, _⟩ => ⟨S_, .f32⟩
  | .hbm, ⟨61, _⟩ => ⟨S8x32, .f32⟩
  | .hbm, ⟨62, _⟩ => ⟨S8x32x1, .f32⟩
  | .hbm, ⟨63, _⟩ => ⟨S_, .f32⟩
  | .hbm, ⟨64, _⟩ => ⟨S8x32x1, .f32⟩
  | .hbm, ⟨65, _⟩ => ⟨S8x32x1, .f32⟩
  | .hbm, ⟨66, _⟩ => ⟨S_, .f32⟩
  | .hbm, ⟨67, _⟩ => ⟨S8x32x1, .f32⟩
  | .hbm, ⟨68, _⟩ => ⟨S8x32x1, .f32⟩
  | .hbm, ⟨69, _⟩ => ⟨S8x32x1, .f32⟩
  | .hbm, ⟨70, _⟩ => ⟨S8x32x1024, .f32⟩
  | .hbm, ⟨71, _⟩ => ⟨S8x32x1024, .f32⟩
  | .hbm, ⟨72, _⟩ => ⟨S1x1x1024, .f32⟩
  | .hbm, ⟨73, _⟩ => ⟨S8x32x1024, .f32⟩
  | .hbm, ⟨74, _⟩ => ⟨S8x32x1024, .f32⟩
  | .hbm, ⟨75, _⟩ => ⟨S_, .f32⟩
  | .hbm, ⟨76, _⟩ => ⟨S8x32x1024, .f32⟩
  | .hbm, ⟨77, _⟩ => ⟨S8x32x1024, .f32⟩
  | .hbm, ⟨78, _⟩ => ⟨S8x32x1024, .f32⟩
  | .hbm, ⟨79, _⟩ => ⟨S1x256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_call0_v5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_5 : Ref sig .tc := ⟨.hbm, 60, rfl⟩
abbrev main_v37 : Ref sig .tc := ⟨.hbm, 61, rfl⟩
abbrev main_v38 : Ref sig .tc := ⟨.hbm, 62, rfl⟩
abbrev main_cst_6 : Ref sig .tc := ⟨.hbm, 63, rfl⟩
abbrev main_v39 : Ref sig .tc := ⟨.hbm, 64, rfl⟩
abbrev main_v40 : Ref sig .tc := ⟨.hbm, 65, rfl⟩
abbrev main_cst_7 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_8 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]
-- ==== FfnSample.lean ====
abbrev S8x32x1024 : Shape := ⟨3, ![8, 32, 1024]⟩
abbrev S1024 : Shape := ⟨1, ![1024]⟩
abbrev S1024x5632 : Shape := ⟨2, ![1024, 5632]⟩
abbrev S2816x1024 : Shape := ⟨2, ![2816, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩
abbrev S1024x256 : Shape := ⟨2, ![1024, 256]⟩
abbrev S256x256 : Shape := ⟨2, ![256, 256]⟩

abbrev nBuf : Space → Nat
  | .hbm => 11
  | .vmem => 6
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S2816x1024, .bf16⟩
  | .hbm, ⟨7, _⟩ => ⟨S256x1024, .f32⟩
  | .hbm, ⟨8, _⟩ => ⟨S1x1024, .f32⟩
  | .hbm, ⟨9, _⟩ => ⟨S1x1024, .f32⟩
  | .hbm, ⟨10, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== FfnSampleRef.lean ====
abbrev S8x32x1024 : Shape := ⟨3, ![8, 32, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x5632 : Shape := ⟨3, ![8, 32, 5632]⟩
abbrev S8x32x2816 : Shape := ⟨3, ![8, 32, 2816]⟩
abbrev S256x1024 : Shape := ⟨2, ![256, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S8x32x1024, .f32⟩
  | .hbm, ⟨6, _⟩ => ⟨S_, .f32⟩
  | .hbm, ⟨7, _⟩ => ⟨S8x32, .f32⟩
  | .hbm, ⟨8, _⟩ => ⟨S8x32x1, .f32⟩
  | .hbm, ⟨9, _⟩ => ⟨S_, .f32⟩
  | .hbm, ⟨10, _⟩ => ⟨S8x32x1, .f32⟩
  | .hbm, ⟨11, _⟩ => ⟨S8x32x1, .f32⟩
  | .hbm, ⟨12, _⟩ => ⟨S_, .f32⟩
  | .hbm, ⟨13, _⟩ => ⟨S8x32x1, .f32⟩
  | .hbm, ⟨14, _⟩ => ⟨S8x32x1, .f32⟩
  | .hbm, ⟨15, _⟩ => ⟨S8x32x1, .f32⟩
  | .hbm, ⟨16, _⟩ => ⟨S8x32x1024, .f32⟩
  | .hbm, ⟨17, _⟩ => ⟨S8x32x1024, .f32⟩
  | .hbm, ⟨18, _⟩ => ⟨S1x1x1024, .f32⟩
  | .hbm, ⟨19, _⟩ => ⟨S8x32x1024, .f32⟩
  | .hbm, ⟨20, _⟩ => ⟨S8x32x1024, .f32⟩
  | .hbm, ⟨21, _⟩ => ⟨S8x32x5632, .f32⟩
  | .hbm, ⟨22, _⟩ => ⟨S8x32x2816, .f32⟩
  | .hbm, ⟨23, _⟩ => ⟨S8x32x2816, .f32⟩
  | .hbm, ⟨24, _⟩ => ⟨S8x32x2816, .f32⟩
  | .hbm, ⟨25, _⟩ => ⟨S8x32x2816, .f32⟩
  | .hbm, ⟨26, _⟩ => ⟨S_, .f32⟩
  | .hbm, ⟨27, _⟩ => ⟨S8x32x2816, .f32⟩
  | .hbm, ⟨28, _⟩ => ⟨S8x32x2816, .f32⟩
  | .hbm, ⟨29, _⟩ => ⟨S_, .f32⟩
  | .hbm, ⟨30, _⟩ => ⟨S8x32x2816, .f32⟩
  | .hbm, ⟨31, _⟩ => ⟨S8x32x2816, .f32⟩
  | .hbm, ⟨32, _⟩ => ⟨S8x32x2816, .f32⟩
  | .hbm, ⟨33, _⟩ => ⟨S8x32x2816, .f32⟩
  | .hbm, ⟨34, _⟩ => ⟨S8x32x1024, .f32⟩
  | .hbm, ⟨35, _⟩ => ⟨S8x32x1024, .f32⟩
  | .hbm, ⟨36, _⟩ => ⟨S_, .f32⟩
  | .hbm, ⟨37, _⟩ => ⟨S8x32, .f32⟩
  | .hbm, ⟨38, _⟩ => ⟨S8x32x1, .f32⟩
  | .hbm, ⟨39, _⟩ => ⟨S_, .f32⟩
  | .hbm, ⟨40, _⟩ => ⟨S8x32x1, .f32⟩
  | .hbm, ⟨41, _⟩ => ⟨S8x32x1, .f32⟩
  | .hbm, ⟨42, _⟩ => ⟨S_, .f32⟩
  | .hbm, ⟨43, _⟩ => ⟨S8x32x1, .f32⟩
  | .hbm, ⟨44, _⟩ => ⟨S8x32x1, .f32⟩
  | .hbm, ⟨45, _⟩ => ⟨S8x32x1, .f32⟩
  | .hbm, ⟨46, _⟩ => ⟨S8x32x1024, .f32⟩
  | .hbm, ⟨47, _⟩ => ⟨S8x32x1024, .f32⟩
  | .hbm, ⟨48, _⟩ => ⟨S1x1x1024, .f32⟩
  | .hbm, ⟨49, _⟩ => ⟨S8x32x1024, .f32⟩
  | .hbm, ⟨50, _⟩ => ⟨S8x32x1024, .f32⟩
  | .hbm, ⟨51, _⟩ => ⟨S_, .f32⟩
  | .hbm, ⟨52, _⟩ => ⟨S8x32x1024, .f32⟩
  | .hbm, ⟨53, _⟩ => ⟨S8x32x1024, .f32⟩
  | .hbm, ⟨54, _⟩ => ⟨S8x32x1024, .f32⟩
  | .hbm, ⟨55, _⟩ => ⟨S256x1024, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== InProjIdeal.lean ====
abbrev S8x32x1024 : Shape := ⟨3, ![8, 32, 1024]⟩
abbrev S1024 : Shape := ⟨1, ![1024]⟩
abbrev S1024x3144 : Shape := ⟨2, ![1024, 3144]⟩
abbrev S8x30x512 : Shape := ⟨3, ![8, 30, 512]⟩
abbrev S31x512 : Shape := ⟨2, ![31, 512]⟩
abbrev S512 : Shape := ⟨1, ![512]⟩
abbrev S2x8x256x64 : Shape := ⟨4, ![2, 8, 256, 64]⟩
abbrev S2x8x32x64 : Shape := ⟨4, ![2, 8, 32, 64]⟩
abbrev S2x8x30x512 : Shape := ⟨4, ![2, 8, 30, 512]⟩
abbrev S32 : Shape := ⟨1, ![32]⟩
abbrev S_ : Shape := ⟨0, ![]⟩
abbrev S32x1 : Shape := ⟨2, ![32, 1]⟩
abbrev S1x32 : Shape := ⟨2, ![1, 32]⟩
abbrev S32x32 : Shape := ⟨2, ![32, 32]⟩
abbrev S32x128 : Shape := ⟨2, ![32, 128]⟩
abbrev S1024x1024 : Shape := ⟨2, ![1024, 1024]⟩
abbrev S1024x64 : Shape := ⟨2, ![1024, 64]⟩
abbrev S1024x2176 : Shape := ⟨2, ![1024, 2176]⟩
abbrev S1024x512 : Shape := ⟨2, ![1024, 512]⟩
abbrev S1024x8 : Shape := ⟨2, ![1024, 8]⟩
abbrev S1024x120 : Shape := ⟨2, ![1024, 120]⟩
abbrev S1024x1152 : Shape := ⟨2, ![1024, 1152]⟩
abbrev S8x32x512 : Shape := ⟨3, ![8, 32, 512]⟩
abbrev S1x512 : Shape := ⟨2, ![1, 512]⟩
abbrev S1x1024 : Shape := ⟨2, ![1, 1024]⟩
abbrev S8x32x128 : Shape := ⟨3, ![8, 32, 128]⟩
abbrev S1x32x1024 : Shape := ⟨3, ![1, 32, 1024]⟩
abbrev S1x32x512 : Shape := ⟨3, ![1, 32, 512]⟩
abbrev S1x1x256x64 : Shape := ⟨4, ![1, 1, 256, 64]⟩
abbrev S1x1x32x64 : Shape := ⟨4, ![1, 1, 32, 64]⟩
abbrev S1x1x30x512 : Shape := ⟨4, ![1, 1, 30, 512]⟩
abbrev S1x32x128 : Shape := ⟨3, ![1, 32, 128]⟩
abbrev S64x512 : Shape := ⟨2, ![64, 512]⟩
abbrev S7x56x512 : Shape := ⟨3, ![7, 56, 512]⟩
abbrev S32x512 : Shape := ⟨2, ![32, 512]⟩
abbrev S32x1024 : Shape := ⟨2, ![32, 1024]⟩
abbrev S1024x128 : Shape := ⟨2, ![1024, 128]⟩
abbrev S32x1152 : Shape := ⟨2, ![32, 1152]⟩
abbrev S56x512 : Shape := ⟨2, ![56, 512]⟩
abbrev S1x56x512 : Shape := ⟨3, ![1, 56, 512]⟩
abbrev S32x64 : Shape := ⟨2, ![32, 64]⟩
abbrev S30x512 : Shape := ⟨2, ![30, 512]⟩

abbrev nBuf : Space → Nat
  | .hbm => 77
  | .vmem => 37
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x3144, .f32⟩
  | .hbm, ⟨3, _⟩ => ⟨S8x30x512, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S2x8x256x64, .f32⟩
  | .hbm, ⟨9, _⟩ => ⟨S2x8x256x64, .f32⟩
  | .hbm, ⟨10, _⟩ => ⟨S2x8x32x64, .f32⟩
  | .hbm, ⟨11, _⟩ => ⟨S2x8x30x512, .f32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S32x1, .f32⟩
  | .hbm, ⟨34, _⟩ => ⟨S1x32, .f32⟩
  | .hbm, ⟨35, _⟩ => ⟨S32x32, .f32⟩
  | .hbm, ⟨36, _⟩ => ⟨S32x32, .f32⟩
  | .hbm, ⟨37, _⟩ => ⟨S32x32, .f32⟩
  | .hbm, ⟨38, _⟩ => ⟨S32x32, .f32⟩
  | .hbm, ⟨39, _⟩ => ⟨S32x32, .f32⟩
  | .hbm, ⟨40, _⟩ => ⟨S32x128, .f32⟩
  | .hbm, ⟨41, _⟩ => ⟨S32x32, .f32⟩
  | .hbm, ⟨42, _⟩ => ⟨S32x32, .f32⟩
  | .hbm, ⟨43, _⟩ => ⟨S32x128, .f32⟩
  | .hbm, ⟨44, _⟩ => ⟨S32x32, .f32⟩
  | .hbm, ⟨45, _⟩ => ⟨S32x32, .f32⟩
  | .hbm, ⟨46, _⟩ => ⟨S1024x1024, .f32⟩
  | .hbm, ⟨47, _⟩ => ⟨S1024x1024, .f32⟩
  | .hbm, ⟨48, _⟩ => ⟨S1024x64, .f32⟩
  | .hbm, ⟨49, _⟩ => ⟨S_, .f32⟩
  | .hbm, ⟨50, _⟩ => ⟨S1024x64, .f32⟩
  | .hbm, ⟨51, _⟩ => ⟨S1024x2176, .f32⟩
  | .hbm, ⟨52, _⟩ => ⟨S1024x2176, .bf16⟩
  | .hbm, ⟨53, _⟩ => ⟨S1024x512, .f32⟩
  | .hbm, ⟨54, _⟩ => ⟨S1024x512, .f32⟩
  | .hbm, ⟨55, _⟩ => ⟨S1024x8, .f32⟩
  | .hbm, ⟨56, _⟩ => ⟨S_, .f32⟩
  | .hbm, ⟨57, _⟩ => ⟨S1024x120, .f32⟩
  | .hbm, ⟨58, _⟩ => ⟨S1024x1152, .f32⟩
  | .hbm, ⟨59, _⟩ => ⟨S1024x1152, .bf16⟩
  | .hbm, ⟨60, _⟩ => ⟨S_, .i32⟩
  | .hbm, ⟨61, _⟩ => ⟨S_, .f32⟩
  | .hbm, ⟨62, _⟩ => ⟨S8x32x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x1024, .f32⟩
  | .hbm, ⟨67, _⟩ => ⟨S2x8x256x64, .f32⟩
  | .hbm, ⟨68, _⟩ => ⟨S2x8x256x64, .f32⟩
  | .hbm, ⟨69, _⟩ => ⟨S2x8x32x64, .f32⟩
  | .hbm, ⟨70, _⟩ => ⟨S2x8x30x512, .f32⟩
  | .hbm, ⟨71, _⟩ => ⟨S8x32x512, .bf16⟩
  | .hbm, ⟨72, _⟩ => ⟨S8x32x512, .f32⟩
  | .hbm, ⟨73, _⟩ => ⟨S8x32x512, .f32⟩
  | .hbm, ⟨74, _⟩ => ⟨S8x32x512, .f32⟩
  | .hbm, ⟨75, _⟩ => ⟨S8x32x512, .f32⟩
  | .hbm, ⟨76, _⟩ => ⟨S8x32x128, .f32⟩
  | .local _ .vmem, ⟨0, _⟩ => ⟨S1x32x1024, .f32⟩
  | .local _ .vmem, ⟨1, _⟩ => ⟨S1x32x1024, .f32⟩
  | .local _ .vmem, ⟨2, _⟩ => ⟨S1x1024, .f32⟩
  | .local _ .vmem, ⟨3, _⟩ => ⟨S1024x2176, .bf16⟩
  | .local _ .vmem, ⟨4, _⟩ => ⟨S1024x1152, .bf16⟩
  | .local _ .vmem, ⟨5, _⟩ => ⟨S32x128, .f32⟩
  | .local _ .vmem, ⟨6, _⟩ => ⟨S32x128, .f32⟩
  | .local _ .vmem, ⟨7, _⟩ => ⟨S32x32, .f32⟩
  | .local _ .vmem, ⟨8, _⟩ => ⟨S32x32, .f32⟩
  | .local _ .vmem, ⟨9, _⟩ => ⟨S1x32x512, .f32⟩
  | .local _ .vmem, ⟨10, _⟩ => ⟨S1x32x512, .f32⟩
  | .local _ .vmem, ⟨11, _⟩ => ⟨S31x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x1x256x64, .f32⟩
  | .local _ .vmem, ⟨16, _⟩ => ⟨S1x1x256x64, .f32⟩
  | .local _ .vmem, ⟨17, _⟩ => ⟨S1x1x256x64, .f32⟩
  | .local _ .vmem, ⟨18, _⟩ => ⟨S1x1x256x64, .f32⟩
  | .local _ .vmem, ⟨19, _⟩ => ⟨S1x1x32x64, .f32⟩
  | .local _ .vmem, ⟨20, _⟩ => ⟨S1x1x32x64, .f32⟩
  | .local _ .vmem, ⟨21, _⟩ => ⟨S1x1x30x512, .f32⟩
  | .local _ .vmem, ⟨22, _⟩ => ⟨S1x1x30x512, .f32⟩
  | .local _ .vmem, ⟨23, _⟩ => ⟨S1x32x512, .bf16⟩
  | .local _ .vmem, ⟨24, _⟩ => ⟨S1x32x512, .bf16⟩
  | .local _ .vmem, ⟨25, _⟩ => ⟨S1x32x512, .f32⟩
  | .local _ .vmem, ⟨26, _⟩ => ⟨S1x32x512, .f32⟩
  | .local _ .vmem, ⟨27, _⟩ => ⟨S1x32x512, .f32⟩
  | .local _ .vmem, ⟨28, _⟩ => ⟨S1x32x512, .f32⟩
  | .local _ .vmem, ⟨29, _⟩ => ⟨S1x32x512, .f32⟩
  | .local _ .vmem, ⟨30, _⟩ => ⟨S1x32x512, .f32⟩
  | .local _ .vmem, ⟨31, _⟩ => ⟨S1x32x512, .f32⟩
  | .local _ .vmem, ⟨32, _⟩ => ⟨S1x32x512, .f32⟩
  | .local _ .vmem, ⟨33, _⟩ => ⟨S1x32x128, .f32⟩
  | .local _ .vmem, ⟨34, _⟩ => ⟨S1x32x128, .f32⟩
  | .local _ .vmem, ⟨35, _⟩ => ⟨S64x512, .f32⟩
  | .local _ .vmem, ⟨36, _⟩ => ⟨S7x56x512, .f32⟩
  | _, _ => ⟨S8x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_cst_3 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_6 : Ref sig .tc := ⟨.hbm, 60, rfl⟩
abbrev main_call0_v0 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45_0 : Ref sig .tc := ⟨.hbm, 67, rfl⟩
abbrev main_v45_1 : Ref sig .tc := ⟨.hbm, 68, rfl⟩
abbrev main_v45_2 : Ref sig .tc := ⟨.hbm, 69, rfl⟩
abbrev main_v45_3 : Ref sig .tc := ⟨.hbm, 70, rfl⟩
abbrev main_v45_4 : Ref sig .tc := ⟨.hbm, 71, rfl⟩
abbrev main_v45_5 : Ref sig .tc := ⟨.hbm, 72, rfl⟩
abbrev main_v45_6 : Ref sig .tc := ⟨.hbm, 73, rfl⟩
abbrev main_v45_7 : Ref sig .tc := ⟨.hbm, 74, rfl⟩
abbrev main_v45_8 : Ref sig .tc := ⟨.hbm, 75, rfl⟩
abbrev main_v45_9 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_scratch0 : Ref sig .tc := ⟨.vmem, 35, rfl⟩
abbrev cc0_scratch1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34

abbrev nD : Nat := 1
abbrev τ : Topo := Topo.v7x

variable {F : FTy → Type} [FloatOps F]

abbrev grid0 : Pipeline.Grid := ⟨2, ![8, 1], ![false, false]⟩

def k0_cond3 (i : grid0.Coords) : BitVec 1 :=
  let arg1 : BitVec 32 := BitVec.ofNat 32 (i 1).val
  let c0_i32_252 : BitVec 32 := 0#32
  let v435 : BitVec 1 := Scalar.cmpi .eq arg1 c0_i32_252
  let v436 : BitVec 32 := Scalar.extui v435
  let c0_i32_253 : BitVec 32 := 0#32
  let v437 : BitVec 1 := Scalar.cmpi .ne v436 c0_i32_253
  v437

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_18 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_19 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_20 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2176 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1152 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 1 → Memref sig .tc .vmem S32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S31x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1x256x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x256x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x32x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x30x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x32x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x32x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x32x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x32x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== InRefIdeal.lean ====
abbrev S8x32x1024 : Shape := ⟨3, ![8, 32, 1024]⟩
abbrev S1024 : Shape := ⟨1, ![1024]⟩
abbrev S1024x3144 : Shape := ⟨2, ![1024, 3144]⟩
abbrev S8x30x512 : Shape := ⟨3, ![8, 30, 512]⟩
abbrev S31x512 : Shape := ⟨2, ![31, 512]⟩
abbrev S512 : Shape := ⟨1, ![512]⟩
abbrev S2x8x256x64 : Shape := ⟨4, ![2, 8, 256, 64]⟩
abbrev S2x8x32x64 : Shape := ⟨4, ![2, 8, 32, 64]⟩
abbrev S2x8x30x512 : Shape := ⟨4, ![2, 8, 30, 512]⟩
abbrev S_ : Shape := ⟨0, ![]⟩
abbrev S8x32 : Shape := ⟨2, ![8, 32]⟩
abbrev S8x32x1 : Shape := ⟨3, ![8, 32, 1]⟩
abbrev S1x1x1024 : Shape := ⟨3, ![1, 1, 1024]⟩
abbrev S8x32x3144 : Shape := ⟨3, ![8, 32, 3144]⟩
abbrev S8x32x512 : Shape := ⟨3, ![8, 32, 512]⟩
abbrev S1x8x256x64 : Shape := ⟨4, ![1, 8, 256, 64]⟩

abbrev nBuf : Space → Nat
  | .hbm => 33
  | .vmem => 0
  | .smem => 0
  | _ => 0

abbrev bufTy : (tb : Table) → Fin (tcTables nBuf tb) → BufTy
  | .hbm, ⟨0, _⟩ => ⟨S8x32x1024, .f32⟩
  | .hbm, ⟨1, _⟩ => ⟨S1024, .f32⟩
  | .hbm, ⟨2, _⟩ => ⟨S1024x3144, .f32⟩
  | .hbm, ⟨3, _⟩ => ⟨S8x30x512, .f32⟩
  | .hbm, ⟨4, _⟩ => ⟨S31x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S2x8x256x64, .f32⟩
  | .hbm, ⟨9, _⟩ => ⟨S2x8x256x64, .f32⟩
  | .hbm, ⟨10, _⟩ => ⟨S2x8x32x64, .f32⟩
  | .hbm, ⟨11, _⟩ => ⟨S2x8x30x512, .f32⟩
  | .hbm, ⟨12, _⟩ => ⟨S8x32x1024, .f32⟩
  | .hbm, ⟨13, _⟩ => ⟨S_, .f32⟩
  | .hbm, ⟨14, _⟩ => ⟨S8x32, .f32⟩
  | .hbm, ⟨15, _⟩ => ⟨S8x32x1, .f32⟩
  | .hbm, ⟨16, _⟩ => ⟨S_, .f32⟩
  | .hbm, ⟨17, _⟩ => ⟨S8x32x1, .f32⟩
  | .hbm, ⟨18, _⟩ => ⟨S8x32x1, .f32⟩
  | .hbm, ⟨19, _⟩ => ⟨S_, .f32⟩
  | .hbm, ⟨20, _⟩ => ⟨S8x32x1, .f32⟩
  | .hbm, ⟨21, _⟩ => ⟨S8x32x1, .f32⟩
  | .hbm, ⟨22, _⟩ => ⟨S8x32x1, .f32⟩
  | .hbm, ⟨23, _⟩ => ⟨S8x32x1024, .f32⟩
  | .hbm, ⟨24, _⟩ => ⟨S8x32x1024, .f32⟩
  | .hbm, ⟨25, _⟩ => ⟨S1x1x1024, .f32⟩
  | .hbm, ⟨26, _⟩ => ⟨S8x32x1024, .f32⟩
  | .hbm, ⟨27, _⟩ => ⟨S8x32x1024, .f32⟩
  | .hbm, ⟨28, _⟩ => ⟨S8x32x3144, .f32⟩
  | .hbm, ⟨29, _⟩ => ⟨S8x32x512, .f32⟩
  | .hbm, ⟨30, _⟩ => ⟨S1x8x256x64, .f32⟩
  | .hbm, ⟨31, _⟩ => ⟨S1x8x256x64, .f32⟩
  | .hbm, ⟨32, _⟩ => ⟨S2x8x256x64, .f32⟩
  | _, _ => ⟨S8x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Proof.Rows.lean ====
/- The feed-forward part on one row of the activations, over the extended reals, and the vector operations of the
   kernels that compute it for a block of rows, read at an index. -/
module

public import Idealize.ShloMosaic.PureOps
public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value

@[expose] public section

noncomputable section

namespace Cert.Proof.Rows

open Idealize.ShloMosaic Idealize.ShloMosaic.ValueIdx
open scoped BigOperators

/-- A row of the activations. -/
abbrev Row := Fin 1024 → EReal

/-- The reciprocal root of the row's mean square. -/
def inv (x : Row) : EReal :=
  Ideal.rsqrt (Ideal.div (∑ k, x k * x k) (Ideal.ofBits .f32 0x44800000#32) + Ideal.ofBits .f32 0x358637BD#32)

/-- The row normed by its root mean square, times the gain. -/
def rms (x g : Row) : Row := fun j => x j * inv x * g j

/-- The row times a column of the up matrix. -/
def hid (x : Row) (wu : Fin 1024 → Fin 5632 → EReal) (c : Fin 5632) : EReal := ∑ k, x k * wu k c

/-- The gated hidden value: the first half of the columns gates the second. -/
def act (x : Row) (wu : Fin 1024 → Fin 5632 → EReal) (f : Fin 2816) : EReal :=
  hid x wu ⟨f.val, by omega⟩ * Ideal.logistic (hid x wu ⟨f.val, by omega⟩) * hid x wu ⟨2816 + f.val, by omega⟩

/-- The hidden values times the down matrix. -/
def down (a : Fin 2816 → EReal) (wd : Fin 2816 → Fin 1024 → EReal) : Row := fun j => ∑ f, a f * wd f j

/-- The row plus half of its feed-forward part, normed on both sides. -/
def half (x g1 g2 : Row) (wu : Fin 1024 → Fin 5632 → EReal) (wd : Fin 2816 → Fin 1024 → EReal) : Row :=
  fun j => x j + Ideal.ofBits .f32 0x3F000000#32 * rms (down (act (rms x g1) wu) wd) g2 j

/-- The row of convolution values and the row of attention values, each times its part of the output matrix. -/
def proj (c a : Fin 512 → EReal) (wc wa : Fin 512 → Fin 1024 → EReal) : Row := fun j => (∑ k, c k * wc k j) + ∑ k, a k * wa k j

/-- The row plus its projected part, normed. -/
def mix (x : Row) (c a : Fin 512 → EReal) (wc wa : Fin 512 → Fin 1024 → EReal) (g : Row) : Row := fun j => x j + rms (proj c a wc wa) g j

theorem mix_congr {x y g h : Row} {c d a b : Fin 512 → EReal} {wc vc wa va : Fin 512 → Fin 1024 → EReal}
    (hx : ∀ k, x k = y k) (hc : ∀ k, c k = d k) (ha : ∀ k, a k = b k) (hwc : ∀ k j, wc k j = vc k j) (hwa : ∀ k j, wa k j = va k j)
    (hg : ∀ k, g k = h k) (j : Fin 1024) : mix x c a wc wa g j = mix y d b vc va h j := by
  rw [show x = y from funext hx, show c = d from funext hc, show a = b from funext ha, show wc = vc from funext fun k => funext (hwc k),
    show wa = va from funext fun k => funext (hwa k), show g = h from funext hg]

theorem half_congr {x y g1 h1 g2 h2 : Row} {wu vu : Fin 1024 → Fin 5632 → EReal} {wd vd : Fin 2816 → Fin 1024 → EReal}
    (hx : ∀ k, x k = y k) (hg1 : ∀ k, g1 k = h1 k) (hg2 : ∀ k, g2 k = h2 k) (hu : ∀ k c, wu k c = vu k c) (hd : ∀ f j, wd f j = vd f j) (j : Fin 1024) :
    half x g1 g2 wu wd j = half y h1 h2 vu vd j := by
  rw [show x = y from funext hx, show g1 = h1 from funext hg1, show g2 = h2 from funext hg2, show wu = vu from funext fun k => funext (hu k),
    show wd = vd from funext fun k => funext (hd k)]

/-! ## Vector operations at an index -/

/-- A shape cast to the same shape changes nothing. -/
theorem cast_self {α : Type} {s : Shape} (v : s.Idx → α) (h : s.ShapeCasts s) : shapeCast s v h = v :=
  funext fun i => shapeCast_apply v h i i rfl

/-- One column broadcast over many. -/
theorem broadcastTo_a1_ab_apply {α : Type} {a b : ℕ} (hb : b ≠ 1) (v : (⟨2, ![a, 1]⟩ : Shape).Idx → α)
    (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => show p.val = if a = 1 then 0 else p.val; split <;> omega
  | ⟨1, _⟩ => rfl

/-- The kernels' reciprocal root of the mean square, read at an index. -/
theorem inv_apply {M : ℕ} (x : FVec Ideal ⟨2, ![M, 1024]⟩ .f32)
    (h1 : (⟨2, ![M, 1024]⟩ : Shape).Reduces [1] ⟨1, ![M]⟩) (hφ : FKind.Formats .f32) (hacc)
    (h2 : (⟨1, ![M]⟩ : Shape).ShapeCasts ⟨2, ![M, 1]⟩) (h3 : (⟨2, ![M, 1]⟩ : Shape).Broadcasts ⟨2, ![M, 1024]⟩)
    (i : Fin M) (j : Fin 1024) :
    broadcastTo ⟨2, ![M, 1024]⟩ (rsqrt (addf (divf (shapeCast ⟨2, ![M, 1]⟩
        (multiReduction .add [1] ⟨1, ![M]⟩ (mulf x x) 0x00000000#32 h1 hφ hacc) h2)
        (broadcast ⟨2, ![M, 1]⟩ (Scalar.ofBits (F := Ideal) .f32 0x44800000#32)))
        (broadcast ⟨2, ![M, 1]⟩ (Scalar.ofBits (F := Ideal) .f32 0x358637BD#32)))) h3 (ix2 i j)
      = inv (fun k => x (ix2 i k)) := by
  rw [broadcastTo_a1_ab_apply (by decide) _ h3]
  show Ideal.rsqrt (Ideal.div (shapeCast ⟨2, ![M, 1]⟩ _ h2 (ix2 i 0)) _ + _) = _
  rw [shapeCast_a_a1_apply, Ideal.multiReduction_add_single]
  unfold inv
  refine congrArg (fun s => Ideal.rsqrt (Ideal.div s _ + _)) (Finset.sum_congr rfl fun k _ => ?_)
  have e : h1.lift (ix1 i) k = ix2 i k := by
    funext a; apply Fin.ext
    match a with
    | ⟨0, _⟩ => rfl
    | ⟨1, _⟩ => rfl
  rw [e]; rfl

/-- The printed product of an `[M,K]` and a `[K,N]` block into zero, read at an index. -/
theorem dot_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (i : Fin M) (j : Fin N) :
    matmul d none a b (constant ⟨2, ![M, N]⟩ .f32 0x00000000#32) (ix2 i j) = ∑ k : Fin K, a (ix2 i k) * b (ix2 k j) := by
  subst hd
  refine (Ideal.matmul_plain_apply none a b _ i j).trans ?_
  rw [constant_apply, Ideal.ofBits_zero_f32, zero_add]

/-- What one chunk of the hidden columns adds. -/
theorem chunk_apply {M n : ℕ} (d1 : DotDims ⟨2, ![M, 1024]⟩ ⟨2, ![1024, n]⟩ ⟨2, ![M, n]⟩) (hd1 : d1 = DotDims.plain M 1024 n)
    (d2 : DotDims ⟨2, ![M, n]⟩ ⟨2, ![n, 1024]⟩ ⟨2, ![M, 1024]⟩) (hd2 : d2 = DotDims.plain M n 1024)
    (x : FVec Ideal ⟨2, ![M, 1024]⟩ .bf16) (wg wu : FVec Ideal ⟨2, ![1024, n]⟩ .bf16) (wd : FVec Ideal ⟨2, ![n, 1024]⟩ .bf16)
    (hb : FTy.bits .bf16 < FTy.bits .f32) (i : Fin M) (j : Fin 1024) :
    matmul d2 none (truncf .bf16 (mulf (mulf (matmul d1 none x wg (constant ⟨2, ![M, n]⟩ .f32 0x00000000#32))
        (logistic (matmul d1 none x wg (constant ⟨2, ![M, n]⟩ .f32 0x00000000#32))))
        (matmul d1 none x wu (constant ⟨2, ![M, n]⟩ .f32 0x00000000#32))) hb) wd
        (constant ⟨2, ![M, 1024]⟩ .f32 0x00000000#32) (ix2 i j)
      = ∑ f : Fin n, (∑ k, x (ix2 i k) * wg (ix2 k f)) * Ideal.logistic (∑ k, x (ix2 i k) * wg (ix2 k f))
          * (∑ k, x (ix2 i k) * wu (ix2 k f)) * wd (ix2 f j) := by
  rw [dot_apply d2 hd2]
  refine Finset.sum_congr rfl fun f _ => ?_
  rw [← dot_apply d1 hd1 x wg i f, ← dot_apply d1 hd1 x wu i f]
  rfl

/-- The hidden columns in their six chunks. -/
theorem sum_chunks (F : Fin 2816 → EReal) :
    ∑ f, F f = (∑ f : Fin 512, F ⟨0 + f.val, by omega⟩) + (∑ f : Fin 512, F ⟨512 + f.val, by omega⟩)
      + (∑ f : Fin 512, F ⟨1024 + f.val, by omega⟩) + (∑ f : Fin 512, F ⟨1536 + f.val, by omega⟩)
      + (∑ f : Fin 512, F ⟨2048 + f.val, by omega⟩) + (∑ f : Fin 256, F ⟨2560 + f.val, by omega⟩) := by
  have e5 := Fin.sum_univ_add (a := 2560) (b := 256) F
  have e4 := Fin.sum_univ_add (a := 2048) (b := 512) fun f => F (Fin.castAdd 256 f)
  have e3 := Fin.sum_univ_add (a := 1536) (b := 512) fun f => F (Fin.castAdd 256 (Fin.castAdd 512 f))
  have e2 := Fin.sum_univ_add (a := 1024) (b := 512) fun f => F (Fin.castAdd 256 (Fin.castAdd 512 (Fin.castAdd 512 f)))
  have e1 := Fin.sum_univ_add (a := 512) (b := 512) fun f =>
    F (Fin.castAdd 256 (Fin.castAdd 512 (Fin.castAdd 512 (Fin.castAdd 512 f))))
  refine e5.trans ?_
  refine congrArg₂ (· + ·) (e4.trans (congrArg₂ (· + ·) (e3.trans (congrArg₂ (· + ·) (e2.trans (congrArg₂ (· + ·)
    (e1.trans (congrArg₂ (· + ·) ?_ rfl)) rfl)) rfl)) rfl)) rfl
  exact Finset.sum_congr rfl fun f _ => congrArg F (Fin.ext (Nat.zero_add _).symm)

/-- A chunk of the hidden columns at an offset, its blocks cut out of the two matrices. -/
theorem chunk_act {M n off : ℕ} (hoff : off + n ≤ 2816) (d1 : DotDims ⟨2, ![M, 1024]⟩ ⟨2, ![1024, n]⟩ ⟨2, ![M, n]⟩)
    (hd1 : d1 = DotDims.plain M 1024 n)
    (d2 : DotDims ⟨2, ![M, n]⟩ ⟨2, ![n, 1024]⟩ ⟨2, ![M, 1024]⟩) (hd2 : d2 = DotDims.plain M n 1024)
    (x : FVec Ideal ⟨2, ![M, 1024]⟩ .bf16) (wg wu : FVec Ideal ⟨2, ![1024, n]⟩ .bf16) (wd : FVec Ideal ⟨2, ![n, 1024]⟩ .bf16)
    (hb : FTy.bits .bf16 < FTy.bits .f32) (i : Fin M) (j : Fin 1024)
    (y : Row) (Wu : Fin 1024 → Fin 5632 → EReal) (Wd : Fin 2816 → Fin 1024 → EReal)
    (hx : ∀ k, x (ix2 i k) = y k) (hg : ∀ k (f : Fin n), wg (ix2 k f) = Wu k ⟨off + f.val, by omega⟩)
    (hu : ∀ k (f : Fin n), wu (ix2 k f) = Wu k ⟨2816 + (off + f.val), by omega⟩)
    (hw : ∀ (f : Fin n), wd (ix2 f j) = Wd ⟨off + f.val, by omega⟩ j) :
    matmul d2 none (truncf .bf16 (mulf (mulf (matmul d1 none x wg (constant ⟨2, ![M, n]⟩ .f32 0x00000000#32))
        (logistic (matmul d1 none x wg (constant ⟨2, ![M, n]⟩ .f32 0x00000000#32))))
        (matmul d1 none x wu (constant ⟨2, ![M, n]⟩ .f32 0x00000000#32))) hb) wd
        (constant ⟨2, ![M, 1024]⟩ .f32 0x00000000#32) (ix2 i j)
      = ∑ f : Fin n, act y Wu ⟨off + f.val, by omega⟩ * Wd ⟨off + f.val, by omega⟩ j := by
  rw [chunk_apply d1 hd1 d2 hd2]
  refine Finset.sum_congr rfl fun f _ => ?_
  simp only [hx, hg, hu, hw]
  rfl

end Cert.Proof.Rows

end
-- ==== Proof.FfnBlock.lean ====
/- One grid point of the first feed-forward call: the block it leaves is `Rows.half` of its rows. -/
module

public import proofs.«01_k».proof.Proof.Gen.FfnIdeal.Value
public import proofs.«01_k».proof.Proof.Rows

@[expose] public section

noncomputable section

namespace Cert.Proof.FfnBlock

open Cert.FfnIdeal Cert.FfnIdeal.Gen Idealize.ShloMosaic Idealize.ShloMosaic.ValueIdx
open Cert.Proof.Rows
open scoped BigOperators

theorem d1 : dot_S512x1024_S1024x512_S512x512_1_0_0_1_n_n = DotDims.plain 512 1024 512 := rfl
theorem d2 : dot_S512x512_S512x1024_S512x1024_1_0_0_1_n_n = DotDims.plain 512 512 1024 := rfl
theorem d3 : dot_S512x1024_S1024x256_S512x256_1_0_0_1_n_n = DotDims.plain 512 1024 256 := rfl
theorem d4 : dot_S512x256_S256x1024_S512x1024_1_0_0_1_n_n = DotDims.plain 512 256 1024 := rfl

variable (x0 : Vec Ideal S512x1024 .f32) (x1 x2 : Vec Ideal S1x1024 .f32) (x3 : Vec Ideal S1024x5632 .bf16)
  (x4 : Vec Ideal S2816x1024 .bf16)

/-- The block's rows, normed. -/
theorem pay4_apply (i : Fin 512) (j : Fin 1024) :
    k0_pay4 (F := Ideal) x0 x1 (ix2 i j) = rms (fun k => x0 (ix2 i k)) (fun k => x1 (ix2 (0 : Fin 1) k)) j := by
  unfold k0_pay4 k0_pay2
  dsimp only
  rw [cast_self, cast_self, truncf_apply, mulf_apply, mulf_apply]
  exact congrArg₂ (· * ·) (congrArg (x0 (ix2 i j) * ·) (inv_apply x0 _ _ _ _ _ i j)) (broadcastTo_1b_ab_apply x1 _ i j)

/-- The loads. -/
theorem ld_x0 (x : Vec Ideal S512x1024 .f32) : View.ld x r0_0 = x := View.ld_unit_zero (S := S512x1024) (by funext a; match a with | ⟨0, _⟩ => rfl | ⟨1, _⟩ => rfl) _ x
theorem ld_x1 (x : Vec Ideal S1x1024 .f32) : View.ld x r0_1 = x := View.ld_unit_zero (S := S1x1024) (by funext a; match a with | ⟨0, _⟩ => rfl | ⟨1, _⟩ => rfl) _ x

theorem ld_up {n off : ℕ} (inb : ∀ a, (![0, off] : Fin 2 → ℕ) a + (![1024, n] : Fin 2 → ℕ) a ≤ S1024x5632.size a) (o : ℕ) (ho : o + n ≤ 5632)
    (h : off = o) (k : Fin 1024) (f : Fin n) :
    View.ld x3 (Rect.unit (s := S1024x5632) ![0, off] ![1024, n] inb) (ix2 k f) = x3 (ix2 k ⟨o + f.val, by omega⟩) := by
  subst h
  refine congrArg x3 (funext fun a => Fin.ext ?_)
  match a with
  | ⟨0, _⟩ => show 0 + 1 * k.val = k.val; omega
  | ⟨1, _⟩ => show off + 1 * f.val = off + f.val; omega

theorem ld_down {n off : ℕ} (inb : ∀ a, (![off, 0] : Fin 2 → ℕ) a + (![n, 1024] : Fin 2 → ℕ) a ≤ S2816x1024.size a) (ho : off + n ≤ 2816)
    (f : Fin n) (j : Fin 1024) :
    View.ld x4 (Rect.unit (s := S2816x1024) ![off, 0] ![n, 1024] inb) (ix2 f j) = x4 (ix2 ⟨off + f.val, by omega⟩ j) := by
  refine congrArg x4 (funext fun a => Fin.ext ?_)
  match a with
  | ⟨0, _⟩ => show off + 1 * f.val = off + f.val; omega
  | ⟨1, _⟩ => show 0 + 1 * j.val = j.val; omega

/-- The running sum over the six chunks. -/
def acc : FVec Ideal S512x1024 .f32 :=
  let ch (n : ℕ) (d1 : DotDims ⟨2, ![512, 1024]⟩ ⟨2, ![1024, n]⟩ ⟨2, ![512, n]⟩) (d2 : DotDims ⟨2, ![512, n]⟩ ⟨2, ![n, 1024]⟩ ⟨2, ![512, 1024]⟩)
      (wg wu : FVec Ideal ⟨2, ![1024, n]⟩ .bf16) (wd : FVec Ideal ⟨2, ![n, 1024]⟩ .bf16) : FVec Ideal S512x1024 .f32 :=
    matmul d2 none (truncf .bf16 (mulf (mulf (matmul d1 none (k0_pay4 x0 x1) wg (constant ⟨2, ![512, n]⟩ .f32 0x00000000#32))
        (logistic (matmul d1 none (k0_pay4 x0 x1) wg (constant ⟨2, ![512, n]⟩ .f32 0x00000000#32))))
        (matmul d1 none (k0_pay4 x0 x1) wu (constant ⟨2, ![512, n]⟩ .f32 0x00000000#32))) bitsLt_bf16_f32) wd
        (constant ⟨2, ![512, 1024]⟩ .f32 0x00000000#32)
  let c512 := ch 512 dot_S512x1024_S1024x512_S512x512_1_0_0_1_n_n dot_S512x512_S512x1024_S512x1024_1_0_0_1_n_n
  addf (addf (addf (addf (addf
    (c512 (View.ld x3 r0_2) (View.ld x3 r0_3) (View.ld x4 r0_4))
    (c512 (View.ld x3 r0_5) (View.ld x3 r0_6) (View.ld x4 r0_7)))
    (c512 (View.ld x3 r0_8) (View.ld x3 r0_9) (View.ld x4 r0_10)))
    (c512 (View.ld x3 r0_11) (View.ld x3 r0_12) (View.ld x4 r0_13)))
    (c512 (View.ld x3 r0_14) (View.ld x3 r0_15) (View.ld x4 r0_16)))
    (ch 256 dot_S512x1024_S1024x256_S512x256_1_0_0_1_n_n dot_S512x256_S256x1024_S512x1024_1_0_0_1_n_n
      (View.ld x3 r0_17) (View.ld x3 r0_18) (View.ld x4 r0_19))

theorem acc_apply (i : Fin 512) (j : Fin 1024) :
    acc x0 x1 x3 x4 (ix2 i j) = down (act (rms (fun k => x0 (ix2 i k)) (fun k => x1 (ix2 (0 : Fin 1) k)))
      (fun k c => x3 (ix2 k c))) (fun f j => x4 (ix2 f j)) j := by
  unfold acc down
  rw [sum_chunks]
  dsimp only
  simp only [addf_apply]
  refine congrArg₂ (· + ·) (congrArg₂ (· + ·) (congrArg₂ (· + ·) (congrArg₂ (· + ·) (congrArg₂ (· + ·) ?_ ?_) ?_) ?_) ?_) ?_
  · exact chunk_act (by decide) _ d1 _ d2 _ _ _ _ _ i j _ (fun k c => x3 (ix2 k c)) (fun f j => x4 (ix2 f j)) (pay4_apply x0 x1 i)
      (fun k f => ld_up x3 _ 0 (by decide) rfl k f)
      (fun k f => (ld_up x3 _ 2816 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 512 (by decide) rfl k f)
      (fun k f => (ld_up x3 _ 3328 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 1024 (by decide) rfl k f)
      (fun k f => (ld_up x3 _ 3840 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 1536 (by decide) rfl k f)
      (fun k f => (ld_up x3 _ 4352 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 2048 (by decide) rfl k f)
      (fun k f => (ld_up x3 _ 4864 (by decide) rfl k f).trans (congrArg (fun c => x3 (ix2 k c)) (Fin.ext (by show _ = _; dsimp only; omega))))
      (fun f => ld_down x4 _ (by decide) f j)
  · exact chunk_act (by decide) _ d3 _ d4 _ _ _ _ _ i j _ (fun k c => x3 (ix2 k c)) (fun f j => x4 (ix2 f j)) (pay4_apply x0 x1 i)
      (fun k f => ld_up x3 _ 2560 (by decide) rfl k f)
      (fun k f => (ld_up x3 _ 5376 (by decide) rfl k f).trans (congrArg (fun c => x3 (ix2 k c)) (Fin.ext (by show _ = _; dsimp only; omega))))
      (fun f => ld_down x4 _ (by decide) f j)

/-- The block the body leaves, read at an index. -/
theorem out_apply (i : Fin 512) (j : Fin 1024) :
    out0_5 (F := Ideal) x0 x1 x2 x3 x4 (ix2 i j)
      = half (fun k => x0 (ix2 i k)) (fun k => x1 (ix2 (0 : Fin 1) k)) (fun k => x2 (ix2 (0 : Fin 1) k))
          (fun k c => x3 (ix2 k c)) (fun f j => x4 (ix2 f j)) j := by
  unfold out0_5 k0_pay10
  rw [View.canon_unit_zero (S := S512x1024) (by funext a; match a with | ⟨0, _⟩ => rfl | ⟨1, _⟩ => rfl)]
  simp only [ld_x0, ld_x1]
  have h : k0_pay1 (F := Ideal) (k0_pay2 x0) (k0_pay8 (k0_pay4 x0 x1) (k0_pay7 (k0_pay4 x0 x1) (k0_pay5 x0 x1 (View.ld x3 r0_2) (View.ld x3 r0_3) (View.ld x4 r0_4)) (k0_pay6 x0 x1 (View.ld x3 r0_5)) (View.ld x3 r0_6) (View.ld x4 r0_7) (View.ld x3 r0_8) (View.ld x3 r0_9) (View.ld x4 r0_10) (View.ld x3 r0_11) (View.ld x3 r0_12) (View.ld x4 r0_13)) (View.ld x3 r0_14) (View.ld x3 r0_15) (View.ld x4 r0_16) (View.ld x3 r0_17) (View.ld x3 r0_18) (View.ld x4 r0_19)) (k0_pay9 (k0_pay3 x2))
      = addf x0 (mulf (broadcast S512x1024 (Scalar.ofBits .f32 0x3F000000#32)) (mulf (mulf (acc x0 x1 x3 x4)
          (broadcastTo S512x1024 (rsqrt (addf (divf (shapeCast S512x1
        (multiReduction .add [1] S512 (mulf (acc x0 x1 x3 x4) (acc x0 x1 x3 x4)) 0x00000000#32 reduces_S512x1024_S512 (.inl rfl) rfl) shapeCasts_S512_S512x1)
        (broadcast S512x1 (Scalar.ofBits .f32 0x44800000#32)))
        (broadcast S512x1 (Scalar.ofBits .f32 0x358637BD#32)))) broadcasts_S512x1_S512x1024)) (broadcastTo S512x1024 x2 broadcasts_S1x1024_S512x1024))) := by
    unfold k0_pay1 k0_pay2 k0_pay3 k0_pay5 k0_pay6 k0_pay7 k0_pay8 k0_pay9 acc
    dsimp only
    simp only [cast_self]
  rw [h, addf_apply, mulf_apply, mulf_apply, mulf_apply]
  refine (congrArg (fun z => x0 (ix2 i j) + Ideal.ofBits .f32 0x3F000000#32 * z) (congrArg₂ (· * ·)
    (congrArg (acc x0 x1 x3 x4 (ix2 i j) * ·) (inv_apply (acc x0 x1 x3 x4) _ _ _ _ _ i j)) (broadcastTo_1b_ab_apply x2 _ i j))).trans ?_
  simp only [acc_apply]
  rfl

end Cert.Proof.FfnBlock

end
-- ==== Proof.FfnValue.lean ====
/- The array the first feed-forward call leaves, as one function of the arguments, and the call's run with it. -/
module

public import proofs.«01_k».proof.Proof.FfnBlock

@[expose] public section

noncomputable section

namespace Cert.Proof.FfnValue

open Cert.FfnIdeal Cert.FfnIdeal.Gen Cert.FfnIdeal.Value Idealize.ShloMosaic Idealize.ShloMosaic.TcCoe Idealize.SL.Sem
open Idealize.ShloMosaic.ValueIdx Idealize.ShloMosaic.StableHlo
open Cert.Proof.Rows

/-- The result as one function of the arguments, an activation row at a time. -/
def G (x0 : Vec Ideal S16x2048x1024 .f32) (x1 x2 : Vec Ideal S1024 .f32) (x3 : Vec Ideal S1024x5632 .f32) (x4 : Vec Ideal S2816x1024 .f32) :
    Vec Ideal S32768x1024 .f32 := fun i =>
  half (fun k => x0 (ix3 (⟨(i 0).val / 2048, by have h : (i 0).val < 32768 := (i 0).isLt; omega⟩ : Fin 16) (⟨(i 0).val % 2048, by omega⟩ : Fin 2048) k))
    (fun k => x1 (ix1 k)) (fun k => x2 (ix1 k)) (fun k c => x3 (ix2 k c)) (fun f j => x4 (ix2 f j)) ⟨(i 1).val, (i 1).isLt⟩

variable (m : (ℓ : Loc nD τ sig) → Buf (Elt Ideal) ℓ) (ρ : Dev nD → PrngReg)

/-! ## The arrays the host code makes -/

theorem V_v0 (c : Dev nD) (k : Fin 1024) (f : Fin 5632) : V (F := Ideal) m c main_v0 (ix2 k f) = m ((c : Thread nD τ).loc main_arg3) (ix2 k f) := by
  have h : V (F := Ideal) m c main_v0 = truncf (F := Ideal) (s := S1024x5632) (φ := .f32) .bf16 (m ((c : Thread nD τ).loc main_arg3)) bitsLt_bf16_f32 := by
    dsimp only [V, hostOps0]
    after_results
  rw [h]; rfl

theorem V_v1 (c : Dev nD) (k : Fin 2816) (f : Fin 1024) : V (F := Ideal) m c main_v1 (ix2 k f) = m ((c : Thread nD τ).loc main_arg4) (ix2 k f) := by
  have h : V (F := Ideal) m c main_v1 = truncf (F := Ideal) (s := S2816x1024) (φ := .f32) .bf16 (m ((c : Thread nD τ).loc main_arg4)) bitsLt_bf16_f32 := by
    dsimp only [V, hostOps0]
    after_results
  rw [h]; rfl

theorem V_v2 (c : Dev nD) (r : Fin 32768) (j : Fin 1024) : V (F := Ideal) m c main_v2 (ix2 r j)
    = m ((c : Thread nD τ).loc main_arg0) (ix3 (⟨r.val / 2048, by omega⟩ : Fin 16) (⟨r.val % 2048, by omega⟩ : Fin 2048) j) := by
  have h : V (F := Ideal) m c main_v2 = shapeCast S32768x1024 (m ((c : Thread nD τ).loc main_arg0)) shapeCasts_S16x2048x1024_S32768x1024 := by
    dsimp only [V, hostOps0]
    after_results; rfl
  rw [h]
  refine shapeCast_apply (s := S16x2048x1024) _ _ _ _ ?_
  rw [Shape.rowMajor_val_three, Shape.rowMajor_val_two]
  show (r.val / 2048 * 2048 + r.val % 2048) * 1024 + j.val = r.val * 1024 + j.val
  omega

theorem V_v3 (c : Dev nD) (j : Fin 1024) : V (F := Ideal) m c main_v3 (ix2 (0 : Fin 1) j) = m ((c : Thread nD τ).loc main_arg1) (ix1 j) := by
  have h : V (F := Ideal) m c main_v3 = broadcastInDim S1x1024 ![1] bcast_S1024_S1x1024_1 (m ((c : Thread nD τ).loc main_arg1)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v4 (c : Dev nD) (j : Fin 1024) : V (F := Ideal) m c main_v4 (ix2 (0 : Fin 1) j) = m ((c : Thread nD τ).loc main_arg2) (ix1 j) := by
  have h : V (F := Ideal) m c main_v4 = broadcastInDim S1x1024 ![1] bcast_S1024_S1x1024_1 (m ((c : Thread nD τ).loc main_arg2)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

/-! ## The blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem lt_N (t : Fin cfg0.N) : t.val < 64 := t.isLt

theorem blk0 (c : Dev nD) (t : Fin cfg0.N) (i : Fin 512) (j : Fin 1024) :
    (iblk m c 0 t : Vec Ideal S512x1024 .f32) (ix2 i j) = V (F := Ideal) m c main_v2 (ix2 (⟨t.val * 512 + i.val, by have := lt_N t; omega⟩ : Fin 32768) j) := by
  obtain ⟨e0, e1⟩ := idx0 t
  refine congrArg (V (F := Ideal) m c main_v2) (funext fun a => Fin.ext ?_)
  match a with
  | ⟨0, _⟩ => show win0_0.index t (0 : Fin 2) * 512 + 1 * i.val = t.val * 512 + i.val; omega
  | ⟨1, _⟩ => show win0_0.index t (1 : Fin 2) * 1024 + 1 * j.val = j.val; omega

theorem blk1 (c : Dev nD) (t : Fin cfg0.N) (j : Fin 1024) :
    (iblk m c 1 t : Vec Ideal S1x1024 .f32) (ix2 (0 : Fin 1) j) = V (F := Ideal) m c main_v3 (ix2 (0 : Fin 1) j) := by
  obtain ⟨e0, e1⟩ := idx1 t
  refine congrArg (V (F := Ideal) m c main_v3) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

theorem blk2 (c : Dev nD) (t : Fin cfg0.N) (j : Fin 1024) :
    (iblk m c 2 t : Vec Ideal S1x1024 .f32) (ix2 (0 : Fin 1) j) = V (F := Ideal) m c main_v4 (ix2 (0 : Fin 1) j) := by
  obtain ⟨e0, e1⟩ := idx2 t
  refine congrArg (V (F := Ideal) m c main_v4) (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

theorem blk3 (c : Dev nD) (t : Fin cfg0.N) (i : Fin 1024) (j : Fin 5632) :
    (iblk m c 3 t : Vec Ideal S1024x5632 .bf16) (ix2 i j) = V (F := Ideal) m c main_v0 (ix2 i j) := by
  obtain ⟨e0, e1⟩ := idx3 t
  refine congrArg (V (F := Ideal) m c main_v0) (funext fun a => Fin.ext ?_)
  match a with
  | ⟨0, _⟩ => show win0_3.index t (0 : Fin 2) * 1024 + 1 * i.val = i.val; omega
  | ⟨1, _⟩ => show win0_3.index t (1 : Fin 2) * 5632 + 1 * j.val = j.val; omega

theorem blk4 (c : Dev nD) (t : Fin cfg0.N) (i : Fin 2816) (j : Fin 1024) :
    (iblk m c 4 t : Vec Ideal S2816x1024 .bf16) (ix2 i j) = V (F := Ideal) m c main_v1 (ix2 i j) := by
  obtain ⟨e0, e1⟩ := idx4 t
  refine congrArg (V (F := Ideal) m c main_v1) (funext fun a => Fin.ext ?_)
  match a with
  | ⟨0, _⟩ => show win0_4.index t (0 : Fin 2) * 2816 + 1 * i.val = i.val; omega
  | ⟨1, _⟩ => show win0_4.index t (1 : Fin 2) * 1024 + 1 * j.val = j.val; omega

theorem emb5 (t : Fin cfg0.N) (i : Fin 512) (j : Fin 1024) :
    ((cfg0.win 5).blk t).view.emb (ix2 i j) = ix2 (⟨t.val * 512 + i.val, by have := lt_N t; omega⟩ : Fin 32768) j := by
  obtain ⟨e0, e1⟩ := idx5 t
  refine funext fun a => Fin.ext ?_
  match a with
  | ⟨0, _⟩ => show win0_5.index t (0 : Fin 2) * 512 + 1 * i.val = t.val * 512 + i.val; omega
  | ⟨1, _⟩ => show win0_5.index t (1 : Fin 2) * 1024 + 1 * j.val = j.val; omega

/-- The function of the arguments as launched. -/
abbrev Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (Gm m c) := by
  rw [flushed5]
  funext ij
  obtain ⟨i, j, rfl⟩ : ∃ (i : Fin 512) (j : Fin 1024), ij = ix2 i j := ⟨ij 0, ij 1, by funext a; match a with | ⟨0, _⟩ => rfl | ⟨1, _⟩ => rfl⟩
  show out0_5 (F := Ideal) _ _ _ _ _ (ix2 i j) = Gm m c (((cfg0.win 5).blk t).view.emb (ix2 i j))
  rw [FfnBlock.out_apply, emb5]
  exact half_congr (fun k => (blk0 m c t i k).trans (V_v2 m c _ k)) (fun k => (blk1 m c t k).trans (V_v3 m c k)) (fun k => (blk2 m c t k).trans (V_v4 m c k))
    (fun k f => (blk3 m c t k f).trans (V_v0 m c k f)) (fun f k => (blk4 m c t f k).trans (V_v1 m c f k)) j

theorem covered (i : S32768x1024.Idx) : ∃ t : Fin cfg0.N, (cfg0.win 5).flush t = true ∧ i ∈ ((cfg0.win 5).blk t).view.set := by
  have h0 : (i 0).val < 32768 := (i 0).isLt
  let t : Fin cfg0.N := (⟨(i 0).val / 512, by show _ < 64; omega⟩ : Fin grid0.N)
  refine ⟨t, flush0_5 t, ?_⟩
  have h := ((cfg0.win 5).blk t).view.emb_mem_set (ix2 (⟨(i 0).val % 512, by omega⟩ : Fin 512) (⟨(i 1).val, (i 1).isLt⟩ : Fin 1024))
  rw [emb5] at h
  have e : i = ix2 (⟨t.val * 512 + (i 0).val % 512, by have := lt_N t; omega⟩ : Fin 32768) (⟨(i 1).val, (i 1).isLt⟩ : Fin 1024) := by
    funext a
    match a with
    | ⟨0, _⟩ => exact Fin.ext (by show (i 0).val = (i 0).val / 512 * 512 + (i 0).val % 512; omega)
    | ⟨1, _⟩ => rfl
  rw [e]; exact h

theorem final (c : Dev nD) : (dats m 0 c).arrAt 5 cfg0.N = Gm m c :=
  (dats m 0 c).arrAt_eq_of_cover 5 (Gm m c) (fun t _ => flushed_eq m c t) covered

/-- The call's run, its result as the function of the arguments. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Proof.FfnValue

end
-- ==== Proof.FfnRefRows.lean ====
/- The plain feed-forward part, read at an index: `Rows.half` of the row. -/
module

public import proofs.«01_k».proof.Proof.Gen.FfnRefIdeal.Read
public import proofs.«01_k».proof.Proof.Rows
public import Idealize.ShloMosaic.Lib.IdealHost

@[expose] public section

noncomputable section

namespace Cert.Proof.FfnRefRows

open Cert.FfnRefIdeal Cert.FfnRefIdeal.Gen Cert.FfnRefIdeal.Read Idealize.ShloMosaic Idealize.ShloMosaic.ValueIdx
open Cert.Proof.Rows
open scoped BigOperators

theorem norm1 (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (x0) (ix3 b t k) = y k) (j : Fin 1024) :
    val_main_v12 (F := Ideal) x0 x1 (ix3 b t j) = rms y (fun k => x1 (ix1 k)) j := by
  have e : ∀ k : Fin 1024, idx_main_v1 (idx_main_v2 (idx_main_v8 (ix3 b t j))) k = ix3 b t k := fun k => by
    funext a; match a with | ⟨0, _⟩ => rfl | ⟨1, _⟩ => rfl | ⟨2, _⟩ => rfl
  have eg : idx_main_v10 (idx_main_v11 (ix3 b t j)) = ix1 j := by
    funext a; match a with | ⟨0, _⟩ => rfl
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply, eg, hy j]
  simp only [val_main_v0_apply, e, hy]
  have z : (FloatOps.ofBits (F := Ideal) .f32 0x00000000#32) = (0 : EReal) := Ideal.ofBits_zero_f32
  rw [z, zero_add]
  rfl

theorem hid_eq (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (x0) (ix3 b t k) = y k) (c : Fin 5632) :
    val_main_v13 (F := Ideal) x0 x1 x3 (ix3 b t c) = hid (rms y (fun k => x1 (ix1 k))) (fun k c => x3 (ix2 k c)) c := by
  rw [val_main_v13_apply]
  refine Finset.sum_congr rfl fun k _ => ?_
  have e : lidx_main_v13 (ix3 b t c) k = ix3 b t k := by funext a; match a with | ⟨0, _⟩ => rfl | ⟨1, _⟩ => rfl | ⟨2, _⟩ => rfl
  have e' : ridx_main_v13 (ix3 b t c) k = ix2 k c := by funext a; match a with | ⟨0, _⟩ => rfl | ⟨1, _⟩ => rfl
  rw [e, e', norm1 x0 x1 x2 x3 x4 b t y hy k]

theorem act_eq (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (x0) (ix3 b t k) = y k) (f : Fin 2816) :
    val_main_v17 (F := Ideal) x0 x1 x3 (ix3 b t f) = act (rms y (fun k => x1 (ix1 k))) (fun k c => x3 (ix2 k c)) f := by
  have e : idx_main_v14 (ix3 b t f) = ix3 b t ⟨f.val, by omega⟩ := by funext a; match a with | ⟨0, _⟩ => rfl | ⟨1, _⟩ => rfl | ⟨2, _⟩ => rfl
  have e' : idx_main_v15 (ix3 b t f) = ix3 b t ⟨2816 + f.val, by omega⟩ := by funext a; match a with | ⟨0, _⟩ => rfl | ⟨1, _⟩ => rfl | ⟨2, _⟩ => rfl
  rw [val_main_v17_apply, val_main_v16_apply, val_main_call0_v5_apply, val_main_call0_v3_apply, val_main_call0_v1_apply, val_main_call0_v0_apply,
    val_main_call0_v4_apply, val_main_call0_v2_apply, val_main_call0_cst_apply, val_main_call0_cst_0_apply, val_main_v14_apply, val_main_v15_apply, e, e',
    hid_eq x0 x1 x2 x3 x4 b t y hy, hid_eq x0 x1 x2 x3 x4 b t y hy]
  have z : (FloatOps.ofBits (F := Ideal) .f32 0x3F800000#32) = (1 : EReal) := Ideal.ofBits_one_f32
  rw [z]
  rfl

theorem down_eq (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (x0) (ix3 b t k) = y k) (j : Fin 1024) :
    val_main_v18 (F := Ideal) x0 x1 x3 x4 (ix3 b t j) = down (act (rms y (fun k => x1 (ix1 k))) (fun k c => x3 (ix2 k c))) (fun f j => x4 (ix2 f j)) j := by
  rw [val_main_v18_apply]
  refine Finset.sum_congr rfl fun k _ => ?_
  have e : lidx_main_v18 (ix3 b t j) k = ix3 b t k := by funext a; match a with | ⟨0, _⟩ => rfl | ⟨1, _⟩ => rfl | ⟨2, _⟩ => rfl
  have e' : ridx_main_v18 (ix3 b t j) k = ix2 k j := by funext a; match a with | ⟨0, _⟩ => rfl | ⟨1, _⟩ => rfl
  rw [e, e', act_eq x0 x1 x2 x3 x4 b t y hy k]

theorem norm2 (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (val_main_v18 (F := Ideal) x0 x1 x3 x4) (ix3 b t k) = y k) (j : Fin 1024) :
    val_main_v31 (F := Ideal) x0 x1 x2 x3 x4 (ix3 b t j) = rms y (fun k => x2 (ix1 k)) j := by
  have e : ∀ k : Fin 1024, idx_main_v20 (idx_main_v21 (idx_main_v27 (ix3 b t j))) k = ix3 b t k := fun k => by
    funext a; match a with | ⟨0, _⟩ => rfl | ⟨1, _⟩ => rfl | ⟨2, _⟩ => rfl
  have eg : idx_main_v29 (idx_main_v30 (ix3 b t j)) = ix1 j := by
    funext a; match a with | ⟨0, _⟩ => rfl
  rw [val_main_v31_apply, val_main_v28_apply, val_main_v27_apply, val_main_v26_apply, val_main_v25_apply, val_main_v23_apply, val_main_v21_apply, val_main_v20_apply,
    val_main_v22_apply, val_main_v24_apply, val_main_v30_apply, val_main_v29_apply, val_main_cst_2_apply, val_main_cst_3_apply, val_main_cst_4_apply, eg, hy j]
  simp only [val_main_v19_apply, e, hy]
  have z : (FloatOps.ofBits (F := Ideal) .f32 0x00000000#32) = (0 : EReal) := Ideal.ofBits_zero_f32
  rw [z, zero_add]
  rfl

theorem half_eq (x0 : Vec Ideal S16x2048x1024 .f32) (x1 x2 : Vec Ideal S1024 .f32) (x3 : Vec Ideal S1024x5632 .f32) (x4 : Vec Ideal S2816x1024 .f32) (b : Fin 16) (t : Fin 2048) (y : Row) (hy : ∀ k : Fin 1024, (x0) (ix3 b t k) = y k) (j : Fin 1024) :
    val_main_v34 (F := Ideal) x0 x1 x2 x3 x4 (ix3 b t j) = half y (fun k => x1 (ix1 k)) (fun k => x2 (ix1 k)) (fun k c => x3 (ix2 k c)) (fun f j => x4 (ix2 f j)) j := by
  rw [val_main_v34_apply, val_main_v33_apply, val_main_v32_apply, val_main_cst_5_apply,
    norm2 x0 x1 x2 x3 x4 b t _ (down_eq x0 x1 x2 x3 x4 b t y hy) j]
  exact congrArg (· + _) (hy j)

theorem result_eq (x0 : Vec Ideal S16x2048x1024 .f32) (x1 x2 : Vec Ideal S1024 .f32) (x3 : Vec Ideal S1024x5632 .f32) (x4 : Vec Ideal S2816x1024 .f32) (r : Fin 32768) (j : Fin 1024) :
    val_main_v35 (F := Ideal) x0 x1 x2 x3 x4 (ix2 r j)
      = half (fun k => x0 (ix3 (⟨r.val / 2048, by omega⟩ : Fin 16) (⟨r.val % 2048, by omega⟩ : Fin 2048) k)) (fun k => x1 (ix1 k)) (fun k => x2 (ix1 k))
          (fun k c => x3 (ix2 k c)) (fun f j => x4 (ix2 f j)) j := by
  have e : idx_main_v35 (ix2 r j) = ix3 (⟨r.val / 2048, by omega⟩ : Fin 16) (⟨r.val % 2048, by omega⟩ : Fin 2048) j := by
    funext a
    have := r.isLt
    have := j.isLt
    match a with
    | ⟨0, _⟩ => exact Fin.ext (by show (r.val * 1024 + j.val) / 2097152 = r.val / 2048; omega)
    | ⟨1, _⟩ => exact Fin.ext (by show (r.val * 1024 + j.val) / 1024 % 2048 = r.val % 2048; omega)
    | ⟨2, _⟩ => exact Fin.ext (by show (r.val * 1024 + j.val) % 1024 = j.val; omega)
  rw [val_main_v35_apply, e]
  exact half_eq x0 x1 x2 x3 x4 _ _ _ (fun _ => rfl) j

end Cert.Proof.FfnRefRows

end
-- ==== Proof.FfnSampleBlock.lean ====
/- One grid point of the first feed-forward call, for the sample: the block it leaves is `Rows.half` of its rows. -/
module

public import proofs.«01_k».proof.Proof.Gen.FfnSampleIdeal.Value
public import proofs.«01_k».proof.Proof.Rows

@[expose] public section

noncomputable section

namespace Cert.Proof.FfnSampleBlock

open Cert.FfnSampleIdeal Cert.FfnSampleIdeal.Gen Idealize.ShloMosaic Idealize.ShloMosaic.ValueIdx
open Cert.Proof.Rows
open scoped BigOperators

theorem d1 : dot_S256x1024_S1024x512_S256x512_1_0_0_1_n_n = DotDims.plain 256 1024 512 := rfl
theorem d2 : dot_S256x512_S512x1024_S256x1024_1_0_0_1_n_n = DotDims.plain 256 512 1024 := rfl
theorem d3 : dot_S256x1024_S1024x256_S256x256_1_0_0_1_n_n = DotDims.plain 256 1024 256 := rfl
theorem d4 : dot_S256x256_S256x1024_S256x1024_1_0_0_1_n_n = DotDims.plain 256 256 1024 := rfl

variable (x0 : Vec Ideal S256x1024 .f32) (x1 x2 : Vec Ideal S1x1024 .f32) (x3 : Vec Ideal S1024x5632 .bf16)
  (x4 : Vec Ideal S2816x1024 .bf16)

/-- The block's rows, normed. -/
theorem pay4_apply (i : Fin 256) (j : Fin 1024) :
    k0_pay4 (F := Ideal) x0 x1 (ix2 i j) = rms (fun k => x0 (ix2 i k)) (fun k => x1 (ix2 (0 : Fin 1) k)) j := by
  unfold k0_pay4 k0_pay2
  dsimp only
  rw [cast_self, cast_self, truncf_apply, mulf_apply, mulf_apply]
  exact congrArg₂ (· * ·) (congrArg (x0 (ix2 i j) * ·) (inv_apply x0 _ _ _ _ _ i j)) (broadcastTo_1b_ab_apply x1 _ i j)

/-- The loads. -/
theorem ld_x0 (x : Vec Ideal S256x1024 .f32) : View.ld x r0_0 = x := View.ld_unit_zero (S := S256x1024) (by funext a; match a with | ⟨0, _⟩ => rfl | ⟨1, _⟩ => rfl) _ x
theorem ld_x1 (x : Vec Ideal S1x1024 .f32) : View.ld x r0_1 = x := View.ld_unit_zero (S := S1x1024) (by funext a; match a with | ⟨0, _⟩ => rfl | ⟨1, _⟩ => rfl) _ x

theorem ld_up {n off : ℕ} (inb : ∀ a, (![0, off] : Fin 2 → ℕ) a + (![1024, n] : Fin 2 → ℕ) a ≤ S1024x5632.size a) (o : ℕ) (ho : o + n ≤ 5632)
    (h : off = o) (k : Fin 1024) (f : Fin n) :
    View.ld x3 (Rect.unit (s := S1024x5632) ![0, off] ![1024, n] inb) (ix2 k f) = x3 (ix2 k ⟨o + f.val, by omega⟩) := by
  subst h
  refine congrArg x3 (funext fun a => Fin.ext ?_)
  match a with
  | ⟨0, _⟩ => show 0 + 1 * k.val = k.val; omega
  | ⟨1, _⟩ => show off + 1 * f.val = off + f.val; omega

theorem ld_down {n off : ℕ} (inb : ∀ a, (![off, 0] : Fin 2 → ℕ) a + (![n, 1024] : Fin 2 → ℕ) a ≤ S2816x1024.size a) (ho : off + n ≤ 2816)
    (f : Fin n) (j : Fin 1024) :
    View.ld x4 (Rect.unit (s := S2816x1024) ![off, 0] ![n, 1024] inb) (ix2 f j) = x4 (ix2 ⟨off + f.val, by omega⟩ j) := by
  refine congrArg x4 (funext fun a => Fin.ext ?_)
  match a with
  | ⟨0, _⟩ => show off + 1 * f.val = off + f.val; omega
  | ⟨1, _⟩ => show 0 + 1 * j.val = j.val; omega

/-- The running sum over the six chunks. -/
def acc : FVec Ideal S256x1024 .f32 :=
  let ch (n : ℕ) (d1 : DotDims ⟨2, ![256, 1024]⟩ ⟨2, ![1024, n]⟩ ⟨2, ![256, n]⟩) (d2 : DotDims ⟨2, ![256, n]⟩ ⟨2, ![n, 1024]⟩ ⟨2, ![256, 1024]⟩)
      (wg wu : FVec Ideal ⟨2, ![1024, n]⟩ .bf16) (wd : FVec Ideal ⟨2, ![n, 1024]⟩ .bf16) : FVec Ideal S256x1024 .f32 :=
    matmul d2 none (truncf .bf16 (mulf (mulf (matmul d1 none (k0_pay4 x0 x1) wg (constant ⟨2, ![256, n]⟩ .f32 0x00000000#32))
        (logistic (matmul d1 none (k0_pay4 x0 x1) wg (constant ⟨2, ![256, n]⟩ .f32 0x00000000#32))))
        (matmul d1 none (k0_pay4 x0 x1) wu (constant ⟨2, ![256, n]⟩ .f32 0x00000000#32))) bitsLt_bf16_f32) wd
        (constant ⟨2, ![256, 1024]⟩ .f32 0x00000000#32)
  let c512 := ch 512 dot_S256x1024_S1024x512_S256x512_1_0_0_1_n_n dot_S256x512_S512x1024_S256x1024_1_0_0_1_n_n
  addf (addf (addf (addf (addf
    (c512 (View.ld x3 r0_2) (View.ld x3 r0_3) (View.ld x4 r0_4))
    (c512 (View.ld x3 r0_5) (View.ld x3 r0_6) (View.ld x4 r0_7)))
    (c512 (View.ld x3 r0_8) (View.ld x3 r0_9) (View.ld x4 r0_10)))
    (c512 (View.ld x3 r0_11) (View.ld x3 r0_12) (View.ld x4 r0_13)))
    (c512 (View.ld x3 r0_14) (View.ld x3 r0_15) (View.ld x4 r0_16)))
    (ch 256 dot_S256x1024_S1024x256_S256x256_1_0_0_1_n_n dot_S256x256_S256x1024_S256x1024_1_0_0_1_n_n
      (View.ld x3 r0_17) (View.ld x3 r0_18) (View.ld x4 r0_19))

theorem acc_apply (i : Fin 256) (j : Fin 1024) :
    acc x0 x1 x3 x4 (ix2 i j) = down (act (rms (fun k => x0 (ix2 i k)) (fun k => x1 (ix2 (0 : Fin 1) k)))
      (fun k c => x3 (ix2 k c))) (fun f j => x4 (ix2 f j)) j := by
  unfold acc down
  rw [sum_chunks]
  dsimp only
  simp only [addf_apply]
  refine congrArg₂ (· + ·) (congrArg₂ (· + ·) (congrArg₂ (· + ·) (congrArg₂ (· + ·) (congrArg₂ (· + ·) ?_ ?_) ?_) ?_) ?_) ?_
  · exact chunk_act (by decide) _ d1 _ d2 _ _ _ _ _ i j _ (fun k c => x3 (ix2 k c)) (fun f j => x4 (ix2 f j)) (pay4_apply x0 x1 i)
      (fun k f => ld_up x3 _ 0 (by decide) rfl k f)
      (fun k f => (ld_up x3 _ 2816 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 512 (by decide) rfl k f)
      (fun k f => (ld_up x3 _ 3328 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 1024 (by decide) rfl k f)
      (fun k f => (ld_up x3 _ 3840 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 1536 (by decide) rfl k f)
      (fun k f => (ld_up x3 _ 4352 (by decide) rfl k f).trans (congrArg (fun c => x3 (ix2 k c)) (Fin.ext (by show _ = _; dsimp only; omega))))
      (fun f => ld_down x4 _ (by decide) f j)
  · exact chunk_act (by decide) _ d1 _ d2 _ _ _ _ _ i j _ (fun k c => x3 (ix2 k c)) (fun f j => x4 (ix2 f j)) (pay4_apply x0 x1 i)
      (fun k f => ld_up x3 _ 2048 (by decide) rfl k f)
      (fun k f => (ld_up x3 _ 4864 (by decide) rfl k f).trans (congrArg (fun c => x3 (ix2 k c)) (Fin.ext (by show _ = _; dsimp only; omega))))
      (fun f => ld_down x4 _ (by decide) f j)
  · exact chunk_act (by decide) _ d3 _ d4 _ _ _ _ _ i j _ (fun k c => x3 (ix2 k c)) (fun f j => x4 (ix2 f j)) (pay4_apply x0 x1 i)
      (fun k f => ld_up x3 _ 2560 (by decide) rfl k f)
      (fun k f => (ld_up x3 _ 5376 (by decide) rfl k f).trans (congrArg (fun c => x3 (ix2 k c)) (Fin.ext (by show _ = _; dsimp only; omega))))
      (fun f => ld_down x4 _ (by decide) f j)

/-- The block the body leaves, read at an index. -/
theorem out_apply (i : Fin 256) (j : Fin 1024) :
    out0_5 (F := Ideal) x0 x1 x2 x3 x4 (ix2 i j)
      = half (fun k => x0 (ix2 i k)) (fun k => x1 (ix2 (0 : Fin 1) k)) (fun k => x2 (ix2 (0 : Fin 1) k))
          (fun k c => x3 (ix2 k c)) (fun f j => x4 (ix2 f j)) j := by
  unfold out0_5 k0_pay10
  rw [View.canon_unit_zero (S := S256x1024) (by funext a; match a with | ⟨0, _⟩ => rfl | ⟨1, _⟩ => rfl)]
  simp only [ld_x0, ld_x1]
  have h : k0_pay1 (F := Ideal) (k0_pay2 x0) (k0_pay8 (k0_pay4 x0 x1) (k0_pay7 (k0_pay4 x0 x1) (k0_pay5 x0 x1 (View.ld x3 r0_2) (View.ld x3 r0_3) (View.ld x4 r0_4)) (k0_pay6 x0 x1 (View.ld x3 r0_5)) (View.ld x3 r0_6) (View.ld x4 r0_7) (View.ld x3 r0_8) (View.ld x3 r0_9) (View.ld x4 r0_10) (View.ld x3 r0_11) (View.ld x3 r0_12) (View.ld x4 r0_13)) (View.ld x3 r0_14) (View.ld x3 r0_15) (View.ld x4 r0_16) (View.ld x3 r0_17) (View.ld x3 r0_18) (View.ld x4 r0_19)) (k0_pay9 (k0_pay3 x2))
      = addf x0 (mulf (broadcast S256x1024 (Scalar.ofBits .f32 0x3F000000#32)) (mulf (mulf (acc x0 x1 x3 x4)
          (broadcastTo S256x1024 (rsqrt (addf (divf (shapeCast S256x1
        (multiReduction .add [1] S256 (mulf (acc x0 x1 x3 x4) (acc x0 x1 x3 x4)) 0x00000000#32 reduces_S256x1024_S256 (.inl rfl) rfl) shapeCasts_S256_S256x1)
        (broadcast S256x1 (Scalar.ofBits .f32 0x44800000#32)))
        (broadcast S256x1 (Scalar.ofBits .f32 0x358637BD#32)))) broadcasts_S256x1_S256x1024)) (broadcastTo S256x1024 x2 broadcasts_S1x1024_S256x1024))) := by
    unfold k0_pay1 k0_pay2 k0_pay3 k0_pay5 k0_pay6 k0_pay7 k0_pay8 k0_pay9 acc
    dsimp only
    simp only [cast_self]
  rw [h, addf_apply, mulf_apply, mulf_apply, mulf_apply]
  refine (congrArg (fun z => x0 (ix2 i j) + Ideal.ofBits .f32 0x3F000000#32 * z) (congrArg₂ (· * ·)
    (congrArg (acc x0 x1 x3 x4 (ix2 i j) * ·) (inv_apply (acc x0 x1 x3 x4) _ _ _ _ _ i j)) (broadcastTo_1b_ab_apply x2 _ i j))).trans ?_
  simp only [acc_apply]
  rfl

end Cert.Proof.FfnSampleBlock

end
-- ==== Proof.FfnSampleValue.lean ====
/- The array the first feed-forward call for the sample leaves, as one function of the arguments, and the call's run with it. -/
module

public import proofs.«01_k».proof.Proof.FfnSampleBlock

@[expose] public section

noncomputable section

namespace Cert.Proof.FfnSampleValue

open Cert.FfnSampleIdeal Cert.FfnSampleIdeal.Gen Cert.FfnSampleIdeal.Value Idealize.ShloMosaic Idealize.ShloMosaic.TcCoe Idealize.SL.Sem
open Idealize.ShloMosaic.ValueIdx Idealize.ShloMosaic.StableHlo
open Cert.Proof.Rows

/-- The result as one function of the arguments, an activation row at a time. -/
def G (x0 : Vec Ideal S8x32x1024 .f32) (x1 x2 : Vec Ideal S1024 .f32) (x3 : Vec Ideal S1024x5632 .f32) (x4 : Vec Ideal S2816x1024 .f32) :
    Vec Ideal S256x1024 .f32 := fun i =>
  half (fun k => x0 (ix3 (⟨(i 0).val / 32, by have h : (i 0).val < 256 := (i 0).isLt; omega⟩ : Fin 8) (⟨(i 0).val % 32, by omega⟩ : Fin 32) k))
    (fun k => x1 (ix1 k)) (fun k => x2 (ix1 k)) (fun k c => x3 (ix2 k c)) (fun f j => x4 (ix2 f j)) ⟨(i 1).val, (i 1).isLt⟩

variable (m : (ℓ : Loc nD τ sig) → Buf (Elt Ideal) ℓ) (ρ : Dev nD → PrngReg)

/-! ## The arrays the host code makes -/

theorem V_v0 (c : Dev nD) (k : Fin 1024) (f : Fin 5632) : V (F := Ideal) m c main_v0 (ix2 k f) = m ((c : Thread nD τ).loc main_arg3) (ix2 k f) := by
  have h : V (F := Ideal) m c main_v0 = truncf (F := Ideal) (s := S1024x5632) (φ := .f32) .bf16 (m ((c : Thread nD τ).loc main_arg3)) bitsLt_bf16_f32 := by
    dsimp only [V, hostOps0]
    after_results
  rw [h]; rfl

theorem V_v1 (c : Dev nD) (k : Fin 2816) (f : Fin 1024) : V (F := Ideal) m c main_v1 (ix2 k f) = m ((c : Thread nD τ).loc main_arg4) (ix2 k f) := by
  have h : V (F := Ideal) m c main_v1 = truncf (F := Ideal) (s := S2816x1024) (φ := .f32) .bf16 (m ((c : Thread nD τ).loc main_arg4)) bitsLt_bf16_f32 := by
    dsimp only [V, hostOps0]
    after_results
  rw [h]; rfl

theorem V_v2 (c : Dev nD) (r : Fin 256) (j : Fin 1024) : V (F := Ideal) m c main_v2 (ix2 r j)
    = m ((c : Thread nD τ).loc main_arg0) (ix3 (⟨r.val / 32, by omega⟩ : Fin 8) (⟨r.val % 32, by omega⟩ : Fin 32) j) := by
  have h : V (F := Ideal) m c main_v2 = shapeCast S256x1024 (m ((c : Thread nD τ).loc main_arg0)) shapeCasts_S8x32x1024_S256x1024 := by
    dsimp only [V, hostOps0]
    after_results; rfl
  rw [h]
  refine shapeCast_apply (s := S8x32x1024) _ _ _ _ ?_
  rw [Shape.rowMajor_val_three, Shape.rowMajor_val_two]
  show (r.val / 32 * 32 + r.val % 32) * 1024 + j.val = r.val * 1024 + j.val
  omega

theorem V_v3 (c : Dev nD) (j : Fin 1024) : V (F := Ideal) m c main_v3 (ix2 (0 : Fin 1) j) = m ((c : Thread nD τ).loc main_arg1) (ix1 j) := by
  have h : V (F := Ideal) m c main_v3 = broadcastInDim S1x1024 ![1] bcast_S1024_S1x1024_1 (m ((c : Thread nD τ).loc main_arg1)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v4 (c : Dev nD) (j : Fin 1024) : V (F := Ideal) m c main_v4 (ix2 (0 : Fin 1) j) = m ((c : Thread nD τ).loc main_arg2) (ix1 j) := by
  have h : V (F := Ideal) m c main_v4 = broadcastInDim S1x1024 ![1] bcast_S1024_S1x1024_1 (m ((c : Thread nD τ).loc main_arg2)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

/-! ## The blocks -/

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem lt_N (t : Fin cfg0.N) : t.val < 1 := t.isLt

theorem blk0 (c : Dev nD) (t : Fin cfg0.N) (i : Fin 256) (j : Fin 1024) :
    (iblk m c 0 t : Vec Ideal S256x1024 .f32) (ix2 i j) = V (F := Ideal) m c main_v2 (ix2 (⟨t.val * 256 + i.val, by have := lt_N t; omega⟩ : Fin 256) j) := by
  obtain ⟨e0, e1⟩ := idx0 t
  refine congrArg (V (F := Ideal) m c main_v2) (funext fun a => Fin.ext ?_)
  match a with
  | ⟨0, _⟩ => show win0_0.index t (0 : Fin 2) * 256 + 1 * i.val = t.val * 256 + i.val; omega
  | ⟨1, _⟩ => show win0_0.index t (1 : Fin 2) * 1024 + 1 * j.val = j.val; omega

theorem blk1 (c : Dev nD) (t : Fin cfg0.N) (j : Fin 1024) :
    (iblk m c 1 t : Vec Ideal S1x1024 .f32) (ix2 (0 : Fin 1) j) = V (F := Ideal) m c main_v3 (ix2 (0 : Fin 1) j) := by
  obtain ⟨e0, e1⟩ := idx1 t
  refine congrArg (V (F := Ideal) m c main_v3) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

theorem blk2 (c : Dev nD) (t : Fin cfg0.N) (j : Fin 1024) :
    (iblk m c 2 t : Vec Ideal S1x1024 .f32) (ix2 (0 : Fin 1) j) = V (F := Ideal) m c main_v4 (ix2 (0 : Fin 1) j) := by
  obtain ⟨e0, e1⟩ := idx2 t
  refine congrArg (V (F := Ideal) m c main_v4) (funext fun a => Fin.ext ?_)
  match a with
  | ⟨0, _⟩ => show win0_2.index t (0 : Fin 2) * 1 + 1 * 0 = 0; omega
  | ⟨1, _⟩ => show win0_2.index t (1 : Fin 2) * 1024 + 1 * j.val = j.val; omega

theorem blk3 (c : Dev nD) (t : Fin cfg0.N) (i : Fin 1024) (j : Fin 5632) :
    (iblk m c 3 t : Vec Ideal S1024x5632 .bf16) (ix2 i j) = V (F := Ideal) m c main_v0 (ix2 i j) := by
  obtain ⟨e0, e1⟩ := idx3 t
  refine congrArg (V (F := Ideal) m c main_v0) (funext fun a => Fin.ext ?_)
  match a with
  | ⟨0, _⟩ => show win0_3.index t (0 : Fin 2) * 1024 + 1 * i.val = i.val; omega
  | ⟨1, _⟩ => show win0_3.index t (1 : Fin 2) * 5632 + 1 * j.val = j.val; omega

theorem blk4 (c : Dev nD) (t : Fin cfg0.N) (i : Fin 2816) (j : Fin 1024) :
    (iblk m c 4 t : Vec Ideal S2816x1024 .bf16) (ix2 i j) = V (F := Ideal) m c main_v1 (ix2 i j) := by
  obtain ⟨e0, e1⟩ := idx4 t
  refine congrArg (V (F := Ideal) m c main_v1) (funext fun a => Fin.ext ?_)
  match a with
  | ⟨0, _⟩ => show win0_4.index t (0 : Fin 2) * 2816 + 1 * i.val = i.val; omega
  | ⟨1, _⟩ => show win0_4.index t (1 : Fin 2) * 1024 + 1 * j.val = j.val; omega

theorem emb5 (t : Fin cfg0.N) (i : Fin 256) (j : Fin 1024) :
    ((cfg0.win 5).blk t).view.emb (ix2 i j) = ix2 (⟨t.val * 256 + i.val, by have := lt_N t; omega⟩ : Fin 256) j := by
  obtain ⟨e0, e1⟩ := idx5 t
  refine funext fun a => Fin.ext ?_
  match a with
  | ⟨0, _⟩ => show win0_5.index t (0 : Fin 2) * 256 + 1 * i.val = t.val * 256 + i.val; omega
  | ⟨1, _⟩ => show win0_5.index t (1 : Fin 2) * 1024 + 1 * j.val = j.val; omega

/-- The function of the arguments as launched. -/
abbrev Gm (c : Dev nD) : Vec Ideal S256x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4))

theorem flushed_eq (c : Dev nD) (t : Fin cfg0.N) :
    (dats m 0 c).flushed 5 t = ((cfg0.win 5).blk t).view.read (Elt Ideal) (Gm m c) := by
  rw [flushed5]
  funext ij
  obtain ⟨i, j, rfl⟩ : ∃ (i : Fin 256) (j : Fin 1024), ij = ix2 i j := ⟨ij 0, ij 1, by funext a; match a with | ⟨0, _⟩ => rfl | ⟨1, _⟩ => rfl⟩
  show out0_5 (F := Ideal) _ _ _ _ _ (ix2 i j) = Gm m c (((cfg0.win 5).blk t).view.emb (ix2 i j))
  rw [FfnSampleBlock.out_apply, emb5]
  exact half_congr (fun k => (blk0 m c t i k).trans (V_v2 m c _ k)) (fun k => (blk1 m c t k).trans (V_v3 m c k)) (fun k => (blk2 m c t k).trans (V_v4 m c k))
    (fun k f => (blk3 m c t k f).trans (V_v0 m c k f)) (fun f k => (blk4 m c t f k).trans (V_v1 m c f k)) j

theorem covered (i : S256x1024.Idx) : ∃ t : Fin cfg0.N, (cfg0.win 5).flush t = true ∧ i ∈ ((cfg0.win 5).blk t).view.set := by
  have h0 : (i 0).val < 256 := (i 0).isLt
  let t : Fin cfg0.N := (⟨(i 0).val / 256, by show _ < 1; omega⟩ : Fin grid0.N)
  refine ⟨t, flush0_5 t, ?_⟩
  have h := ((cfg0.win 5).blk t).view.emb_mem_set (ix2 (⟨(i 0).val % 256, by omega⟩ : Fin 256) (⟨(i 1).val, (i 1).isLt⟩ : Fin 1024))
  rw [emb5] at h
  have e : i = ix2 (⟨t.val * 256 + (i 0).val % 256, by have := lt_N t; omega⟩ : Fin 256) (⟨(i 1).val, (i 1).isLt⟩ : Fin 1024) := by
    funext a
    match a with
    | ⟨0, _⟩ => exact Fin.ext (by show (i 0).val = (i 0).val / 256 * 256 + (i 0).val % 256; omega)
    | ⟨1, _⟩ => rfl
  rw [e]; exact h

theorem final (c : Dev nD) : (dats m 0 c).arrAt 5 cfg0.N = Gm m c :=
  (dats m 0 c).arrAt_eq_of_cover 5 (Gm m c) (fun t _ => flushed_eq m c t) covered

/-- The call's run, its result as the function of the arguments. -/
theorem run : θ_run defs (onTc (τ := τ) (main (F := Ideal))) ⟨m, fun _ => 0, ρ⟩ fun r => ∀ c : Dev nD,
      r.2.mem ((c : Thread nD τ).loc main_v5) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Proof.FfnSampleValue

end
-- ==== Proof.FfnSampleRefRows.lean ====
/- The plain feed-forward part, read at an index: `Rows.half` of the row. -/
module

public import proofs.«01_k».proof.Proof.Gen.FfnSampleRefIdeal.Read
public import proofs.«01_k».proof.Proof.Rows
public import Idealize.ShloMosaic.Lib.IdealHost

@[expose] public section

noncomputable section

namespace Cert.Proof.FfnSampleRefRows

open Cert.FfnSampleRefIdeal Cert.FfnSampleRefIdeal.Gen Cert.FfnSampleRefIdeal.Read Idealize.ShloMosaic Idealize.ShloMosaic.ValueIdx
open Cert.Proof.Rows
open scoped BigOperators

theorem norm1 (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (x0) (ix3 b t k) = y k) (j : Fin 1024) :
    val_main_v12 (F := Ideal) x0 x1 (ix3 b t j) = rms y (fun k => x1 (ix1 k)) j := by
  have e : ∀ k : Fin 1024, idx_main_v1 (idx_main_v2 (idx_main_v8 (ix3 b t j))) k = ix3 b t k := fun k => by
    funext a; match a with | ⟨0, _⟩ => rfl | ⟨1, _⟩ => rfl | ⟨2, _⟩ => rfl
  have eg : idx_main_v10 (idx_main_v11 (ix3 b t j)) = ix1 j := by
    funext a; match a with | ⟨0, _⟩ => rfl
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply, eg, hy j]
  simp only [val_main_v0_apply, e, hy]
  have z : (FloatOps.ofBits (F := Ideal) .f32 0x00000000#32) = (0 : EReal) := Ideal.ofBits_zero_f32
  rw [z, zero_add]
  rfl

theorem hid_eq (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (x0) (ix3 b t k) = y k) (c : Fin 5632) :
    val_main_v13 (F := Ideal) x0 x1 x3 (ix3 b t c) = hid (rms y (fun k => x1 (ix1 k))) (fun k c => x3 (ix2 k c)) c := by
  rw [val_main_v13_apply]
  refine Finset.sum_congr rfl fun k _ => ?_
  have e : lidx_main_v13 (ix3 b t c) k = ix3 b t k := by funext a; match a with | ⟨0, _⟩ => rfl | ⟨1, _⟩ => rfl | ⟨2, _⟩ => rfl
  have e' : ridx_main_v13 (ix3 b t c) k = ix2 k c := by funext a; match a with | ⟨0, _⟩ => rfl | ⟨1, _⟩ => rfl
  rw [e, e', norm1 x0 x1 x2 x3 x4 b t y hy k]

theorem act_eq (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (x0) (ix3 b t k) = y k) (f : Fin 2816) :
    val_main_v17 (F := Ideal) x0 x1 x3 (ix3 b t f) = act (rms y (fun k => x1 (ix1 k))) (fun k c => x3 (ix2 k c)) f := by
  have e : idx_main_v14 (ix3 b t f) = ix3 b t ⟨f.val, by omega⟩ := by funext a; match a with | ⟨0, _⟩ => rfl | ⟨1, _⟩ => rfl | ⟨2, _⟩ => rfl
  have e' : idx_main_v15 (ix3 b t f) = ix3 b t ⟨2816 + f.val, by omega⟩ := by funext a; match a with | ⟨0, _⟩ => rfl | ⟨1, _⟩ => rfl | ⟨2, _⟩ => rfl
  rw [val_main_v17_apply, val_main_v16_apply, val_main_call0_v5_apply, val_main_call0_v3_apply, val_main_call0_v1_apply, val_main_call0_v0_apply,
    val_main_call0_v4_apply, val_main_call0_v2_apply, val_main_call0_cst_apply, val_main_call0_cst_0_apply, val_main_v14_apply, val_main_v15_apply, e, e',
    hid_eq x0 x1 x2 x3 x4 b t y hy, hid_eq x0 x1 x2 x3 x4 b t y hy]
  have z : (FloatOps.ofBits (F := Ideal) .f32 0x3F800000#32) = (1 : EReal) := Ideal.ofBits_one_f32
  rw [z]
  rfl

theorem down_eq (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (x0) (ix3 b t k) = y k) (j : Fin 1024) :
    val_main_v18 (F := Ideal) x0 x1 x3 x4 (ix3 b t j) = down (act (rms y (fun k => x1 (ix1 k))) (fun k c => x3 (ix2 k c))) (fun f j => x4 (ix2 f j)) j := by
  rw [val_main_v18_apply]
  refine Finset.sum_congr rfl fun k _ => ?_
  have e : lidx_main_v18 (ix3 b t j) k = ix3 b t k := by funext a; match a with | ⟨0, _⟩ => rfl | ⟨1, _⟩ => rfl | ⟨2, _⟩ => rfl
  have e' : ridx_main_v18 (ix3 b t j) k = ix2 k j := by funext a; match a with | ⟨0, _⟩ => rfl | ⟨1, _⟩ => rfl
  rw [e, e', act_eq x0 x1 x2 x3 x4 b t y hy k]

theorem norm2 (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (val_main_v18 (F := Ideal) x0 x1 x3 x4) (ix3 b t k) = y k) (j : Fin 1024) :
    val_main_v31 (F := Ideal) x0 x1 x2 x3 x4 (ix3 b t j) = rms y (fun k => x2 (ix1 k)) j := by
  have e : ∀ k : Fin 1024, idx_main_v20 (idx_main_v21 (idx_main_v27 (ix3 b t j))) k = ix3 b t k := fun k => by
    funext a; match a with | ⟨0, _⟩ => rfl | ⟨1, _⟩ => rfl | ⟨2, _⟩ => rfl
  have eg : idx_main_v29 (idx_main_v30 (ix3 b t j)) = ix1 j := by
    funext a; match a with | ⟨0, _⟩ => rfl
  rw [val_main_v31_apply, val_main_v28_apply, val_main_v27_apply, val_main_v26_apply, val_main_v25_apply, val_main_v23_apply, val_main_v21_apply, val_main_v20_apply,
    val_main_v22_apply, val_main_v24_apply, val_main_v30_apply, val_main_v29_apply, val_main_cst_2_apply, val_main_cst_3_apply, val_main_cst_4_apply, eg, hy j]
  simp only [val_main_v19_apply, e, hy]
  have z : (FloatOps.ofBits (F := Ideal) .f32 0x00000000#32) = (0 : EReal) := Ideal.ofBits_zero_f32
  rw [z, zero_add]
  rfl

theorem half_eq (x0 : Vec Ideal S8x32x1024 .f32) (x1 x2 : Vec Ideal S1024 .f32) (x3 : Vec Ideal S1024x5632 .f32) (x4 : Vec Ideal S2816x1024 .f32) (b : Fin 8) (t : Fin 32) (y : Row) (hy : ∀ k : Fin 1024, (x0) (ix3 b t k) = y k) (j : Fin 1024) :
    val_main_v34 (F := Ideal) x0 x1 x2 x3 x4 (ix3 b t j) = half y (fun k => x1 (ix1 k)) (fun k => x2 (ix1 k)) (fun k c => x3 (ix2 k c)) (fun f j => x4 (ix2 f j)) j := by
  rw [val_main_v34_apply, val_main_v33_apply, val_main_v32_apply, val_main_cst_5_apply,
    norm2 x0 x1 x2 x3 x4 b t _ (down_eq x0 x1 x2 x3 x4 b t y hy) j]
  exact congrArg (· + _) (hy j)

theorem result_eq (x0 : Vec Ideal S8x32x1024 .f32) (x1 x2 : Vec Ideal S1024 .f32) (x3 : Vec Ideal S1024x5632 .f32) (x4 : Vec Ideal S2816x1024 .f32) (r : Fin 256) (j : Fin 1024) :
    val_main_v35 (F := Ideal) x0 x1 x2 x3 x4 (ix2 r j)
      = half (fun k => x0 (ix3 (⟨r.val / 32, by omega⟩ : Fin 8) (⟨r.val % 32, by omega⟩ : Fin 32) k)) (fun k => x1 (ix1 k)) (fun k => x2 (ix1 k))
          (fun k c => x3 (ix2 k c)) (fun f j => x4 (ix2 f j)) j := by
  have e : idx_main_v35 (ix2 r j) = ix3 (⟨r.val / 32, by omega⟩ : Fin 8) (⟨r.val % 32, by omega⟩ : Fin 32) j := by
    funext a
    have := r.isLt
    have := j.isLt
    match a with
    | ⟨0, _⟩ => exact Fin.ext (by show (r.val * 1024 + j.val) / 32768 = r.val / 32; omega)
    | ⟨1, _⟩ => exact Fin.ext (by show (r.val * 1024 + j.val) / 1024 % 32 = r.val % 32; omega)
    | ⟨2, _⟩ => exact Fin.ext (by show (r.val * 1024 + j.val) % 1024 = j.val; omega)
  rw [val_main_v35_apply, e]
  exact half_eq x0 x1 x2 x3 x4 _ _ _ (fun _ => rfl) j

end Cert.Proof.FfnSampleRefRows

end
-- ==== Proof.SampleBlock.lean ====
/- One grid point of the second feed-forward call, for the sample: the block it leaves is `Rows.half` of the `Rows.mix` of its rows. -/
module

public import proofs.«01_k».proof.Proof.Gen.SampleIdeal.Value
public import proofs.«01_k».proof.Proof.Rows

@[expose] public section

noncomputable section

namespace Cert.Proof.SampleBlock

open Cert.SampleIdeal Cert.SampleIdeal.Gen Idealize.ShloMosaic Idealize.ShloMosaic.ValueIdx
open Cert.Proof.Rows
open scoped BigOperators

theorem d1 : dot_S256x1024_S1024x512_S256x512_1_0_0_1_n_n = DotDims.plain 256 1024 512 := rfl
theorem d2 : dot_S256x512_S512x1024_S256x1024_1_0_0_1_n_n = DotDims.plain 256 512 1024 := rfl
theorem d3 : dot_S256x1024_S1024x256_S256x256_1_0_0_1_n_n = DotDims.plain 256 1024 256 := rfl
theorem d4 : dot_S256x256_S256x1024_S256x1024_1_0_0_1_n_n = DotDims.plain 256 256 1024 := rfl

variable (x0 : Vec Ideal S1x256x1024 .f32) (x1 x2 : Vec Ideal S1x256x512 .bf16) (x3 x4 : Vec Ideal S512x1024 .bf16)
  (x5 x6 x7 : Vec Ideal S1x1024 .f32) (x8 : Vec Ideal S1024x5632 .bf16) (x9 : Vec Ideal S2816x1024 .bf16)

/-- The loads. -/
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl
theorem ld0 (x : Vec Ideal S1x256x512 .bf16) : View.ld x r0_0 = x := View.ld_unit_zero (S := S1x256x512) hz3 _ x
theorem ld1 (x : Vec Ideal S512x1024 .bf16) : View.ld x r0_1 = x := View.ld_unit_zero (S := S512x1024) hz2 _ x
theorem ld2 (x : Vec Ideal S1x256x1024 .f32) : View.ld x r0_2 = x := View.ld_unit_zero (S := S1x256x1024) hz3 _ x
theorem ld3 (x : Vec Ideal S1x1024 .f32) : View.ld x r0_3 = x := View.ld_unit_zero (S := S1x1024) hz2 _ x

theorem ld_up {n off : ℕ} (inb : ∀ a, (![0, off] : Fin 2 → ℕ) a + (![1024, n] : Fin 2 → ℕ) a ≤ S1024x5632.size a) (o : ℕ) (ho : o + n ≤ 5632)
    (h : off = o) (k : Fin 1024) (f : Fin n) :
    View.ld x8 (Rect.unit (s := S1024x5632) ![0, off] ![1024, n] inb) (ix2 k f) = x8 (ix2 k ⟨o + f.val, by omega⟩) := by
  subst h
  refine congrArg x8 (funext fun a => Fin.ext ?_)
  match a with
  | ⟨0, _⟩ => show 0 + 1 * k.val = k.val; omega
  | ⟨1, _⟩ => show off + 1 * f.val = off + f.val; omega

theorem ld_down {n off : ℕ} (inb : ∀ a, (![off, 0] : Fin 2 → ℕ) a + (![n, 1024] : Fin 2 → ℕ) a ≤ S2816x1024.size a) (ho : off + n ≤ 2816)
    (f : Fin n) (j : Fin 1024) :
    View.ld x9 (Rect.unit (s := S2816x1024) ![off, 0] ![n, 1024] inb) (ix2 f j) = x9 (ix2 ⟨off + f.val, by omega⟩ j) := by
  refine congrArg x9 (funext fun a => Fin.ext ?_)
  match a with
  | ⟨0, _⟩ => show off + 1 * f.val = off + f.val; omega
  | ⟨1, _⟩ => show 0 + 1 * j.val = j.val; omega

/-- The two products, added. -/
def prod (v0 : Vec Ideal S1x256x512 .bf16) (v2 : Vec Ideal S512x1024 .bf16) (v5 : Vec Ideal S1x256x512 .bf16) (v7 : Vec Ideal S512x1024 .bf16) : FVec Ideal S256x1024 .f32 :=
  addf (matmul (F := Ideal) (φ₁ := .bf16) (φ₂ := .bf16) dot_S256x512_S512x1024_S256x1024_1_0_0_1_n_n none (shapeCast S256x512 v0 shapeCasts_S1x256x512_S256x512 : FVec Ideal S256x512 .bf16) v2 (constant S256x1024 .f32 0x00000000#32))
    (matmul (F := Ideal) (φ₁ := .bf16) (φ₂ := .bf16) dot_S256x512_S512x1024_S256x1024_1_0_0_1_n_n none (shapeCast S256x512 v5 shapeCasts_S1x256x512_S256x512 : FVec Ideal S256x512 .bf16) v7 (constant S256x1024 .f32 0x00000000#32))

theorem prod_apply (v0 : Vec Ideal S1x256x512 .bf16) (v2 : Vec Ideal S512x1024 .bf16) (v5 : Vec Ideal S1x256x512 .bf16) (v7 : Vec Ideal S512x1024 .bf16) (i : Fin 256) (j : Fin 1024) :
    prod v0 v2 v5 v7 (ix2 i j) = proj (fun k => v0 (ix3 (0 : Fin 1) i k)) (fun k => v5 (ix3 (0 : Fin 1) i k)) (fun k j => v2 (ix2 k j)) (fun k j => v7 (ix2 k j)) j := by
  unfold prod
  rw [addf_apply]
  refine congrArg₂ (· + ·) ((dot_apply (φ₁ := .bf16) (φ₂ := .bf16) _ d2 _ _ i j).trans (Finset.sum_congr rfl fun k _ => ?_)) ((dot_apply (φ₁ := .bf16) (φ₂ := .bf16) _ d2 _ _ i j).trans (Finset.sum_congr rfl fun k _ => ?_))
  · exact congrArg (· * v2 (ix2 k j)) (shapeCast_1ab_ab_apply v0 _ i k)
  · exact congrArg (· * v7 (ix2 k j)) (shapeCast_1ab_ab_apply v5 _ i k)

theorem pay1_apply (v0 : Vec Ideal S1x256x512 .bf16) (v2 : Vec Ideal S512x1024 .bf16) (v5 : Vec Ideal S1x256x512 .bf16) (v7 : Vec Ideal S512x1024 .bf16)
    (v11 : Vec Ideal S1x256x1024 .f32) (v13 : Vec Ideal S1x1024 .f32) (i : Fin 256) (j : Fin 1024) :
    k0_pay1 (F := Ideal) v0 v2 v5 v7 v11 v13 (ix2 i j)
      = mix (fun k => v11 (ix3 (0 : Fin 1) i k)) (fun k => v0 (ix3 (0 : Fin 1) i k)) (fun k => v5 (ix3 (0 : Fin 1) i k)) (fun k j => v2 (ix2 k j)) (fun k j => v7 (ix2 k j))
          (fun k => v13 (ix2 (0 : Fin 1) k)) j := by
  have h : k0_pay1 (F := Ideal) v0 v2 v5 v7 v11 v13
      = addf (shapeCast S256x1024 v11 shapeCasts_S1x256x1024_S256x1024 : FVec Ideal S256x1024 .f32) (mulf (mulf (prod v0 v2 v5 v7)
          (broadcastTo S256x1024 (rsqrt (addf (divf (shapeCast S256x1
        (multiReduction .add [1] S256 (mulf (prod v0 v2 v5 v7) (prod v0 v2 v5 v7)) 0x00000000#32 reduces_S256x1024_S256 (.inl rfl) rfl) shapeCasts_S256_S256x1)
        (broadcast S256x1 (Scalar.ofBits .f32 0x44800000#32)))
        (broadcast S256x1 (Scalar.ofBits .f32 0x358637BD#32)))) broadcasts_S256x1_S256x1024)) (broadcastTo S256x1024 v13 broadcasts_S1x1024_S256x1024)) := by
    unfold k0_pay1 prod
    dsimp only
    simp only [cast_self]
  rw [h, addf_apply, mulf_apply, mulf_apply]
  refine (congrArg₂ (· + ·) (shapeCast_1ab_ab_apply v11 _ i j) (congrArg₂ (· * ·)
    (congrArg (prod v0 v2 v5 v7 (ix2 i j) * ·) (inv_apply (prod v0 v2 v5 v7) _ _ _ _ _ i j)) (broadcastTo_1b_ab_apply v13 _ i j))).trans ?_
  simp only [prod_apply]
  rfl

/-- Rows normed. -/
theorem pay5_apply (v : FVec Ideal S256x1024 .f32) (g : Vec Ideal S1x1024 .f32) (i : Fin 256) (y : Row) (hy : ∀ k, v (ix2 i k) = y k) (j : Fin 1024) :
    k0_pay5 (F := Ideal) v g (mulf v v) (ix2 i j) = rms y (fun k => g (ix2 (0 : Fin 1) k)) j := by
  unfold k0_pay5
  dsimp only
  rw [truncf_apply, mulf_apply, mulf_apply]
  refine (congrArg₂ (· * ·) (congrArg (v (ix2 i j) * ·) (inv_apply v _ _ _ _ _ i j)) (broadcastTo_1b_ab_apply g _ i j)).trans ?_
  simp only [hy]
  rfl

/-- The running sum over the six chunks. -/
def acc (xn : FVec Ideal S256x1024 .bf16) : FVec Ideal S256x1024 .f32 :=
  let ch (n : ℕ) (d1 : DotDims ⟨2, ![256, 1024]⟩ ⟨2, ![1024, n]⟩ ⟨2, ![256, n]⟩) (d2 : DotDims ⟨2, ![256, n]⟩ ⟨2, ![n, 1024]⟩ ⟨2, ![256, 1024]⟩)
      (wg wu : FVec Ideal ⟨2, ![1024, n]⟩ .bf16) (wd : FVec Ideal ⟨2, ![n, 1024]⟩ .bf16) : FVec Ideal S256x1024 .f32 :=
    matmul d2 none (truncf .bf16 (mulf (mulf (matmul d1 none xn wg (constant ⟨2, ![256, n]⟩ .f32 0x00000000#32))
        (logistic (matmul d1 none xn wg (constant ⟨2, ![256, n]⟩ .f32 0x00000000#32))))
        (matmul d1 none xn wu (constant ⟨2, ![256, n]⟩ .f32 0x00000000#32))) bitsLt_bf16_f32) wd
        (constant ⟨2, ![256, 1024]⟩ .f32 0x00000000#32)
  let c512 := ch 512 dot_S256x1024_S1024x512_S256x512_1_0_0_1_n_n dot_S256x512_S512x1024_S256x1024_1_0_0_1_n_n
  addf (addf (addf (addf (addf
    (c512 (View.ld x8 r0_4) (View.ld x8 r0_5) (View.ld x9 r0_6))
    (c512 (View.ld x8 r0_7) (View.ld x8 r0_8) (View.ld x9 r0_9)))
    (c512 (View.ld x8 r0_10) (View.ld x8 r0_11) (View.ld x9 r0_12)))
    (c512 (View.ld x8 r0_13) (View.ld x8 r0_14) (View.ld x9 r0_15)))
    (c512 (View.ld x8 r0_16) (View.ld x8 r0_17) (View.ld x9 r0_18)))
    (ch 256 dot_S256x1024_S1024x256_S256x256_1_0_0_1_n_n dot_S256x256_S256x1024_S256x1024_1_0_0_1_n_n
      (View.ld x8 r0_19) (View.ld x8 r0_20) (View.ld x9 r0_21))

theorem acc_apply (xn : FVec Ideal S256x1024 .bf16) (i : Fin 256) (y : Row) (hy : ∀ k, xn (ix2 i k) = y k) (j : Fin 1024) :
    acc x8 x9 xn (ix2 i j) = down (act y
      (fun k c => x8 (ix2 k c))) (fun f j => x9 (ix2 f j)) j := by
  unfold acc down
  rw [sum_chunks]
  dsimp only
  simp only [addf_apply]
  refine congrArg₂ (· + ·) (congrArg₂ (· + ·) (congrArg₂ (· + ·) (congrArg₂ (· + ·) (congrArg₂ (· + ·) ?_ ?_) ?_) ?_) ?_) ?_
  · exact chunk_act (by decide) _ d1 _ d2 _ _ _ _ _ i j _ (fun k c => x8 (ix2 k c)) (fun f j => x9 (ix2 f j)) hy
      (fun k f => ld_up x8 _ 0 (by decide) rfl k f)
      (fun k f => (ld_up x8 _ 2816 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 512 (by decide) rfl k f)
      (fun k f => (ld_up x8 _ 3328 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 1024 (by decide) rfl k f)
      (fun k f => (ld_up x8 _ 3840 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 1536 (by decide) rfl k f)
      (fun k f => (ld_up x8 _ 4352 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 2048 (by decide) rfl k f)
      (fun k f => (ld_up x8 _ 4864 (by decide) rfl k f).trans (congrArg (fun c => x8 (ix2 k c)) (Fin.ext (by show _ = _; dsimp only; omega))))
      (fun f => ld_down x9 _ (by decide) f j)
  · exact chunk_act (by decide) _ d3 _ d4 _ _ _ _ _ i j _ (fun k c => x8 (ix2 k c)) (fun f j => x9 (ix2 f j)) hy
      (fun k f => ld_up x8 _ 2560 (by decide) rfl k f)
      (fun k f => (ld_up x8 _ 5376 (by decide) rfl k f).trans (congrArg (fun c => x8 (ix2 k c)) (Fin.ext (by show _ = _; dsimp only; omega))))
      (fun f => ld_down x9 _ (by decide) f j)

/-- The block the body leaves, read at an index. -/
theorem out_apply (i : Fin 256) (j : Fin 1024) :
    out0_10 (F := Ideal) x0 x1 x2 x3 x4 x5 x6 x7 x8 x9 (ix3 (0 : Fin 1) i j)
      = half (mix (fun k => x0 (ix3 (0 : Fin 1) i k)) (fun k => x1 (ix3 (0 : Fin 1) i k)) (fun k => x2 (ix3 (0 : Fin 1) i k)) (fun k j => x3 (ix2 k j)) (fun k j => x4 (ix2 k j))
          (fun k => x5 (ix2 (0 : Fin 1) k))) (fun k => x6 (ix2 (0 : Fin 1) k)) (fun k => x7 (ix2 (0 : Fin 1) k))
          (fun k c => x8 (ix2 k c)) (fun f j => x9 (ix2 f j)) j := by
  unfold out0_10 k0_pay13 k0_pay12 k0_pay11 k0_pay10
  rw [View.canon_unit_zero (S := S1x256x1024) hz3]
  simp only [ld0, ld1, ld2, ld3]
  have hP := pay1_apply x1 x3 x2 x4 x0 x5 i
  unfold k0_pay4
  dsimp only
  generalize k0_pay1 (F := Ideal) x1 x3 x2 x4 x0 x5 = P at hP ⊢
  have hX := pay5_apply P x6 i _ hP
  have h6 : k0_pay2 (F := Ideal) x6 = x6 := by unfold k0_pay2; dsimp only; rw [cast_self]
  have h7 : k0_pay3 (F := Ideal) x7 = x7 := by unfold k0_pay3; dsimp only; rw [cast_self]
  rw [h6, h7]
  unfold k0_pay6
  dsimp only
  generalize k0_pay5 (F := Ideal) P x6 (mulf P P) = X at hX ⊢
  have hA' := acc_apply x8 x9 X i _ hX
  generalize hA : acc x8 x9 X = A at hA' ⊢
  have h : ∀ (L : FVec Ideal S1x256x1024 .f32), L = shapeCast S1x256x1024 (addf P (mulf (broadcast S256x1024 (Scalar.ofBits .f32 0x3F000000#32)) (mulf (mulf A
          (broadcastTo S256x1024 (rsqrt (addf (divf (shapeCast S256x1
        (multiReduction .add [1] S256 (mulf A A) 0x00000000#32 reduces_S256x1024_S256 (.inl rfl) rfl) shapeCasts_S256_S256x1)
        (broadcast S256x1 (Scalar.ofBits .f32 0x44800000#32)))
        (broadcast S256x1 (Scalar.ofBits .f32 0x358637BD#32)))) broadcasts_S256x1_S256x1024)) (broadcastTo S256x1024 x7 broadcasts_S1x1024_S256x1024)))) shapeCasts_S256x1024_S1x256x1024 →
      L (ix3 (0 : Fin 1) i j) = half (mix (fun k => x0 (ix3 (0 : Fin 1) i k)) (fun k => x1 (ix3 (0 : Fin 1) i k)) (fun k => x2 (ix3 (0 : Fin 1) i k)) (fun k j => x3 (ix2 k j)) (fun k j => x4 (ix2 k j))
          (fun k => x5 (ix2 (0 : Fin 1) k))) (fun k => x6 (ix2 (0 : Fin 1) k)) (fun k => x7 (ix2 (0 : Fin 1) k))
          (fun k c => x8 (ix2 k c)) (fun f j => x9 (ix2 f j)) j := by
    rintro L rfl
    refine (shapeCast_ab_1ab_apply _ _ (0 : Fin 1) i j).trans ?_
    rw [addf_apply, mulf_apply, mulf_apply, mulf_apply]
    refine (congrArg (fun z => P (ix2 i j) + Ideal.ofBits .f32 0x3F000000#32 * z) (congrArg₂ (· * ·)
      (congrArg (A (ix2 i j) * ·) (inv_apply A _ _ _ _ _ i j)) (broadcastTo_1b_ab_apply x7 _ i j))).trans ?_
    simp only [hA', hP]
    rfl
  refine h _ ?_
  rw [← hA]
  unfold k0_pay9 k0_pay7 k0_pay8 acc
  dsimp only
  simp only [cast_self]

end Cert.Proof.SampleBlock

end
-- ==== Proof.SampleValue.lean ====
/- The array the second feed-forward call for the sample leaves, as one function of the arguments, and the call's run with it. -/
module

public import proofs.«01_k».proof.Proof.SampleBlock

@[expose] public section

noncomputable section

namespace Cert.Proof.SampleValue

open Cert.SampleIdeal Cert.SampleIdeal.Gen Cert.SampleIdeal.Value Idealize.ShloMosaic Idealize.ShloMosaic.TcCoe Idealize.SL.Sem
open Idealize.ShloMosaic.ValueIdx Idealize.ShloMosaic.StableHlo
open Cert.Proof.Rows

/-- The result's row as one function of the arguments. -/
def row (x0 : Vec Ideal S8x32x1024 .f32) (x1 : Vec Ideal S8x32x512 .f32) (x2 : Vec Ideal S8x32x8x64 .f32) (x3 : Vec Ideal S1024x1024 .f32) (x4 x5 x6 : Vec Ideal S1024 .f32)
    (x7 : Vec Ideal S1024x5632 .f32) (x8 : Vec Ideal S2816x1024 .f32) (b : Fin 8) (t : Fin 32) : Row :=
  half (mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)))
    (fun k => x5 (ix1 k)) (fun k => x6 (ix1 k)) (fun k c => x7 (ix2 k c)) (fun f j => x8 (ix2 f j))

/-- The result, a row at a time. -/
def G (x0 : Vec Ideal S8x32x1024 .f32) (x1 : Vec Ideal S8x32x512 .f32) (x2 : Vec Ideal S8x32x8x64 .f32) (x3 : Vec Ideal S1024x1024 .f32) (x4 x5 x6 : Vec Ideal S1024 .f32)
    (x7 : Vec Ideal S1024x5632 .f32) (x8 : Vec Ideal S2816x1024 .f32) : Vec Ideal S1x256x1024 .f32 := fun i =>
  row x0 x1 x2 x3 x4 x5 x6 x7 x8 ⟨(i 1).val / 32, by have h : (i 1).val < 256 := (i 1).isLt; omega⟩ ⟨(i 1).val % 32, by omega⟩ ⟨(i 2).val, (i 2).isLt⟩

variable (m : (ℓ : Loc nD τ sig) → Buf (Elt Ideal) ℓ) (ρ : Dev nD → PrngReg)

/-! ## The arrays the host code makes -/

theorem V_v0 (c : Dev nD) (k : Fin 1024) (f : Fin 5632) : V (F := Ideal) m c main_v0 (ix2 k f) = m ((c : Thread nD τ).loc main_arg7) (ix2 k f) := by
  have h : V (F := Ideal) m c main_v0 = truncf (F := Ideal) (s := S1024x5632) (φ := .f32) .bf16 (m ((c : Thread nD τ).loc main_arg7)) bitsLt_bf16_f32 := by
    dsimp only [V, hostOps0]
    after_results
  rw [h]; rfl

theorem V_v1 (c : Dev nD) (k : Fin 2816) (f : Fin 1024) : V (F := Ideal) m c main_v1 (ix2 k f) = m ((c : Thread nD τ).loc main_arg8) (ix2 k f) := by
  have h : V (F := Ideal) m c main_v1 = truncf (F := Ideal) (s := S2816x1024) (φ := .f32) .bf16 (m ((c : Thread nD τ).loc main_arg8)) bitsLt_bf16_f32 := by
    dsimp only [V, hostOps0]
    after_results
  rw [h]; rfl

theorem V_v3 (c : Dev nD) (k : Fin 512) (j : Fin 1024) : V (F := Ideal) m c main_v3 (ix2 k j) = m ((c : Thread nD τ).loc main_arg3) (ix2 (⟨k.val, by omega⟩ : Fin 1024) j) := by
  have h : V (F := Ideal) m c main_v3 = truncf (F := Ideal) (s := S512x1024) (φ := .f32) .bf16
      (extractStridedSlice S512x1024 ![0, 0] (m ((c : Thread nD τ).loc main_arg3)) slices_S1024x1024_S512x1024_0_0) bitsLt_bf16_f32 := by
    dsimp only [V, hostOps0]
    after_results
  rw [h, truncf_apply]
  exact extractStridedSlice_apply (s := S1024x1024) (t := S512x1024) ![0, 0] _ slices_S1024x1024_S512x1024_0_0 _ _ fun a => match a with
    | ⟨0, _⟩ => by show k.val = 0 + k.val; omega
    | ⟨1, _⟩ => by show j.val = 0 + j.val; omega

theorem V_v5 (c : Dev nD) (k : Fin 512) (j : Fin 1024) : V (F := Ideal) m c main_v5 (ix2 k j) = m ((c : Thread nD τ).loc main_arg3) (ix2 (⟨512 + k.val, by omega⟩ : Fin 1024) j) := by
  have h : V (F := Ideal) m c main_v5 = truncf (F := Ideal) (s := S512x1024) (φ := .f32) .bf16
      (extractStridedSlice S512x1024 ![512, 0] (m ((c : Thread nD τ).loc main_arg3)) slices_S1024x1024_S512x1024_512_0) bitsLt_bf16_f32 := by
    dsimp only [V, hostOps0]
    after_results
  rw [h, truncf_apply]
  exact extractStridedSlice_apply (s := S1024x1024) (t := S512x1024) ![512, 0] _ slices_S1024x1024_S512x1024_512_0 _ _ fun a => match a with
    | ⟨0, _⟩ => by show 512 + k.val = 512 + k.val; omega
    | ⟨1, _⟩ => by show j.val = 0 + j.val; omega

theorem V_v9 (c : Dev nD) (r : Fin 256) (k : Fin 1024) : V (F := Ideal) m c main_v9 (ix3 (0 : Fin 1) r k)
    = m ((c : Thread nD τ).loc main_arg0) (ix3 (⟨r.val / 32, by omega⟩ : Fin 8) (⟨r.val % 32, by omega⟩ : Fin 32) k) := by
  have h : V (F := Ideal) m c main_v9 = shapeCast S1x256x1024 (m ((c : Thread nD τ).loc main_arg0)) shapeCasts_S8x32x1024_S1x256x1024 := by
    dsimp only [V, hostOps0]
    after_results; rfl
  rw [h]
  refine shapeCast_apply (s := S8x32x1024) _ _ _ _ ?_
  rw [Shape.rowMajor_val_three, Shape.rowMajor_val_three]
  show (r.val / 32 * 32 + r.val % 32) * 1024 + k.val = (0 * 256 + r.val) * 1024 + k.val
  omega

theorem V_v10 (c : Dev nD) (r : Fin 256) (k : Fin 512) : V (F := Ideal) m c main_v10 (ix3 (0 : Fin 1) r k)
    = m ((c : Thread nD τ).loc main_arg1) (ix3 (⟨r.val / 32, by omega⟩ : Fin 8) (⟨r.val % 32, by omega⟩ : Fin 32) k) := by
  have h : V (F := Ideal) m c main_v10 = shapeCast S1x256x512 (truncf (F := Ideal) (s := S8x32x512) (φ := .f32) .bf16
      (m ((c : Thread nD τ).loc main_arg1)) bitsLt_bf16_f32) shapeCasts_S8x32x512_S1x256x512 := by
    dsimp only [V, hostOps0]
    after_results; rfl
  rw [h]
  refine shapeCast_apply (s := S8x32x512) _ _ _ (ix3 (⟨r.val / 32, by omega⟩ : Fin 8) (⟨r.val % 32, by omega⟩ : Fin 32) k) ?_
  rw [Shape.rowMajor_val_three, Shape.rowMajor_val_three]
  show (r.val / 32 * 32 + r.val % 32) * 512 + k.val = (0 * 256 + r.val) * 512 + k.val
  omega

theorem V_v11 (c : Dev nD) (r : Fin 256) (k : Fin 512) : V (F := Ideal) m c main_v11 (ix3 (0 : Fin 1) r k)
    = m ((c : Thread nD τ).loc main_arg2) (ix4 (⟨r.val / 32, by omega⟩ : Fin 8) (⟨r.val % 32, by omega⟩ : Fin 32) (⟨k.val / 64, by omega⟩ : Fin 8) (⟨k.val % 64, by omega⟩ : Fin 64)) := by
  have h : V (F := Ideal) m c main_v11 = shapeCast S1x256x512 (truncf (F := Ideal) (s := S8x32x512) (φ := .f32) .bf16
      (shapeCast S8x32x512 (m ((c : Thread nD τ).loc main_arg2)) shapeCasts_S8x32x8x64_S8x32x512) bitsLt_bf16_f32) shapeCasts_S8x32x512_S1x256x512 := by
    dsimp only [V, hostOps0]
    after_results; rfl
  rw [h]
  refine Eq.trans (shapeCast_apply (s := S8x32x512) _ _ _ (ix3 (⟨r.val / 32, by omega⟩ : Fin 8) (⟨r.val % 32, by omega⟩ : Fin 32) k) ?_) ?_
  · rw [Shape.rowMajor_val_three, Shape.rowMajor_val_three]
    show (r.val / 32 * 32 + r.val % 32) * 512 + k.val = (0 * 256 + r.val) * 512 + k.val
    omega
  · rw [truncf_apply]
    refine shapeCast_apply (s := S8x32x8x64) _ _ _ _ ?_
    rw [Shape.rowMajor_val_four, Shape.rowMajor_val_three]
    show ((r.val / 32 * 32 + r.val % 32) * 8 + k.val / 64) * 64 + k.val % 64 = (r.val / 32 * 32 + r.val % 32) * 512 + k.val
    omega

theorem V_v12 (c : Dev nD) (j : Fin 1024) : V (F := Ideal) m c main_v12 (ix2 (0 : Fin 1) j) = m ((c : Thread nD τ).loc main_arg4) (ix1 j) := by
  have h : V (F := Ideal) m c main_v12 = broadcastInDim S1x1024 ![1] bcast_S1024_S1x1024_1 (m ((c : Thread nD τ).loc main_arg4)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v13 (c : Dev nD) (j : Fin 1024) : V (F := Ideal) m c main_v13 (ix2 (0 : Fin 1) j) = m ((c : Thread nD τ).loc main_arg5) (ix1 j) := by
  have h : V (F := Ideal) m c main_v13 = broadcastInDim S1x1024 ![1] bcast_S1024_S1x1024_1 (m ((c : Thread nD τ).loc main_arg5)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v14 (c : Dev nD) (j : Fin 1024) : V (F := Ideal) m c main_v14 (ix2 (0 : Fin 1) j) = m ((c : Thread nD τ).loc main_arg6) (ix1 j) := by
  have h : V (F := Ideal) m c main_v14 = broadcastInDim S1x1024 ![1] bcast_S1024_S1x1024_1 (m ((c : Thread nD τ).loc main_arg6)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

/-! ## The blocks -/

theorem lt_N (t : Fin cfg0.N) : t.val < 1 := t.isLt
theorem idx0 : ∀ t : Fin cfg0.N, win0_0.index t (0 : Fin 3) = 0 ∧ win0_0.index t (1 : Fin 3) = 0 ∧ win0_0.index t (2 : Fin 3) = 0 := (by decide +kernel : ∀ t : Fin grid0.N, _)
theorem idx1 : ∀ t : Fin cfg0.N, win0_1.index t (0 : Fin 3) = 0 ∧ win0_1.index t (1 : Fin 3) = 0 ∧ win0_1.index t (2 : Fin 3) = 0 := (by decide +kernel : ∀ t : Fin grid0.N, _)
theorem idx10 : ∀ t : Fin cfg0.N, win0_10.index t (0 : Fin 3) = 0 ∧ win0_10.index t (1 : Fin 3) = 0 ∧ win0_10.index t (2 : Fin 3) = 0 := (by decide +kernel : ∀ t : Fin grid0.N, _)
theorem idx2 : ∀ t : Fin cfg0.N, win0_2.index t (0 : Fin 3) = 0 ∧ win0_2.index t (1 : Fin 3) = 0 ∧ win0_2.index t (2 : Fin 3) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

theorem blk0 (c : Dev nD) (t : Fin cfg0.N) (i : Fin 256) (j : Fin 1024) :
    (iblk m c 0 t : Vec Ideal S1x256x1024 .f32) (ix3 (0 : Fin 1) i j) = V (F := Ideal) m c main_v9 (ix3 (0 : Fin 1) i j) := by
  obtain ⟨e0, e1, e2⟩ := idx0 t
  refine congrArg (V (F := Ideal) m c main_v9) (funext fun a => Fin.ext ?_)
  match a with
  | ⟨0, _⟩ => show win0_0.index t (0 : Fin 3) * 1 + 1 * 0 = 0; omega
  | ⟨1, _⟩ => show win0_0.index t (1 : Fin 3) * 256 + 1 * i.val = i.val; omega
  | ⟨2, _⟩ => show win0_0.index t (2 : Fin 3) * 1024 + 1 * j.val = j.val; omega

theorem blk1 (c : Dev nD) (t : Fin cfg0.N) (i : Fin 256) (j : Fin 512) :
    (iblk m c 1 t : Vec Ideal S1x256x512 .bf16) (ix3 (0 : Fin 1) i j) = V (F := Ideal) m c main_v10 (ix3 (0 : Fin 1) i j) := by
  obtain ⟨e0, e1, e2⟩ := idx1 t
  refine congrArg (V (F := Ideal) m c main_v10) (funext fun a => Fin.ext ?_)
  match a with
  | ⟨0, _⟩ => show win0_1.index t (0 : Fin 3) * 1 + 1 * 0 = 0; omega
  | ⟨1, _⟩ => show win0_1.index t (1 : Fin 3) * 256 + 1 * i.val = i.val; omega
  | ⟨2, _⟩ => show win0_1.index t (2 : Fin 3) * 512 + 1 * j.val = j.val; omega

theorem blk2 (c : Dev nD) (t : Fin cfg0.N) (i : Fin 256) (j : Fin 512) :
    (iblk m c 2 t : Vec Ideal S1x256x512 .bf16) (ix3 (0 : Fin 1) i j) = V (F := Ideal) m c main_v11 (ix3 (0 : Fin 1) i j) := by
  obtain ⟨e0, e1, e2⟩ := idx2 t
  refine congrArg (V (F := Ideal) m c main_v11) (funext fun a => Fin.ext ?_)
  match a with
  | ⟨0, _⟩ => show win0_2.index t (0 : Fin 3) * 1 + 1 * 0 = 0; omega
  | ⟨1, _⟩ => show win0_2.index t (1 : Fin 3) * 256 + 1 * i.val = i.val; omega
  | ⟨2, _⟩ => show win0_2.index t (2 : Fin 3) * 512 + 1 * j.val = j.val; omega

theorem blk3 (c : Dev nD) (t : Fin cfg0.N) (i : Fin 512) (j : Fin 1024) :
    (iblk m c 3 t : Vec Ideal S512x1024 .bf16) (ix2 i j) = V (F := Ideal) m c main_v3 (ix2 i j) := by
  obtain ⟨e0, e1⟩ := idx3 t
  refine congrArg (V (F := Ideal) m c main_v3) (funext fun a => Fin.ext ?_)
  match a with
  | ⟨0, _⟩ => show win0_3.index t (0 : Fin 2) * 512 + 1 * i.val = i.val; omega
  | ⟨1, _⟩ => show win0_3.index t (1 : Fin 2) * 1024 + 1 * j.val = j.val; omega

theorem blk4 (c : Dev nD) (t : Fin cfg0.N) (i : Fin 512) (j : Fin 1024) :
    (iblk m c 4 t : Vec Ideal S512x1024 .bf16) (ix2 i j) = V (F := Ideal) m c main_v5 (ix2 i j) := by
  obtain ⟨e0, e1⟩ := idx4 t
  refine congrArg (V (F := Ideal) m c main_v5) (funext fun a => Fin.ext ?_)
  match a with
  | ⟨0, _⟩ => show win0_4.index t (0 : Fin 2) * 512 + 1 * i.val = i.val; omega
  | ⟨1, _⟩ => show win0_4.index t (1 : Fin 2) * 1024 + 1 * j.val = j.val; omega

theorem blk5 (c : Dev nD) (t : Fin cfg0.N) (i : Fin 1) (j : Fin 1024) :
    (iblk m c 5 t : Vec Ideal S1x1024 .f32) (ix2 i j) = V (F := Ideal) m c main_v12 (ix2 i j) := by
  obtain ⟨e0, e1⟩ := idx5 t
  refine congrArg (V (F := Ideal) m c main_v12) (funext fun a => Fin.ext ?_)
  match a with
  | ⟨0, _⟩ => show win0_5.index t (0 : Fin 2) * 1 + 1 * i.val = i.val; omega
  | ⟨1, _⟩ => show win0_5.index t (1 : Fin 2) * 1024 + 1 * j.val = j.val; omega

theorem blk6 (c : Dev nD) (t : Fin cfg0.N) (i : Fin 1) (j : Fin 1024) :
    (iblk m c 6 t : Vec Ideal S1x1024 .f32) (ix2 i j) = V (F := Ideal) m c main_v13 (ix2 i j) := by
  obtain ⟨e0, e1⟩ := idx6 t
  refine congrArg (V (F := Ideal) m c main_v13) (funext fun a => Fin.ext ?_)
  match a with
  | ⟨0, _⟩ => show win0_6.index t (0 : Fin 2) * 1 + 1 * i.val = i.val; omega
  | ⟨1, _⟩ => show win0_6.index t (1 : Fin 2) * 1024 + 1 * j.val = j.val; omega

theorem blk7 (c : Dev nD) (t : Fin cfg0.N) (i : Fin 1) (j : Fin 1024) :
    (iblk m c 7 t : Vec Ideal S1x1024 .f32) (ix2 i j) = V (F := Ideal) m c main_v14 (ix2 i j) := by
  obtain ⟨e0, e1⟩ := idx7 t
  refine congrArg (V (F := Ideal) m c main_v14) (funext fun a => Fin.ext ?_)
  match a with
  | ⟨0, _⟩ => show win0_7.index t (0 : Fin 2) * 1 + 1 * i.val = i.val; omega
  | ⟨1, _⟩ => show win0_7.index t (1 : Fin 2) * 1024 + 1 * j.val = j.val; omega

theorem blk8 (c : Dev nD) (t : Fin cfg0.N) (i : Fin 1024) (j : Fin 5632) :
    (iblk m c 8 t : Vec Ideal S1024x5632 .bf16) (ix2 i j) = V (F := Ideal) m c main_v0 (ix2 i j) := by
  obtain ⟨e0, e1⟩ := idx8 t
  refine congrArg (V (F := Ideal) m c main_v0) (funext fun a => Fin.ext ?_)
  match a with
  | ⟨0, _⟩ => show win0_8.index t (0 : Fin 2) * 1024 + 1 * i.val = i.val; omega
  | ⟨1, _⟩ => show win0_8.index t (1 : Fin 2) * 5632 + 1 * j.val = j.val; omega

theorem blk9 (c : Dev nD) (t : Fin cfg0.N) (i : Fin 2816) (j : Fin 1024) :
    (iblk m c 9 t : Vec Ideal S2816x1024 .bf16) (ix2 i j) = V (F := Ideal) m c main_v1 (ix2 i j) := by
  obtain ⟨e0, e1⟩ := idx9 t
  refine congrArg (V (F := Ideal) m c main_v1) (funext fun a => Fin.ext ?_)
  match a with
  | ⟨0, _⟩ => show win0_9.index t (0 : Fin 2) * 2816 + 1 * i.val = i.val; omega
  | ⟨1, _⟩ => show win0_9.index t (1 : Fin 2) * 1024 + 1 * j.val = j.val; omega

theorem emb10 (t : Fin cfg0.N) (i : Fin 256) (j : Fin 1024) :
    ((cfg0.win 10).blk t).view.emb (ix3 (0 : Fin 1) i j) = ix3 (0 : Fin 1) i j := by
  obtain ⟨e0, e1, e2⟩ := idx10 t
  refine funext fun a => Fin.ext ?_
  match a with
  | ⟨0, _⟩ => show win0_10.index t (0 : Fin 3) * 1 + 1 * 0 = 0; omega
  | ⟨1, _⟩ => show win0_10.index t (1 : Fin 3) * 256 + 1 * i.val = i.val; omega
  | ⟨2, _⟩ => show win0_10.index t (2 : Fin 3) * 1024 + 1 * j.val = j.val; omega

/-- The function of the arguments as launched. -/
abbrev Gm (c : Dev nD) : Vec Ideal S1x256x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem flushed_eq (c : Dev nD) (t : Fin cfg0.N) :
    (dats m 0 c).flushed 10 t = ((cfg0.win 10).blk t).view.read (Elt Ideal) (Gm m c) := by
  rw [flushed10]
  funext ij
  obtain ⟨i, j, rfl⟩ : ∃ (i : Fin 256) (j : Fin 1024), ij = ix3 (0 : Fin 1) i j := ⟨ij 1, ij 2, by
    funext a
    match a with
    | ⟨0, _⟩ => exact Fin.ext (by have h : (ij 0).val < 1 := (ij 0).isLt; show (ij 0).val = 0; omega)
    | ⟨1, _⟩ => rfl
    | ⟨2, _⟩ => rfl⟩
  show out0_10 (F := Ideal) _ _ _ _ _ _ _ _ _ _ (ix3 (0 : Fin 1) i j) = Gm m c (((cfg0.win 10).blk t).view.emb (ix3 (0 : Fin 1) i j))
  rw [SampleBlock.out_apply, emb10]
  exact half_congr (fun k => mix_congr (fun k => (blk0 m c t i k).trans (V_v9 m c i k)) (fun k => (blk1 m c t i k).trans (V_v10 m c i k)) (fun k => (blk2 m c t i k).trans (V_v11 m c i k))
      (fun k j => (blk3 m c t k j).trans (V_v3 m c k j)) (fun k j => (blk4 m c t k j).trans (V_v5 m c k j)) (fun k => (blk5 m c t 0 k).trans (V_v12 m c k)) k)
    (fun k => (blk6 m c t 0 k).trans (V_v13 m c k)) (fun k => (blk7 m c t 0 k).trans (V_v14 m c k))
    (fun k f => (blk8 m c t k f).trans (V_v0 m c k f)) (fun f k => (blk9 m c t f k).trans (V_v1 m c f k)) j

theorem covered (i : S1x256x1024.Idx) : ∃ t : Fin cfg0.N, (cfg0.win 10).flush t = true ∧ i ∈ ((cfg0.win 10).blk t).view.set := by
  let t : Fin cfg0.N := (⟨0, by decide⟩ : Fin grid0.N)
  refine ⟨t, flush0_10 t, ?_⟩
  have h := ((cfg0.win 10).blk t).view.emb_mem_set (ix3 (0 : Fin 1) (⟨(i 1).val, (i 1).isLt⟩ : Fin 256) (⟨(i 2).val, (i 2).isLt⟩ : Fin 1024))
  rw [emb10] at h
  have e : i = ix3 (0 : Fin 1) (⟨(i 1).val, (i 1).isLt⟩ : Fin 256) (⟨(i 2).val, (i 2).isLt⟩ : Fin 1024) := by
    funext a
    match a with
    | ⟨0, _⟩ => exact Fin.ext (by have h : (i 0).val < 1 := (i 0).isLt; show (i 0).val = 0; omega)
    | ⟨1, _⟩ => rfl
    | ⟨2, _⟩ => rfl
  rw [e]; exact h

theorem final (c : Dev nD) : (dats m 0 c).arrAt 10 cfg0.N = Gm m c :=
  (dats m 0 c).arrAt_eq_of_cover 10 (Gm m c) (fun t _ => flushed_eq m c t) covered

/-- The call's run, its result as the function of the arguments. -/
theorem run : θ_run defs (onTc (τ := τ) (main (F := Ideal))) ⟨m, fun _ => 0, ρ⟩ fun r => ∀ c : Dev nD,
      r.2.mem ((c : Thread nD τ).loc main_v15) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Proof.SampleValue

end
-- ==== Proof.SampleRefRows.lean ====
/- The plain output projection and second feed-forward part for the sample, read at an index: `Rows.half` of the `Rows.mix` of the rows. -/
module

public import proofs.«01_k».proof.Proof.Gen.SampleRefIdeal.Read
public import proofs.«01_k».proof.Proof.Rows
public import Idealize.ShloMosaic.Lib.IdealHost

@[expose] public section

noncomputable section

namespace Cert.Proof.SampleRefRows

open Cert.SampleRefIdeal Cert.SampleRefIdeal.Gen Cert.SampleRefIdeal.Read Idealize.ShloMosaic Idealize.ShloMosaic.ValueIdx
open Cert.Proof.Rows
open scoped BigOperators

/-- The joined columns: convolution values, then attention values. -/
theorem cat_left (x1 : Vec Ideal S8x32x512 .f32) (x2 : Vec Ideal S8x32x8x64 .f32) (b : Fin 8) (t : Fin 32) (k : Fin 512) :
    val_main_v1 (F := Ideal) x1 x2 (ix3 b t (Fin.castAdd 512 k)) = x1 (ix3 b t k) :=
  concatenate_pair_apply_left (t := S8x32x1024) (s₁ := S8x32x512) (s₂ := S8x32x512) 2 _ _ concatenates_S8x32x512_S8x32x512_S8x32x1024_d2 _ rfl (ix3 b t k) fun a => match a with
    | ⟨0, _⟩ => rfl | ⟨1, _⟩ => rfl | ⟨2, _⟩ => rfl

theorem cat_right (x1 : Vec Ideal S8x32x512 .f32) (x2 : Vec Ideal S8x32x8x64 .f32) (b : Fin 8) (t : Fin 32) (k : Fin 512) :
    val_main_v1 (F := Ideal) x1 x2 (ix3 b t (Fin.natAdd 512 k)) = x2 (ix4 b t (⟨k.val / 64, by omega⟩ : Fin 8) (⟨k.val % 64, by omega⟩ : Fin 64)) := by
  have h := concatenate_pair_apply_right (t := S8x32x1024) (s₁ := S8x32x512) (s₂ := S8x32x512) 2 x1 (val_main_v0 (F := Ideal) x2) concatenates_S8x32x512_S8x32x512_S8x32x1024_d2
    (ix3 b t (Fin.natAdd 512 k)) rfl rfl (ix3 b t k) (fun a ha => match a, ha with
      | ⟨0, _⟩, _ => rfl | ⟨1, _⟩, _ => rfl | ⟨2, _⟩, h => absurd rfl h) (by show k.val + 512 = 512 + k.val; omega)
  refine h.trans ?_
  rw [val_main_v0_apply]
  refine congrArg x2 (funext fun a => Fin.ext ?_)
  have := b.isLt
  have := t.isLt
  have := k.isLt
  match a with
  | ⟨0, _⟩ => show ((b.val * 32 + t.val) * 512 + k.val) / 16384 = b.val; omega
  | ⟨1, _⟩ => show ((b.val * 32 + t.val) * 512 + k.val) / 512 % 32 = t.val; omega
  | ⟨2, _⟩ => show ((b.val * 32 + t.val) * 512 + k.val) / 64 % 8 = k.val / 64; omega
  | ⟨3, _⟩ => show ((b.val * 32 + t.val) * 512 + k.val) % 64 = k.val % 64; omega

theorem proj_eq (x1 : Vec Ideal S8x32x512 .f32) (x2 : Vec Ideal S8x32x8x64 .f32) (x3 : Vec Ideal S1024x1024 .f32) (b : Fin 8) (t : Fin 32) (j : Fin 1024) :
    val_main_v2 (F := Ideal) x1 x2 x3 (ix3 b t j)
      = proj (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) j := by
  rw [val_main_v2_apply]
  have e : ∀ k : Fin 1024, lidx_main_v2 (ix3 b t j) k = ix3 b t k := fun k => by funext a; match a with | ⟨0, _⟩ => rfl | ⟨1, _⟩ => rfl | ⟨2, _⟩ => rfl
  have e' : ∀ k : Fin 1024, ridx_main_v2 (ix3 b t j) k = ix2 k j := fun k => by funext a; match a with | ⟨0, _⟩ => rfl | ⟨1, _⟩ => rfl
  simp only [e, e']
  refine (Fin.sum_univ_add (a := 512) (b := 512) fun k : Fin 1024 => val_main_v1 (F := Ideal) x1 x2 (ix3 b t k) * x3 (ix2 k j)).trans ?_
  refine congrArg₂ (· + ·) (Finset.sum_congr rfl fun k _ => ?_) (Finset.sum_congr rfl fun k _ => ?_)
  · exact congrArg (· * _) (cat_left x1 x2 b t k)
  · exact congrArg (· * _) (cat_right x1 x2 b t k)

theorem norm0 (x1 : Vec Ideal S8x32x512 .f32) (x2 : Vec Ideal S8x32x8x64 .f32) (x3 : Vec Ideal S1024x1024 .f32) (x4 : Vec Ideal S1024 .f32) (b : Fin 8) (t : Fin 32) (y : Row) (hy : ∀ k : Fin 1024, (val_main_v2 (F := Ideal) x1 x2 x3) (ix3 b t k) = y k) (j : Fin 1024) :
    val_main_v15 (F := Ideal) x1 x2 x3 x4 (ix3 b t j) = rms y (fun k => x4 (ix1 k)) j := by
  have e : ∀ k : Fin 1024, idx_main_v4 (idx_main_v5 (idx_main_v11 (ix3 b t j))) k = ix3 b t k := fun k => by
    funext a; match a with | ⟨0, _⟩ => rfl | ⟨1, _⟩ => rfl | ⟨2, _⟩ => rfl
  have eg : idx_main_v13 (idx_main_v14 (ix3 b t j)) = ix1 j := by
    funext a; match a with | ⟨0, _⟩ => rfl
  rw [val_main_v15_apply, val_main_v12_apply, val_main_v11_apply, val_main_v10_apply, val_main_v9_apply, val_main_v7_apply, val_main_v5_apply, val_main_v4_apply,
    val_main_v6_apply, val_main_v8_apply, val_main_v14_apply, val_main_v13_apply, val_main_cst_apply, val_main_cst_0_apply, val_main_cst_1_apply, eg, hy j]
  simp only [val_main_v3_apply, e, hy]
  have z : (FloatOps.ofBits (F := Ideal) .f32 0x00000000#32) = (0 : EReal) := Ideal.ofBits_zero_f32
  rw [z, zero_add]
  rfl

theorem mix_eq (x0 : Vec Ideal S8x32x1024 .f32) (x1 : Vec Ideal S8x32x512 .f32) (x2 : Vec Ideal S8x32x8x64 .f32) (x3 : Vec Ideal S1024x1024 .f32) (x4 : Vec Ideal S1024 .f32) (b : Fin 8) (t : Fin 32) (j : Fin 1024) :
    val_main_v16 (F := Ideal) x0 x1 x2 x3 x4 (ix3 b t j)
      = mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)) j := by
  rw [val_main_v16_apply, norm0 x1 x2 x3 x4 b t _ (proj_eq x1 x2 x3 b t) j]
  rfl

theorem norm1 (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v16 (F := Ideal) x0 x1 x2 x3 x4) (ix3 b t k) = y k) (j : Fin 1024) :
    val_main_v29 (F := Ideal) x0 x1 x2 x3 x4 x5 (ix3 b t j) = rms y (fun k => x5 (ix1 k)) j := by
  have e : ∀ k : Fin 1024, idx_main_v18 (idx_main_v19 (idx_main_v25 (ix3 b t j))) k = ix3 b t k := fun k => by
    funext a; match a with | ⟨0, _⟩ => rfl | ⟨1, _⟩ => rfl | ⟨2, _⟩ => rfl
  have eg : idx_main_v27 (idx_main_v28 (ix3 b t j)) = ix1 j := by
    funext a; match a with | ⟨0, _⟩ => rfl
  rw [val_main_v29_apply, val_main_v26_apply, val_main_v25_apply, val_main_v24_apply, val_main_v23_apply, val_main_v21_apply, val_main_v19_apply, val_main_v18_apply,
    val_main_v20_apply, val_main_v22_apply, val_main_v28_apply, val_main_v27_apply, val_main_cst_2_apply, val_main_cst_3_apply, val_main_cst_4_apply, eg, hy j]
  simp only [val_main_v17_apply, e, hy]
  have z : (FloatOps.ofBits (F := Ideal) .f32 0x00000000#32) = (0 : EReal) := Ideal.ofBits_zero_f32
  rw [z, zero_add]
  rfl

theorem hid_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v16 (F := Ideal) x0 x1 x2 x3 x4) (ix3 b t k) = y k) (c : Fin 5632) :
    val_main_v30 (F := Ideal) x0 x1 x2 x3 x4 x5 x7 (ix3 b t c) = hid (rms y (fun k => x5 (ix1 k))) (fun k c => x7 (ix2 k c)) c := by
  rw [val_main_v30_apply]
  refine Finset.sum_congr rfl fun k _ => ?_
  have e : lidx_main_v30 (ix3 b t c) k = ix3 b t k := by funext a; match a with | ⟨0, _⟩ => rfl | ⟨1, _⟩ => rfl | ⟨2, _⟩ => rfl
  have e' : ridx_main_v30 (ix3 b t c) k = ix2 k c := by funext a; match a with | ⟨0, _⟩ => rfl | ⟨1, _⟩ => rfl
  rw [e, e', norm1 x0 x1 x2 x3 x4 x5 x6 x7 x8 b t y hy k]

theorem act_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v16 (F := Ideal) x0 x1 x2 x3 x4) (ix3 b t k) = y k) (f : Fin 2816) :
    val_main_v34 (F := Ideal) x0 x1 x2 x3 x4 x5 x7 (ix3 b t f) = act (rms y (fun k => x5 (ix1 k))) (fun k c => x7 (ix2 k c)) f := by
  have e : idx_main_v31 (ix3 b t f) = ix3 b t ⟨f.val, by omega⟩ := by funext a; match a with | ⟨0, _⟩ => rfl | ⟨1, _⟩ => rfl | ⟨2, _⟩ => rfl
  have e' : idx_main_v32 (ix3 b t f) = ix3 b t ⟨2816 + f.val, by omega⟩ := by funext a; match a with | ⟨0, _⟩ => rfl | ⟨1, _⟩ => rfl | ⟨2, _⟩ => rfl
  rw [val_main_v34_apply, val_main_v33_apply, val_main_call0_v5_apply, val_main_call0_v3_apply, val_main_call0_v1_apply, val_main_call0_v0_apply,
    val_main_call0_v4_apply, val_main_call0_v2_apply, val_main_call0_cst_apply, val_main_call0_cst_0_apply, val_main_v31_apply, val_main_v32_apply, e, e',
    hid_eq x0 x1 x2 x3 x4 x5 x6 x7 x8 b t y hy, hid_eq x0 x1 x2 x3 x4 x5 x6 x7 x8 b t y hy]
  have z : (FloatOps.ofBits (F := Ideal) .f32 0x3F800000#32) = (1 : EReal) := Ideal.ofBits_one_f32
  rw [z]
  rfl

theorem down_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v16 (F := Ideal) x0 x1 x2 x3 x4) (ix3 b t k) = y k) (j : Fin 1024) :
    val_main_v35 (F := Ideal) x0 x1 x2 x3 x4 x5 x7 x8 (ix3 b t j) = down (act (rms y (fun k => x5 (ix1 k))) (fun k c => x7 (ix2 k c))) (fun f j => x8 (ix2 f j)) j := by
  rw [val_main_v35_apply]
  refine Finset.sum_congr rfl fun k _ => ?_
  have e : lidx_main_v35 (ix3 b t j) k = ix3 b t k := by funext a; match a with | ⟨0, _⟩ => rfl | ⟨1, _⟩ => rfl | ⟨2, _⟩ => rfl
  have e' : ridx_main_v35 (ix3 b t j) k = ix2 k j := by funext a; match a with | ⟨0, _⟩ => rfl | ⟨1, _⟩ => rfl
  rw [e, e', act_eq x0 x1 x2 x3 x4 x5 x6 x7 x8 b t y hy k]

theorem norm2 (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v35 (F := Ideal) x0 x1 x2 x3 x4 x5 x7 x8) (ix3 b t k) = y k) (j : Fin 1024) :
    val_main_v48 (F := Ideal) x0 x1 x2 x3 x4 x5 x6 x7 x8 (ix3 b t j) = rms y (fun k => x6 (ix1 k)) j := by
  have e : ∀ k : Fin 1024, idx_main_v37 (idx_main_v38 (idx_main_v44 (ix3 b t j))) k = ix3 b t k := fun k => by
    funext a; match a with | ⟨0, _⟩ => rfl | ⟨1, _⟩ => rfl | ⟨2, _⟩ => rfl
  have eg : idx_main_v46 (idx_main_v47 (ix3 b t j)) = ix1 j := by
    funext a; match a with | ⟨0, _⟩ => rfl
  rw [val_main_v48_apply, val_main_v45_apply, val_main_v44_apply, val_main_v43_apply, val_main_v42_apply, val_main_v40_apply, val_main_v38_apply, val_main_v37_apply,
    val_main_v39_apply, val_main_v41_apply, val_main_v47_apply, val_main_v46_apply, val_main_cst_5_apply, val_main_cst_6_apply, val_main_cst_7_apply, eg, hy j]
  simp only [val_main_v36_apply, e, hy]
  have z : (FloatOps.ofBits (F := Ideal) .f32 0x00000000#32) = (0 : EReal) := Ideal.ofBits_zero_f32
  rw [z, zero_add]
  rfl

theorem half_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (y : Row) (hy : ∀ k : Fin 1024, (val_main_v16 (F := Ideal) x0 x1 x2 x3 x4) (ix3 b t k) = y k) (j : Fin 1024) :
    val_main_v51 (F := Ideal) x0 x1 x2 x3 x4 x5 x6 x7 x8 (ix3 b t j) = half y (fun k => x5 (ix1 k)) (fun k => x6 (ix1 k)) (fun k c => x7 (ix2 k c)) (fun f j => x8 (ix2 f j)) j := by
  rw [val_main_v51_apply, val_main_v50_apply, val_main_v49_apply, val_main_cst_8_apply,
    norm2 x0 x1 x2 x3 x4 x5 x6 x7 x8 b t _ (down_eq x0 x1 x2 x3 x4 x5 x6 x7 x8 b t y hy) j]
  exact congrArg (· + _) (hy j)

theorem block_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (b : Fin 8) (t : Fin 32) (j : Fin 1024) :
    val_main_v51 (F := Ideal) x0 x1 x2 x3 x4 x5 x6 x7 x8 (ix3 b t j)
      = half (mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)))
          (fun k => x5 (ix1 k)) (fun k => x6 (ix1 k)) (fun k c => x7 (ix2 k c)) (fun f j => x8 (ix2 f j)) j :=
  half_eq x0 x1 x2 x3 x4 x5 x6 x7 x8 b t _ (mix_eq x0 x1 x2 x3 x4 b t) j

theorem result_eq (x0 : Vec Ideal S8x32x1024 .f32) (x1 : Vec Ideal S8x32x512 .f32) (x2 : Vec Ideal S8x32x8x64 .f32) (x3 : Vec Ideal S1024x1024 .f32) (x4 x5 x6 : Vec Ideal S1024 .f32) (x7 : Vec Ideal S1024x5632 .f32) (x8 : Vec Ideal S2816x1024 .f32) (r : Fin 256) (j : Fin 1024) :
    val_main_v52 (F := Ideal) x0 x1 x2 x3 x4 x5 x6 x7 x8 (ix3 (0 : Fin 1) r j)
      = half (mix (fun k => x0 (ix3 (⟨r.val / 32, by omega⟩ : Fin 8) (⟨r.val % 32, by omega⟩ : Fin 32) k)) (fun k => x1 (ix3 (⟨r.val / 32, by omega⟩ : Fin 8) (⟨r.val % 32, by omega⟩ : Fin 32) k)) (fun k => x2 (ix4 (⟨r.val / 32, by omega⟩ : Fin 8) (⟨r.val % 32, by omega⟩ : Fin 32) (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)))
          (fun k => x5 (ix1 k)) (fun k => x6 (ix1 k)) (fun k c => x7 (ix2 k c)) (fun f j => x8 (ix2 f j)) j := by
  rw [val_main_v52_apply]
  refine Eq.trans (congrArg (val_main_v51 (F := Ideal) x0 x1 x2 x3 x4 x5 x6 x7 x8) (funext fun a => Fin.ext ?_)) (block_eq x0 x1 x2 x3 x4 x5 x6 x7 x8 (⟨r.val / 32, by omega⟩ : Fin 8) (⟨r.val % 32, by omega⟩ : Fin 32) j)
  have := r.isLt
  have := j.isLt
  match a with
  | ⟨0, _⟩ => show ((0 * 256 + r.val) * 1024 + j.val) / 32768 = r.val / 32; omega
  | ⟨1, _⟩ => show ((0 * 256 + r.val) * 1024 + j.val) / 1024 % 32 = r.val % 32; omega
  | ⟨2, _⟩ => show ((0 * 256 + r.val) * 1024 + j.val) % 1024 = j.val; omega

end Cert.Proof.SampleRefRows

end
-- ==== Proof.OutBlock.lean ====
/- One grid point of the second feed-forward call: the block it leaves is `Rows.half` of the `Rows.mix` of its rows. -/
module

public import proofs.«01_k».proof.Proof.Gen.OutFfnIdeal.Value
public import proofs.«01_k».proof.Proof.Rows

@[expose] public section

noncomputable section

namespace Cert.Proof.OutBlock

open Cert.OutFfnIdeal Cert.OutFfnIdeal.Gen Idealize.ShloMosaic Idealize.ShloMosaic.ValueIdx
open Cert.Proof.Rows
open scoped BigOperators

theorem d1 : dot_S512x1024_S1024x512_S512x512_1_0_0_1_n_n = DotDims.plain 512 1024 512 := rfl
theorem d2 : dot_S512x512_S512x1024_S512x1024_1_0_0_1_n_n = DotDims.plain 512 512 1024 := rfl
theorem d3 : dot_S512x1024_S1024x256_S512x256_1_0_0_1_n_n = DotDims.plain 512 1024 256 := rfl
theorem d4 : dot_S512x256_S256x1024_S512x1024_1_0_0_1_n_n = DotDims.plain 512 256 1024 := rfl

variable (x0 : Vec Ideal S1x512x1024 .f32) (x1 x2 : Vec Ideal S1x512x512 .bf16) (x3 x4 : Vec Ideal S512x1024 .bf16)
  (x5 x6 x7 : Vec Ideal S1x1024 .f32) (x8 : Vec Ideal S1024x5632 .bf16) (x9 : Vec Ideal S2816x1024 .bf16)

/-- The loads. -/
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl
theorem ld0 (x : Vec Ideal S1x512x512 .bf16) : View.ld x r0_0 = x := View.ld_unit_zero (S := S1x512x512) hz3 _ x
theorem ld1 (x : Vec Ideal S512x1024 .bf16) : View.ld x r0_1 = x := View.ld_unit_zero (S := S512x1024) hz2 _ x
theorem ld2 (x : Vec Ideal S1x512x1024 .f32) : View.ld x r0_2 = x := View.ld_unit_zero (S := S1x512x1024) hz3 _ x
theorem ld3 (x : Vec Ideal S1x1024 .f32) : View.ld x r0_3 = x := View.ld_unit_zero (S := S1x1024) hz2 _ x

theorem ld_up {n off : ℕ} (inb : ∀ a, (![0, off] : Fin 2 → ℕ) a + (![1024, n] : Fin 2 → ℕ) a ≤ S1024x5632.size a) (o : ℕ) (ho : o + n ≤ 5632)
    (h : off = o) (k : Fin 1024) (f : Fin n) :
    View.ld x8 (Rect.unit (s := S1024x5632) ![0, off] ![1024, n] inb) (ix2 k f) = x8 (ix2 k ⟨o + f.val, by omega⟩) := by
  subst h
  refine congrArg x8 (funext fun a => Fin.ext ?_)
  match a with
  | ⟨0, _⟩ => show 0 + 1 * k.val = k.val; omega
  | ⟨1, _⟩ => show off + 1 * f.val = off + f.val; omega

theorem ld_down {n off : ℕ} (inb : ∀ a, (![off, 0] : Fin 2 → ℕ) a + (![n, 1024] : Fin 2 → ℕ) a ≤ S2816x1024.size a) (ho : off + n ≤ 2816)
    (f : Fin n) (j : Fin 1024) :
    View.ld x9 (Rect.unit (s := S2816x1024) ![off, 0] ![n, 1024] inb) (ix2 f j) = x9 (ix2 ⟨off + f.val, by omega⟩ j) := by
  refine congrArg x9 (funext fun a => Fin.ext ?_)
  match a with
  | ⟨0, _⟩ => show off + 1 * f.val = off + f.val; omega
  | ⟨1, _⟩ => show 0 + 1 * j.val = j.val; omega

/-- A matrix by another, both contracted on their rows, into a zero accumulator. -/
theorem dot_tn_apply (a : FVec Ideal S512x512 .bf16) (b : FVec Ideal S512x1024 .bf16) (i : Fin 512) (j : Fin 1024) :
    matmul dot_S512x512_S512x1024_S512x1024_0_0_1_1_n_n none a b (constant S512x1024 .f32 0x00000000#32) (ix2 i j)
      = ∑ k : Fin 512, a (ix2 k i) * b (ix2 k j) := by
  refine (Ideal.matmul_constant_zero_apply dot_S512x512_S512x1024_S512x1024_0_0_1_1_n_n none a b (ix2 i j)).trans ?_
  rw [← Equiv.sum_comp (ValueIdx.contrEquiv1 dot_S512x512_S512x1024_S512x1024_0_0_1_1_n_n 512 rfl rfl).symm]
  refine Finset.sum_congr rfl fun k _ => ?_
  have hk := ValueIdx.contrEquiv1_symm_val dot_S512x512_S512x1024_S512x1024_0_0_1_1_n_n 512 rfl rfl k
  have el : dot_S512x512_S512x1024_S512x1024_0_0_1_1_n_n.lhsIdx (ix2 i j) ((ValueIdx.contrEquiv1 dot_S512x512_S512x1024_S512x1024_0_0_1_1_n_n 512 rfl rfl).symm k) = ix2 k i := funext fun a => Fin.ext (by
    match a with
    | ⟨0, _⟩ => exact (dot_S512x512_S512x1024_S512x1024_0_0_1_1_n_n.lhsIdx_val_of_single rfl _ _).trans hk
    | ⟨1, _⟩ => exact (by
        unfold DotDims.lhsIdx
        rw [dif_neg (show ¬(1 : Fin S512x512.rank) ∈ dot_S512x512_S512x1024_S512x1024_0_0_1_1_n_n.lhsBatch by decide), dif_pos (show (1 : Fin S512x512.rank) ∈ dot_S512x512_S512x1024_S512x1024_0_0_1_1_n_n.lhsNonContracting by decide)]
        rfl : (dot_S512x512_S512x1024_S512x1024_0_0_1_1_n_n.lhsIdx (ix2 i j) _ 1).val = i.val))
  have er : dot_S512x512_S512x1024_S512x1024_0_0_1_1_n_n.rhsIdx (ix2 i j) ((ValueIdx.contrEquiv1 dot_S512x512_S512x1024_S512x1024_0_0_1_1_n_n 512 rfl rfl).symm k) = ix2 k j := funext fun a => Fin.ext (by
    match a with
    | ⟨0, _⟩ => exact (dot_S512x512_S512x1024_S512x1024_0_0_1_1_n_n.rhsIdx_val_of_single rfl _ _).trans hk
    | ⟨1, _⟩ => exact (by
        unfold DotDims.rhsIdx
        rw [dif_neg (show ¬(1 : Fin S512x1024.rank) ∈ dot_S512x512_S512x1024_S512x1024_0_0_1_1_n_n.rhsBatch by decide), dif_pos (show (1 : Fin S512x1024.rank) ∈ dot_S512x512_S512x1024_S512x1024_0_0_1_1_n_n.rhsNonContracting by decide)]
        rfl : (dot_S512x512_S512x1024_S512x1024_0_0_1_1_n_n.rhsIdx (ix2 i j) _ 1).val = j.val))
  rw [el, er]

/-- The two products, added. -/
def prod (v0 : Vec Ideal S1x512x512 .bf16) (v2 : Vec Ideal S512x1024 .bf16) (v5 : Vec Ideal S1x512x512 .bf16) (v7 : Vec Ideal S512x1024 .bf16) : FVec Ideal S512x1024 .f32 :=
  addf (matmul (F := Ideal) (φ₁ := .bf16) (φ₂ := .bf16) dot_S512x512_S512x1024_S512x1024_1_0_0_1_n_n none (shapeCast S512x512 v0 shapeCasts_S1x512x512_S512x512 : FVec Ideal S512x512 .bf16) v2 (constant S512x1024 .f32 0x00000000#32))
    (matmul (F := Ideal) (φ₁ := .bf16) (φ₂ := .bf16) dot_S512x512_S512x1024_S512x1024_0_0_1_1_n_n none (shapeCast S512x512 v5 shapeCasts_S1x512x512_S512x512 : FVec Ideal S512x512 .bf16) v7 (constant S512x1024 .f32 0x00000000#32))

theorem prod_apply (v0 : Vec Ideal S1x512x512 .bf16) (v2 : Vec Ideal S512x1024 .bf16) (v5 : Vec Ideal S1x512x512 .bf16) (v7 : Vec Ideal S512x1024 .bf16) (i : Fin 512) (j : Fin 1024) :
    prod v0 v2 v5 v7 (ix2 i j) = proj (fun k => v0 (ix3 (0 : Fin 1) i k)) (fun k => v5 (ix3 (0 : Fin 1) k i)) (fun k j => v2 (ix2 k j)) (fun k j => v7 (ix2 k j)) j := by
  unfold prod
  rw [addf_apply]
  refine congrArg₂ (· + ·) ((dot_apply (φ₁ := .bf16) (φ₂ := .bf16) _ d2 _ _ i j).trans (Finset.sum_congr rfl fun k _ => ?_)) ((dot_tn_apply _ _ i j).trans (Finset.sum_congr rfl fun k _ => ?_))
  · exact congrArg (· * v2 (ix2 k j)) (shapeCast_1ab_ab_apply v0 _ i k)
  · exact congrArg (· * v7 (ix2 k j)) (shapeCast_1ab_ab_apply v5 _ k i)

theorem pay1_apply (v0 : Vec Ideal S1x512x512 .bf16) (v2 : Vec Ideal S512x1024 .bf16) (v5 : Vec Ideal S1x512x512 .bf16) (v7 : Vec Ideal S512x1024 .bf16)
    (v11 : Vec Ideal S1x512x1024 .f32) (v13 : Vec Ideal S1x1024 .f32) (i : Fin 512) (j : Fin 1024) :
    k0_pay1 (F := Ideal) v0 v2 v5 v7 v11 v13 (ix2 i j)
      = mix (fun k => v11 (ix3 (0 : Fin 1) i k)) (fun k => v0 (ix3 (0 : Fin 1) i k)) (fun k => v5 (ix3 (0 : Fin 1) k i)) (fun k j => v2 (ix2 k j)) (fun k j => v7 (ix2 k j))
          (fun k => v13 (ix2 (0 : Fin 1) k)) j := by
  have h : k0_pay1 (F := Ideal) v0 v2 v5 v7 v11 v13
      = addf (shapeCast S512x1024 v11 shapeCasts_S1x512x1024_S512x1024 : FVec Ideal S512x1024 .f32) (mulf (mulf (prod v0 v2 v5 v7)
          (broadcastTo S512x1024 (rsqrt (addf (divf (shapeCast S512x1
        (multiReduction .add [1] S512 (mulf (prod v0 v2 v5 v7) (prod v0 v2 v5 v7)) 0x00000000#32 reduces_S512x1024_S512 (.inl rfl) rfl) shapeCasts_S512_S512x1)
        (broadcast S512x1 (Scalar.ofBits .f32 0x44800000#32)))
        (broadcast S512x1 (Scalar.ofBits .f32 0x358637BD#32)))) broadcasts_S512x1_S512x1024)) (broadcastTo S512x1024 v13 broadcasts_S1x1024_S512x1024)) := by
    unfold k0_pay1 prod
    dsimp only
    simp only [cast_self]
  rw [h, addf_apply, mulf_apply, mulf_apply]
  refine (congrArg₂ (· + ·) (shapeCast_1ab_ab_apply v11 _ i j) (congrArg₂ (· * ·)
    (congrArg (prod v0 v2 v5 v7 (ix2 i j) * ·) (inv_apply (prod v0 v2 v5 v7) _ _ _ _ _ i j)) (broadcastTo_1b_ab_apply v13 _ i j))).trans ?_
  simp only [prod_apply]
  rfl

/-- Rows normed. -/
theorem pay5_apply (v : FVec Ideal S512x1024 .f32) (g : Vec Ideal S1x1024 .f32) (i : Fin 512) (y : Row) (hy : ∀ k, v (ix2 i k) = y k) (j : Fin 1024) :
    k0_pay5 (F := Ideal) v g (mulf v v) (ix2 i j) = rms y (fun k => g (ix2 (0 : Fin 1) k)) j := by
  unfold k0_pay5
  dsimp only
  rw [truncf_apply, mulf_apply, mulf_apply]
  refine (congrArg₂ (· * ·) (congrArg (v (ix2 i j) * ·) (inv_apply v _ _ _ _ _ i j)) (broadcastTo_1b_ab_apply g _ i j)).trans ?_
  simp only [hy]
  rfl

/-- The running sum over the six chunks. -/
def acc (xn : FVec Ideal S512x1024 .bf16) : FVec Ideal S512x1024 .f32 :=
  let ch (n : ℕ) (d1 : DotDims ⟨2, ![512, 1024]⟩ ⟨2, ![1024, n]⟩ ⟨2, ![512, n]⟩) (d2 : DotDims ⟨2, ![512, n]⟩ ⟨2, ![n, 1024]⟩ ⟨2, ![512, 1024]⟩)
      (wg wu : FVec Ideal ⟨2, ![1024, n]⟩ .bf16) (wd : FVec Ideal ⟨2, ![n, 1024]⟩ .bf16) : FVec Ideal S512x1024 .f32 :=
    matmul d2 none (truncf .bf16 (mulf (mulf (matmul d1 none xn wg (constant ⟨2, ![512, n]⟩ .f32 0x00000000#32))
        (logistic (matmul d1 none xn wg (constant ⟨2, ![512, n]⟩ .f32 0x00000000#32))))
        (matmul d1 none xn wu (constant ⟨2, ![512, n]⟩ .f32 0x00000000#32))) bitsLt_bf16_f32) wd
        (constant ⟨2, ![512, 1024]⟩ .f32 0x00000000#32)
  let c512 := ch 512 dot_S512x1024_S1024x512_S512x512_1_0_0_1_n_n dot_S512x512_S512x1024_S512x1024_1_0_0_1_n_n
  addf (addf (addf (addf (addf
    (c512 (View.ld x8 r0_4) (View.ld x8 r0_5) (View.ld x9 r0_6))
    (c512 (View.ld x8 r0_7) (View.ld x8 r0_8) (View.ld x9 r0_9)))
    (c512 (View.ld x8 r0_10) (View.ld x8 r0_11) (View.ld x9 r0_12)))
    (c512 (View.ld x8 r0_13) (View.ld x8 r0_14) (View.ld x9 r0_15)))
    (c512 (View.ld x8 r0_16) (View.ld x8 r0_17) (View.ld x9 r0_18)))
    (ch 256 dot_S512x1024_S1024x256_S512x256_1_0_0_1_n_n dot_S512x256_S256x1024_S512x1024_1_0_0_1_n_n
      (View.ld x8 r0_19) (View.ld x8 r0_20) (View.ld x9 r0_21))

theorem acc_apply (xn : FVec Ideal S512x1024 .bf16) (i : Fin 512) (y : Row) (hy : ∀ k, xn (ix2 i k) = y k) (j : Fin 1024) :
    acc x8 x9 xn (ix2 i j) = down (act y
      (fun k c => x8 (ix2 k c))) (fun f j => x9 (ix2 f j)) j := by
  unfold acc down
  rw [sum_chunks]
  dsimp only
  simp only [addf_apply]
  refine congrArg₂ (· + ·) (congrArg₂ (· + ·) (congrArg₂ (· + ·) (congrArg₂ (· + ·) (congrArg₂ (· + ·) ?_ ?_) ?_) ?_) ?_) ?_
  · exact chunk_act (by decide) _ d1 _ d2 _ _ _ _ _ i j _ (fun k c => x8 (ix2 k c)) (fun f j => x9 (ix2 f j)) hy
      (fun k f => ld_up x8 _ 0 (by decide) rfl k f)
      (fun k f => (ld_up x8 _ 2816 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 512 (by decide) rfl k f)
      (fun k f => (ld_up x8 _ 3328 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 1024 (by decide) rfl k f)
      (fun k f => (ld_up x8 _ 3840 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 1536 (by decide) rfl k f)
      (fun k f => (ld_up x8 _ 4352 (by decide) rfl k f).trans (congrArg (fun c => x8 (ix2 k c)) (Fin.ext (by show _ = _; dsimp only; omega))))
      (fun f => ld_down x9 _ (by decide) f j)
  · exact chunk_act (by decide) _ d1 _ d2 _ _ _ _ _ i j _ (fun k c => x8 (ix2 k c)) (fun f j => x9 (ix2 f j)) hy
      (fun k f => ld_up x8 _ 2048 (by decide) rfl k f)
      (fun k f => (ld_up x8 _ 4864 (by decide) rfl k f).trans (congrArg (fun c => x8 (ix2 k c)) (Fin.ext (by show _ = _; dsimp only; omega))))
      (fun f => ld_down x9 _ (by decide) f j)
  · exact chunk_act (by decide) _ d3 _ d4 _ _ _ _ _ i j _ (fun k c => x8 (ix2 k c)) (fun f j => x9 (ix2 f j)) hy
      (fun k f => ld_up x8 _ 2560 (by decide) rfl k f)
      (fun k f => (ld_up x8 _ 5376 (by decide) rfl k f).trans (congrArg (fun c => x8 (ix2 k c)) (Fin.ext (by show _ = _; dsimp only; omega))))
      (fun f => ld_down x9 _ (by decide) f j)

/-- The block the body leaves, read at an index. -/
theorem out_apply (i : Fin 512) (j : Fin 1024) :
    out0_10 (F := Ideal) x0 x1 x2 x3 x4 x5 x6 x7 x8 x9 (ix3 (0 : Fin 1) i j)
      = half (mix (fun k => x0 (ix3 (0 : Fin 1) i k)) (fun k => x1 (ix3 (0 : Fin 1) i k)) (fun k => x2 (ix3 (0 : Fin 1) k i)) (fun k j => x3 (ix2 k j)) (fun k j => x4 (ix2 k j))
          (fun k => x5 (ix2 (0 : Fin 1) k))) (fun k => x6 (ix2 (0 : Fin 1) k)) (fun k => x7 (ix2 (0 : Fin 1) k))
          (fun k c => x8 (ix2 k c)) (fun f j => x9 (ix2 f j)) j := by
  unfold out0_10 k0_pay13 k0_pay12 k0_pay11 k0_pay10
  rw [View.canon_unit_zero (S := S1x512x1024) hz3]
  simp only [ld0, ld1, ld2, ld3]
  have hP := pay1_apply x1 x3 x2 x4 x0 x5 i
  unfold k0_pay4
  dsimp only
  generalize k0_pay1 (F := Ideal) x1 x3 x2 x4 x0 x5 = P at hP ⊢
  have hX := pay5_apply P x6 i _ hP
  have h6 : k0_pay2 (F := Ideal) x6 = x6 := by unfold k0_pay2; dsimp only; rw [cast_self]
  have h7 : k0_pay3 (F := Ideal) x7 = x7 := by unfold k0_pay3; dsimp only; rw [cast_self]
  rw [h6, h7]
  unfold k0_pay6
  dsimp only
  generalize k0_pay5 (F := Ideal) P x6 (mulf P P) = X at hX ⊢
  have hA' := acc_apply x8 x9 X i _ hX
  generalize hA : acc x8 x9 X = A at hA' ⊢
  have h : ∀ (L : FVec Ideal S1x512x1024 .f32), L = shapeCast S1x512x1024 (addf P (mulf (broadcast S512x1024 (Scalar.ofBits .f32 0x3F000000#32)) (mulf (mulf A
          (broadcastTo S512x1024 (rsqrt (addf (divf (shapeCast S512x1
        (multiReduction .add [1] S512 (mulf A A) 0x00000000#32 reduces_S512x1024_S512 (.inl rfl) rfl) shapeCasts_S512_S512x1)
        (broadcast S512x1 (Scalar.ofBits .f32 0x44800000#32)))
        (broadcast S512x1 (Scalar.ofBits .f32 0x358637BD#32)))) broadcasts_S512x1_S512x1024)) (broadcastTo S512x1024 x7 broadcasts_S1x1024_S512x1024)))) shapeCasts_S512x1024_S1x512x1024 →
      L (ix3 (0 : Fin 1) i j) = half (mix (fun k => x0 (ix3 (0 : Fin 1) i k)) (fun k => x1 (ix3 (0 : Fin 1) i k)) (fun k => x2 (ix3 (0 : Fin 1) k i)) (fun k j => x3 (ix2 k j)) (fun k j => x4 (ix2 k j))
          (fun k => x5 (ix2 (0 : Fin 1) k))) (fun k => x6 (ix2 (0 : Fin 1) k)) (fun k => x7 (ix2 (0 : Fin 1) k))
          (fun k c => x8 (ix2 k c)) (fun f j => x9 (ix2 f j)) j := by
    rintro L rfl
    refine (shapeCast_ab_1ab_apply _ _ (0 : Fin 1) i j).trans ?_
    rw [addf_apply, mulf_apply, mulf_apply, mulf_apply]
    refine (congrArg (fun z => P (ix2 i j) + Ideal.ofBits .f32 0x3F000000#32 * z) (congrArg₂ (· * ·)
      (congrArg (A (ix2 i j) * ·) (inv_apply A _ _ _ _ _ i j)) (broadcastTo_1b_ab_apply x7 _ i j))).trans ?_
    simp only [hA', hP]
    rfl
  refine h _ ?_
  rw [← hA]
  unfold k0_pay9 k0_pay7 k0_pay8 acc
  dsimp only
  simp only [cast_self]

end Cert.Proof.OutBlock

end
-- ==== Proof.OutValue.lean ====
/- The array the second feed-forward call leaves, as one function of the arguments, and the call's run with it. -/
module

public import proofs.«01_k».proof.Proof.OutBlock

@[expose] public section

noncomputable section

namespace Cert.Proof.OutValue

open Cert.OutFfnIdeal Cert.OutFfnIdeal.Gen Cert.OutFfnIdeal.Value Idealize.ShloMosaic Idealize.ShloMosaic.TcCoe Idealize.SL.Sem
open Idealize.ShloMosaic.ValueIdx Idealize.ShloMosaic.StableHlo
open Cert.Proof.Rows

/-- The result's row as one function of the arguments. -/
def row (x0 : Vec Ideal S16x2048x1024 .f32) (x1 : Vec Ideal S16x2048x512 .f32) (x2 : Vec Ideal S16x2048x8x64 .f32) (x3 : Vec Ideal S1024x1024 .f32) (x4 x5 x6 : Vec Ideal S1024 .f32)
    (x7 : Vec Ideal S1024x5632 .f32) (x8 : Vec Ideal S2816x1024 .f32) (b : Fin 16) (t : Fin 2048) : Row :=
  half (mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)))
    (fun k => x5 (ix1 k)) (fun k => x6 (ix1 k)) (fun k c => x7 (ix2 k c)) (fun f j => x8 (ix2 f j))

/-- The result, a row at a time. -/
def G (x0 : Vec Ideal S16x2048x1024 .f32) (x1 : Vec Ideal S16x2048x512 .f32) (x2 : Vec Ideal S16x2048x8x64 .f32) (x3 : Vec Ideal S1024x1024 .f32) (x4 x5 x6 : Vec Ideal S1024 .f32)
    (x7 : Vec Ideal S1024x5632 .f32) (x8 : Vec Ideal S2816x1024 .f32) : Vec Ideal S16x2048x1024 .f32 := fun i =>
  row x0 x1 x2 x3 x4 x5 x6 x7 x8 ⟨(i 0).val, (i 0).isLt⟩ ⟨(i 1).val, (i 1).isLt⟩ ⟨(i 2).val, (i 2).isLt⟩

variable (m : (ℓ : Loc nD τ sig) → Buf (Elt Ideal) ℓ) (ρ : Dev nD → PrngReg)

/-! ## The arrays the host code makes -/

theorem V_v0 (c : Dev nD) (k : Fin 1024) (f : Fin 5632) : V (F := Ideal) m c main_v0 (ix2 k f) = m ((c : Thread nD τ).loc main_arg7) (ix2 k f) := by
  have h : V (F := Ideal) m c main_v0 = truncf (F := Ideal) (s := S1024x5632) (φ := .f32) .bf16 (m ((c : Thread nD τ).loc main_arg7)) bitsLt_bf16_f32 := by
    dsimp only [V, hostOps0]
    after_results
  rw [h]; rfl

theorem V_v1 (c : Dev nD) (k : Fin 2816) (f : Fin 1024) : V (F := Ideal) m c main_v1 (ix2 k f) = m ((c : Thread nD τ).loc main_arg8) (ix2 k f) := by
  have h : V (F := Ideal) m c main_v1 = truncf (F := Ideal) (s := S2816x1024) (φ := .f32) .bf16 (m ((c : Thread nD τ).loc main_arg8)) bitsLt_bf16_f32 := by
    dsimp only [V, hostOps0]
    after_results
  rw [h]; rfl

theorem V_v3 (c : Dev nD) (k : Fin 512) (j : Fin 1024) : V (F := Ideal) m c main_v3 (ix2 k j) = m ((c : Thread nD τ).loc main_arg3) (ix2 (⟨k.val, by omega⟩ : Fin 1024) j) := by
  have h : V (F := Ideal) m c main_v3 = truncf (F := Ideal) (s := S512x1024) (φ := .f32) .bf16
      (extractStridedSlice S512x1024 ![0, 0] (m ((c : Thread nD τ).loc main_arg3)) slices_S1024x1024_S512x1024_0_0) bitsLt_bf16_f32 := by
    dsimp only [V, hostOps0]
    after_results
  rw [h, truncf_apply]
  exact extractStridedSlice_apply (s := S1024x1024) (t := S512x1024) ![0, 0] _ slices_S1024x1024_S512x1024_0_0 _ _ fun a => match a with
    | ⟨0, _⟩ => by show k.val = 0 + k.val; omega
    | ⟨1, _⟩ => by show j.val = 0 + j.val; omega

theorem V_v5 (c : Dev nD) (k : Fin 512) (j : Fin 1024) : V (F := Ideal) m c main_v5 (ix2 k j) = m ((c : Thread nD τ).loc main_arg3) (ix2 (⟨512 + k.val, by omega⟩ : Fin 1024) j) := by
  have h : V (F := Ideal) m c main_v5 = truncf (F := Ideal) (s := S512x1024) (φ := .f32) .bf16
      (extractStridedSlice S512x1024 ![512, 0] (m ((c : Thread nD τ).loc main_arg3)) slices_S1024x1024_S512x1024_512_0) bitsLt_bf16_f32 := by
    dsimp only [V, hostOps0]
    after_results
  rw [h, truncf_apply]
  exact extractStridedSlice_apply (s := S1024x1024) (t := S512x1024) ![512, 0] _ slices_S1024x1024_S512x1024_512_0 _ _ fun a => match a with
    | ⟨0, _⟩ => by show 512 + k.val = 512 + k.val; omega
    | ⟨1, _⟩ => by show j.val = 0 + j.val; omega

theorem V_v6 (c : Dev nD) (b : Fin 16) (t : Fin 2048) (k : Fin 512) : V (F := Ideal) m c main_v6 (ix3 b t k) = m ((c : Thread nD τ).loc main_arg1) (ix3 b t k) := by
  have h : V (F := Ideal) m c main_v6 = truncf (F := Ideal) (s := S16x2048x512) (φ := .f32) .bf16 (m ((c : Thread nD τ).loc main_arg1)) bitsLt_bf16_f32 := by
    dsimp only [V, hostOps0]
    after_results
  rw [h]; rfl

theorem V_v9 (c : Dev nD) (b : Fin 16) (k : Fin 512) (t : Fin 2048) : V (F := Ideal) m c main_v9 (ix3 b k t)
    = m ((c : Thread nD τ).loc main_arg2) (ix4 b t (⟨k.val / 64, by omega⟩ : Fin 8) (⟨k.val % 64, by omega⟩ : Fin 64)) := by
  have h : V (F := Ideal) m c main_v9 = truncf (F := Ideal) (s := S16x512x2048) (φ := .f32) .bf16
      (transpose S16x512x2048 [0, 2, 1] (shapeCast S16x2048x512 (m ((c : Thread nD τ).loc main_arg2)) shapeCasts_S16x2048x8x64_S16x2048x512)
        transposes_S16x2048x512_S16x512x2048_0_2_1) bitsLt_bf16_f32 := by
    dsimp only [V, hostOps0]
    after_results; rfl
  rw [h, truncf_apply]
  refine (transpose_ix3_021_apply _ _ b k t).trans ?_
  refine shapeCast_apply (s := S16x2048x8x64) _ _ _ _ ?_
  rw [Shape.rowMajor_val_four, Shape.rowMajor_val_three]
  show ((b.val * 2048 + t.val) * 8 + k.val / 64) * 64 + k.val % 64 = (b.val * 2048 + t.val) * 512 + k.val
  omega

theorem V_v10 (c : Dev nD) (j : Fin 1024) : V (F := Ideal) m c main_v10 (ix2 (0 : Fin 1) j) = m ((c : Thread nD τ).loc main_arg4) (ix1 j) := by
  have h : V (F := Ideal) m c main_v10 = broadcastInDim S1x1024 ![1] bcast_S1024_S1x1024_1 (m ((c : Thread nD τ).loc main_arg4)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v11 (c : Dev nD) (j : Fin 1024) : V (F := Ideal) m c main_v11 (ix2 (0 : Fin 1) j) = m ((c : Thread nD τ).loc main_arg5) (ix1 j) := by
  have h : V (F := Ideal) m c main_v11 = broadcastInDim S1x1024 ![1] bcast_S1024_S1x1024_1 (m ((c : Thread nD τ).loc main_arg5)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

theorem V_v12 (c : Dev nD) (j : Fin 1024) : V (F := Ideal) m c main_v12 (ix2 (0 : Fin 1) j) = m ((c : Thread nD τ).loc main_arg6) (ix1 j) := by
  have h : V (F := Ideal) m c main_v12 = broadcastInDim S1x1024 ![1] bcast_S1024_S1x1024_1 (m ((c : Thread nD τ).loc main_arg6)) := by
    dsimp only [V, hostOps0]
    after_results
  rw [h]
  exact broadcastInDim_apply _ bcast_S1024_S1x1024_1 _ _ _ fun a => match a with
    | ⟨0, _⟩ => by show j.val = if (1024 : Nat) = 1 then 0 else j.val; rw [if_neg (by decide)]

/-! ## The blocks -/

theorem lt_N (t : Fin cfg0.N) : t.val < 64 := t.isLt
theorem idx0 : ∀ t : Fin cfg0.N, win0_0.index t (0 : Fin 3) = t.val / 4 ∧ win0_0.index t (1 : Fin 3) = t.val % 4 ∧ win0_0.index t (2 : Fin 3) = 0 := (by decide +kernel : ∀ t : Fin grid0.N, _)
theorem idx1 : ∀ t : Fin cfg0.N, win0_1.index t (0 : Fin 3) = t.val / 4 ∧ win0_1.index t (1 : Fin 3) = t.val % 4 ∧ win0_1.index t (2 : Fin 3) = 0 := (by decide +kernel : ∀ t : Fin grid0.N, _)
theorem idx10 : ∀ t : Fin cfg0.N, win0_10.index t (0 : Fin 3) = t.val / 4 ∧ win0_10.index t (1 : Fin 3) = t.val % 4 ∧ win0_10.index t (2 : Fin 3) = 0 := (by decide +kernel : ∀ t : Fin grid0.N, _)
theorem idx2 : ∀ t : Fin cfg0.N, win0_2.index t (0 : Fin 3) = t.val / 4 ∧ win0_2.index t (1 : Fin 3) = 0 ∧ win0_2.index t (2 : Fin 3) = t.val % 4 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = 0 := (by decide +kernel : ∀ t : Fin grid0.N, _)
theorem idx7 : ∀ t : Fin cfg0.N, win0_7.index t (0 : Fin 2) = 0 ∧ win0_7.index t (1 : Fin 2) = 0 := (by decide +kernel : ∀ t : Fin grid0.N, _)
theorem idx8 : ∀ t : Fin cfg0.N, win0_8.index t (0 : Fin 2) = 0 ∧ win0_8.index t (1 : Fin 2) = 0 := (by decide +kernel : ∀ t : Fin grid0.N, _)
theorem idx9 : ∀ t : Fin cfg0.N, win0_9.index t (0 : Fin 2) = 0 ∧ win0_9.index t (1 : Fin 2) = 0 := (by decide +kernel : ∀ t : Fin grid0.N, _)

/-- The batch row and the position of row `i` of the block at point `t`. -/
abbrev bt (t : Fin cfg0.N) : Fin 16 := ⟨t.val / 4, by have := lt_N t; omega⟩
abbrev tt (t : Fin cfg0.N) (i : Fin 512) : Fin 2048 := ⟨t.val % 4 * 512 + i.val, by omega⟩

theorem blk0 (c : Dev nD) (t : Fin cfg0.N) (i : Fin 512) (j : Fin 1024) :
    (iblk m c 0 t : Vec Ideal S1x512x1024 .f32) (ix3 (0 : Fin 1) i j) = m ((c : Thread nD τ).loc main_arg0) (ix3 (bt t) (tt t i) j) := by
  obtain ⟨e0, e1, e2⟩ := idx0 t
  refine Eq.trans (congrArg (V (F := Ideal) m c main_arg0) (funext fun a => Fin.ext ?_)) (congrFun (V_main_arg0 m c) (ix3 (bt t) (tt t i) j))
  match a with
  | ⟨0, _⟩ => show win0_0.index t (0 : Fin 3) * 1 + 1 * 0 = t.val / 4; omega
  | ⟨1, _⟩ => show win0_0.index t (1 : Fin 3) * 512 + 1 * i.val = t.val % 4 * 512 + i.val; omega
  | ⟨2, _⟩ => show win0_0.index t (2 : Fin 3) * 1024 + 1 * j.val = j.val; omega

theorem blk1 (c : Dev nD) (t : Fin cfg0.N) (i : Fin 512) (j : Fin 512) :
    (iblk m c 1 t : Vec Ideal S1x512x512 .bf16) (ix3 (0 : Fin 1) i j) = V (F := Ideal) m c main_v6 (ix3 (bt t) (tt t i) j) := by
  obtain ⟨e0, e1, e2⟩ := idx1 t
  refine congrArg (V (F := Ideal) m c main_v6) (funext fun a => Fin.ext ?_)
  match a with
  | ⟨0, _⟩ => show win0_1.index t (0 : Fin 3) * 1 + 1 * 0 = t.val / 4; omega
  | ⟨1, _⟩ => show win0_1.index t (1 : Fin 3) * 512 + 1 * i.val = t.val % 4 * 512 + i.val; omega
  | ⟨2, _⟩ => show win0_1.index t (2 : Fin 3) * 512 + 1 * j.val = j.val; omega

theorem blk2 (c : Dev nD) (t : Fin cfg0.N) (k : Fin 512) (i : Fin 512) :
    (iblk m c 2 t : Vec Ideal S1x512x512 .bf16) (ix3 (0 : Fin 1) k i) = V (F := Ideal) m c main_v9 (ix3 (bt t) k (tt t i)) := by
  obtain ⟨e0, e1, e2⟩ := idx2 t
  refine congrArg (V (F := Ideal) m c main_v9) (funext fun a => Fin.ext ?_)
  match a with
  | ⟨0, _⟩ => show win0_2.index t (0 : Fin 3) * 1 + 1 * 0 = t.val / 4; omega
  | ⟨1, _⟩ => show win0_2.index t (1 : Fin 3) * 512 + 1 * k.val = k.val; omega
  | ⟨2, _⟩ => show win0_2.index t (2 : Fin 3) * 512 + 1 * i.val = t.val % 4 * 512 + i.val; omega

theorem blk3 (c : Dev nD) (t : Fin cfg0.N) (i : Fin 512) (j : Fin 1024) :
    (iblk m c 3 t : Vec Ideal S512x1024 .bf16) (ix2 i j) = V (F := Ideal) m c main_v3 (ix2 i j) := by
  obtain ⟨e0, e1⟩ := idx3 t
  refine congrArg (V (F := Ideal) m c main_v3) (funext fun a => Fin.ext ?_)
  match a with
  | ⟨0, _⟩ => show win0_3.index t (0 : Fin 2) * 512 + 1 * i.val = i.val; omega
  | ⟨1, _⟩ => show win0_3.index t (1 : Fin 2) * 1024 + 1 * j.val = j.val; omega

theorem blk4 (c : Dev nD) (t : Fin cfg0.N) (i : Fin 512) (j : Fin 1024) :
    (iblk m c 4 t : Vec Ideal S512x1024 .bf16) (ix2 i j) = V (F := Ideal) m c main_v5 (ix2 i j) := by
  obtain ⟨e0, e1⟩ := idx4 t
  refine congrArg (V (F := Ideal) m c main_v5) (funext fun a => Fin.ext ?_)
  match a with
  | ⟨0, _⟩ => show win0_4.index t (0 : Fin 2) * 512 + 1 * i.val = i.val; omega
  | ⟨1, _⟩ => show win0_4.index t (1 : Fin 2) * 1024 + 1 * j.val = j.val; omega

theorem blk5 (c : Dev nD) (t : Fin cfg0.N) (i : Fin 1) (j : Fin 1024) :
    (iblk m c 5 t : Vec Ideal S1x1024 .f32) (ix2 i j) = V (F := Ideal) m c main_v10 (ix2 i j) := by
  obtain ⟨e0, e1⟩ := idx5 t
  refine congrArg (V (F := Ideal) m c main_v10) (funext fun a => Fin.ext ?_)
  match a with
  | ⟨0, _⟩ => show win0_5.index t (0 : Fin 2) * 1 + 1 * i.val = i.val; omega
  | ⟨1, _⟩ => show win0_5.index t (1 : Fin 2) * 1024 + 1 * j.val = j.val; omega

theorem blk6 (c : Dev nD) (t : Fin cfg0.N) (i : Fin 1) (j : Fin 1024) :
    (iblk m c 6 t : Vec Ideal S1x1024 .f32) (ix2 i j) = V (F := Ideal) m c main_v11 (ix2 i j) := by
  obtain ⟨e0, e1⟩ := idx6 t
  refine congrArg (V (F := Ideal) m c main_v11) (funext fun a => Fin.ext ?_)
  match a with
  | ⟨0, _⟩ => show win0_6.index t (0 : Fin 2) * 1 + 1 * i.val = i.val; omega
  | ⟨1, _⟩ => show win0_6.index t (1 : Fin 2) * 1024 + 1 * j.val = j.val; omega

theorem blk7 (c : Dev nD) (t : Fin cfg0.N) (i : Fin 1) (j : Fin 1024) :
    (iblk m c 7 t : Vec Ideal S1x1024 .f32) (ix2 i j) = V (F := Ideal) m c main_v12 (ix2 i j) := by
  obtain ⟨e0, e1⟩ := idx7 t
  refine congrArg (V (F := Ideal) m c main_v12) (funext fun a => Fin.ext ?_)
  match a with
  | ⟨0, _⟩ => show win0_7.index t (0 : Fin 2) * 1 + 1 * i.val = i.val; omega
  | ⟨1, _⟩ => show win0_7.index t (1 : Fin 2) * 1024 + 1 * j.val = j.val; omega

theorem blk8 (c : Dev nD) (t : Fin cfg0.N) (i : Fin 1024) (j : Fin 5632) :
    (iblk m c 8 t : Vec Ideal S1024x5632 .bf16) (ix2 i j) = V (F := Ideal) m c main_v0 (ix2 i j) := by
  obtain ⟨e0, e1⟩ := idx8 t
  refine congrArg (V (F := Ideal) m c main_v0) (funext fun a => Fin.ext ?_)
  match a with
  | ⟨0, _⟩ => show win0_8.index t (0 : Fin 2) * 1024 + 1 * i.val = i.val; omega
  | ⟨1, _⟩ => show win0_8.index t (1 : Fin 2) * 5632 + 1 * j.val = j.val; omega

theorem blk9 (c : Dev nD) (t : Fin cfg0.N) (i : Fin 2816) (j : Fin 1024) :
    (iblk m c 9 t : Vec Ideal S2816x1024 .bf16) (ix2 i j) = V (F := Ideal) m c main_v1 (ix2 i j) := by
  obtain ⟨e0, e1⟩ := idx9 t
  refine congrArg (V (F := Ideal) m c main_v1) (funext fun a => Fin.ext ?_)
  match a with
  | ⟨0, _⟩ => show win0_9.index t (0 : Fin 2) * 2816 + 1 * i.val = i.val; omega
  | ⟨1, _⟩ => show win0_9.index t (1 : Fin 2) * 1024 + 1 * j.val = j.val; omega

theorem emb10 (t : Fin cfg0.N) (i : Fin 512) (j : Fin 1024) :
    ((cfg0.win 10).blk t).view.emb (ix3 (0 : Fin 1) i j) = ix3 (bt t) (tt t i) j := by
  obtain ⟨e0, e1, e2⟩ := idx10 t
  refine funext fun a => Fin.ext ?_
  match a with
  | ⟨0, _⟩ => show win0_10.index t (0 : Fin 3) * 1 + 1 * 0 = t.val / 4; omega
  | ⟨1, _⟩ => show win0_10.index t (1 : Fin 3) * 512 + 1 * i.val = t.val % 4 * 512 + i.val; omega
  | ⟨2, _⟩ => show win0_10.index t (2 : Fin 3) * 1024 + 1 * j.val = j.val; omega

/-- The function of the arguments as launched. -/
abbrev Gm (c : Dev nD) : Vec Ideal S16x2048x1024 .f32 :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem flushed_eq (c : Dev nD) (t : Fin cfg0.N) :
    (dats m 0 c).flushed 10 t = ((cfg0.win 10).blk t).view.read (Elt Ideal) (Gm m c) := by
  rw [flushed10]
  funext ij
  obtain ⟨i, j, rfl⟩ : ∃ (i : Fin 512) (j : Fin 1024), ij = ix3 (0 : Fin 1) i j := ⟨ij 1, ij 2, by
    funext a
    match a with
    | ⟨0, _⟩ => exact Fin.ext (by have h : (ij 0).val < 1 := (ij 0).isLt; show (ij 0).val = 0; omega)
    | ⟨1, _⟩ => rfl
    | ⟨2, _⟩ => rfl⟩
  show out0_10 (F := Ideal) _ _ _ _ _ _ _ _ _ _ (ix3 (0 : Fin 1) i j) = Gm m c (((cfg0.win 10).blk t).view.emb (ix3 (0 : Fin 1) i j))
  rw [OutBlock.out_apply, emb10]
  exact half_congr (fun k => mix_congr (fun k => blk0 m c t i k) (fun k => (blk1 m c t i k).trans (V_v6 m c _ _ k)) (fun k => (blk2 m c t k i).trans (V_v9 m c _ k _))
      (fun k j => (blk3 m c t k j).trans (V_v3 m c k j)) (fun k j => (blk4 m c t k j).trans (V_v5 m c k j)) (fun k => (blk5 m c t 0 k).trans (V_v10 m c k)) k)
    (fun k => (blk6 m c t 0 k).trans (V_v11 m c k)) (fun k => (blk7 m c t 0 k).trans (V_v12 m c k))
    (fun k f => (blk8 m c t k f).trans (V_v0 m c k f)) (fun f k => (blk9 m c t f k).trans (V_v1 m c f k)) j

theorem covered (i : S16x2048x1024.Idx) : ∃ t : Fin cfg0.N, (cfg0.win 10).flush t = true ∧ i ∈ ((cfg0.win 10).blk t).view.set := by
  have h0 : (i 0).val < 16 := (i 0).isLt
  have h1 : (i 1).val < 2048 := (i 1).isLt
  let t : Fin cfg0.N := (⟨(i 0).val * 4 + (i 1).val / 512, by show _ < 64; omega⟩ : Fin grid0.N)
  refine ⟨t, flush0_10 t, ?_⟩
  have h := ((cfg0.win 10).blk t).view.emb_mem_set (ix3 (0 : Fin 1) (⟨(i 1).val % 512, by omega⟩ : Fin 512) (⟨(i 2).val, (i 2).isLt⟩ : Fin 1024))
  rw [emb10] at h
  have e : i = ix3 (bt t) (tt t (⟨(i 1).val % 512, by omega⟩ : Fin 512)) (⟨(i 2).val, (i 2).isLt⟩ : Fin 1024) := by
    funext a
    match a with
    | ⟨0, _⟩ => exact Fin.ext (by show (i 0).val = ((i 0).val * 4 + (i 1).val / 512) / 4; omega)
    | ⟨1, _⟩ => exact Fin.ext (by show (i 1).val = ((i 0).val * 4 + (i 1).val / 512) % 4 * 512 + (i 1).val % 512; omega)
    | ⟨2, _⟩ => rfl
  rw [e]; exact h

theorem final (c : Dev nD) : (dats m 0 c).arrAt 10 cfg0.N = Gm m c :=
  (dats m 0 c).arrAt_eq_of_cover 10 (Gm m c) (fun t _ => flushed_eq m c t) covered

/-- The call's run, its result as the function of the arguments. -/
theorem run : θ_run defs (onTc (τ := τ) (main (F := Ideal))) ⟨m, fun _ => 0, ρ⟩ fun r => ∀ c : Dev nD,
      r.2.mem ((c : Thread nD τ).loc main_v13) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.Proof.OutValue

end
-- ==== Proof.OutRefRows.lean ====
/- The plain output projection and second feed-forward part, read at an index: `Rows.half` of the `Rows.mix` of the rows. -/
module

public import proofs.«01_k».proof.Proof.Gen.OutRefIdeal.Read
public import proofs.«01_k».proof.Proof.Rows
public import Idealize.ShloMosaic.Lib.IdealHost

@[expose] public section

noncomputable section

namespace Cert.Proof.OutRefRows

open Cert.OutRefIdeal Cert.OutRefIdeal.Gen Cert.OutRefIdeal.Read Idealize.ShloMosaic Idealize.ShloMosaic.ValueIdx
open Cert.Proof.Rows
open scoped BigOperators

/-- The joined columns: convolution values, then attention values. -/
theorem cat_left (x1 : Vec Ideal S16x2048x512 .f32) (x2 : Vec Ideal S16x2048x8x64 .f32) (b : Fin 16) (t : Fin 2048) (k : Fin 512) :
    val_main_v1 (F := Ideal) x1 x2 (ix3 b t (Fin.castAdd 512 k)) = x1 (ix3 b t k) :=
  concatenate_pair_apply_left (t := S16x2048x1024) (s₁ := S16x2048x512) (s₂ := S16x2048x512) 2 _ _ concatenates_S16x2048x512_S16x2048x512_S16x2048x1024_d2 _ rfl (ix3 b t k) fun a => match a with
    | ⟨0, _⟩ => rfl | ⟨1, _⟩ => rfl | ⟨2, _⟩ => rfl

theorem cat_right (x1 : Vec Ideal S16x2048x512 .f32) (x2 : Vec Ideal S16x2048x8x64 .f32) (b : Fin 16) (t : Fin 2048) (k : Fin 512) :
    val_main_v1 (F := Ideal) x1 x2 (ix3 b t (Fin.natAdd 512 k)) = x2 (ix4 b t (⟨k.val / 64, by omega⟩ : Fin 8) (⟨k.val % 64, by omega⟩ : Fin 64)) := by
  have h := concatenate_pair_apply_right (t := S16x2048x1024) (s₁ := S16x2048x512) (s₂ := S16x2048x512) 2 x1 (val_main_v0 (F := Ideal) x2) concatenates_S16x2048x512_S16x2048x512_S16x2048x1024_d2
    (ix3 b t (Fin.natAdd 512 k)) rfl rfl (ix3 b t k) (fun a ha => match a, ha with
      | ⟨0, _⟩, _ => rfl | ⟨1, _⟩, _ => rfl | ⟨2, _⟩, h => absurd rfl h) (by show k.val + 512 = 512 + k.val; omega)
  refine h.trans ?_
  rw [val_main_v0_apply]
  refine congrArg x2 (funext fun a => Fin.ext ?_)
  have := b.isLt
  have := t.isLt
  have := k.isLt
  match a with
  | ⟨0, _⟩ => show ((b.val * 2048 + t.val) * 512 + k.val) / 1048576 = b.val; omega
  | ⟨1, _⟩ => show ((b.val * 2048 + t.val) * 512 + k.val) / 512 % 2048 = t.val; omega
  | ⟨2, _⟩ => show ((b.val * 2048 + t.val) * 512 + k.val) / 64 % 8 = k.val / 64; omega
  | ⟨3, _⟩ => show ((b.val * 2048 + t.val) * 512 + k.val) % 64 = k.val % 64; omega

theorem proj_eq (x1 : Vec Ideal S16x2048x512 .f32) (x2 : Vec Ideal S16x2048x8x64 .f32) (x3 : Vec Ideal S1024x1024 .f32) (b : Fin 16) (t : Fin 2048) (j : Fin 1024) :
    val_main_v2 (F := Ideal) x1 x2 x3 (ix3 b t j)
      = proj (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) j := by
  rw [val_main_v2_apply]
  have e : ∀ k : Fin 1024, lidx_main_v2 (ix3 b t j) k = ix3 b t k := fun k => by funext a; match a with | ⟨0, _⟩ => rfl | ⟨1, _⟩ => rfl | ⟨2, _⟩ => rfl
  have e' : ∀ k : Fin 1024, ridx_main_v2 (ix3 b t j) k = ix2 k j := fun k => by funext a; match a with | ⟨0, _⟩ => rfl | ⟨1, _⟩ => rfl
  simp only [e, e']
  refine (Fin.sum_univ_add (a := 512) (b := 512) fun k : Fin 1024 => val_main_v1 (F := Ideal) x1 x2 (ix3 b t k) * x3 (ix2 k j)).trans ?_
  refine congrArg₂ (· + ·) (Finset.sum_congr rfl fun k _ => ?_) (Finset.sum_congr rfl fun k _ => ?_)
  · exact congrArg (· * _) (cat_left x1 x2 b t k)
  · exact congrArg (· * _) (cat_right x1 x2 b t k)

theorem norm0 (x1 : Vec Ideal S16x2048x512 .f32) (x2 : Vec Ideal S16x2048x8x64 .f32) (x3 : Vec Ideal S1024x1024 .f32) (x4 : Vec Ideal S1024 .f32) (b : Fin 16) (t : Fin 2048) (y : Row) (hy : ∀ k : Fin 1024, (val_main_v2 (F := Ideal) x1 x2 x3) (ix3 b t k) = y k) (j : Fin 1024) :
    val_main_v15 (F := Ideal) x1 x2 x3 x4 (ix3 b t j) = rms y (fun k => x4 (ix1 k)) j := by
  have e : ∀ k : Fin 1024, idx_main_v4 (idx_main_v5 (idx_main_v11 (ix3 b t j))) k = ix3 b t k := fun k => by
    funext a; match a with | ⟨0, _⟩ => rfl | ⟨1, _⟩ => rfl | ⟨2, _⟩ => rfl
  have eg : idx_main_v13 (idx_main_v14 (ix3 b t j)) = ix1 j := by
    funext a; match a with | ⟨0, _⟩ => rfl
  rw [val_main_v15_apply, val_main_v12_apply, val_main_v11_apply, val_main_v10_apply, val_main_v9_apply, val_main_v7_apply, val_main_v5_apply, val_main_v4_apply,
    val_main_v6_apply, val_main_v8_apply, val_main_v14_apply, val_main_v13_apply, val_main_cst_apply, val_main_cst_0_apply, val_main_cst_1_apply, eg, hy j]
  simp only [val_main_v3_apply, e, hy]
  have z : (FloatOps.ofBits (F := Ideal) .f32 0x00000000#32) = (0 : EReal) := Ideal.ofBits_zero_f32
  rw [z, zero_add]
  rfl

theorem mix_eq (x0 : Vec Ideal S16x2048x1024 .f32) (x1 : Vec Ideal S16x2048x512 .f32) (x2 : Vec Ideal S16x2048x8x64 .f32) (x3 : Vec Ideal S1024x1024 .f32) (x4 : Vec Ideal S1024 .f32) (b : Fin 16) (t : Fin 2048) (j : Fin 1024) :
    val_main_v16 (F := Ideal) x0 x1 x2 x3 x4 (ix3 b t j)
      = mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)) j := by
  rw [val_main_v16_apply, norm0 x1 x2 x3 x4 b t _ (proj_eq x1 x2 x3 b t) j]
  rfl

theorem norm1 (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v16 (F := Ideal) x0 x1 x2 x3 x4) (ix3 b t k) = y k) (j : Fin 1024) :
    val_main_v29 (F := Ideal) x0 x1 x2 x3 x4 x5 (ix3 b t j) = rms y (fun k => x5 (ix1 k)) j := by
  have e : ∀ k : Fin 1024, idx_main_v18 (idx_main_v19 (idx_main_v25 (ix3 b t j))) k = ix3 b t k := fun k => by
    funext a; match a with | ⟨0, _⟩ => rfl | ⟨1, _⟩ => rfl | ⟨2, _⟩ => rfl
  have eg : idx_main_v27 (idx_main_v28 (ix3 b t j)) = ix1 j := by
    funext a; match a with | ⟨0, _⟩ => rfl
  rw [val_main_v29_apply, val_main_v26_apply, val_main_v25_apply, val_main_v24_apply, val_main_v23_apply, val_main_v21_apply, val_main_v19_apply, val_main_v18_apply,
    val_main_v20_apply, val_main_v22_apply, val_main_v28_apply, val_main_v27_apply, val_main_cst_2_apply, val_main_cst_3_apply, val_main_cst_4_apply, eg, hy j]
  simp only [val_main_v17_apply, e, hy]
  have z : (FloatOps.ofBits (F := Ideal) .f32 0x00000000#32) = (0 : EReal) := Ideal.ofBits_zero_f32
  rw [z, zero_add]
  rfl

theorem hid_eq (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v16 (F := Ideal) x0 x1 x2 x3 x4) (ix3 b t k) = y k) (c : Fin 5632) :
    val_main_v30 (F := Ideal) x0 x1 x2 x3 x4 x5 x7 (ix3 b t c) = hid (rms y (fun k => x5 (ix1 k))) (fun k c => x7 (ix2 k c)) c := by
  rw [val_main_v30_apply]
  refine Finset.sum_congr rfl fun k _ => ?_
  have e : lidx_main_v30 (ix3 b t c) k = ix3 b t k := by funext a; match a with | ⟨0, _⟩ => rfl | ⟨1, _⟩ => rfl | ⟨2, _⟩ => rfl
  have e' : ridx_main_v30 (ix3 b t c) k = ix2 k c := by funext a; match a with | ⟨0, _⟩ => rfl | ⟨1, _⟩ => rfl
  rw [e, e', norm1 x0 x1 x2 x3 x4 x5 x6 x7 x8 b t y hy k]

theorem act_eq (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v16 (F := Ideal) x0 x1 x2 x3 x4) (ix3 b t k) = y k) (f : Fin 2816) :
    val_main_v34 (F := Ideal) x0 x1 x2 x3 x4 x5 x7 (ix3 b t f) = act (rms y (fun k => x5 (ix1 k))) (fun k c => x7 (ix2 k c)) f := by
  have e : idx_main_v31 (ix3 b t f) = ix3 b t ⟨f.val, by omega⟩ := by funext a; match a with | ⟨0, _⟩ => rfl | ⟨1, _⟩ => rfl | ⟨2, _⟩ => rfl
  have e' : idx_main_v32 (ix3 b t f) = ix3 b t ⟨2816 + f.val, by omega⟩ := by funext a; match a with | ⟨0, _⟩ => rfl | ⟨1, _⟩ => rfl | ⟨2, _⟩ => rfl
  rw [val_main_v34_apply, val_main_v33_apply, val_main_call0_v5_apply, val_main_call0_v3_apply, val_main_call0_v1_apply, val_main_call0_v0_apply,
    val_main_call0_v4_apply, val_main_call0_v2_apply, val_main_call0_cst_apply, val_main_call0_cst_0_apply, val_main_v31_apply, val_main_v32_apply, e, e',
    hid_eq x0 x1 x2 x3 x4 x5 x6 x7 x8 b t y hy, hid_eq x0 x1 x2 x3 x4 x5 x6 x7 x8 b t y hy]
  have z : (FloatOps.ofBits (F := Ideal) .f32 0x3F800000#32) = (1 : EReal) := Ideal.ofBits_one_f32
  rw [z]
  rfl

theorem down_eq (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v16 (F := Ideal) x0 x1 x2 x3 x4) (ix3 b t k) = y k) (j : Fin 1024) :
    val_main_v35 (F := Ideal) x0 x1 x2 x3 x4 x5 x7 x8 (ix3 b t j) = down (act (rms y (fun k => x5 (ix1 k))) (fun k c => x7 (ix2 k c))) (fun f j => x8 (ix2 f j)) j := by
  rw [val_main_v35_apply]
  refine Finset.sum_congr rfl fun k _ => ?_
  have e : lidx_main_v35 (ix3 b t j) k = ix3 b t k := by funext a; match a with | ⟨0, _⟩ => rfl | ⟨1, _⟩ => rfl | ⟨2, _⟩ => rfl
  have e' : ridx_main_v35 (ix3 b t j) k = ix2 k j := by funext a; match a with | ⟨0, _⟩ => rfl | ⟨1, _⟩ => rfl
  rw [e, e', act_eq x0 x1 x2 x3 x4 x5 x6 x7 x8 b t y hy k]

theorem norm2 (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v35 (F := Ideal) x0 x1 x2 x3 x4 x5 x7 x8) (ix3 b t k) = y k) (j : Fin 1024) :
    val_main_v48 (F := Ideal) x0 x1 x2 x3 x4 x5 x6 x7 x8 (ix3 b t j) = rms y (fun k => x6 (ix1 k)) j := by
  have e : ∀ k : Fin 1024, idx_main_v37 (idx_main_v38 (idx_main_v44 (ix3 b t j))) k = ix3 b t k := fun k => by
    funext a; match a with | ⟨0, _⟩ => rfl | ⟨1, _⟩ => rfl | ⟨2, _⟩ => rfl
  have eg : idx_main_v46 (idx_main_v47 (ix3 b t j)) = ix1 j := by
    funext a; match a with | ⟨0, _⟩ => rfl
  rw [val_main_v48_apply, val_main_v45_apply, val_main_v44_apply, val_main_v43_apply, val_main_v42_apply, val_main_v40_apply, val_main_v38_apply, val_main_v37_apply,
    val_main_v39_apply, val_main_v41_apply, val_main_v47_apply, val_main_v46_apply, val_main_cst_5_apply, val_main_cst_6_apply, val_main_cst_7_apply, eg, hy j]
  simp only [val_main_v36_apply, e, hy]
  have z : (FloatOps.ofBits (F := Ideal) .f32 0x00000000#32) = (0 : EReal) := Ideal.ofBits_zero_f32
  rw [z, zero_add]
  rfl

theorem half_eq (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (y : Row) (hy : ∀ k : Fin 1024, (val_main_v16 (F := Ideal) x0 x1 x2 x3 x4) (ix3 b t k) = y k) (j : Fin 1024) :
    val_main_v51 (F := Ideal) x0 x1 x2 x3 x4 x5 x6 x7 x8 (ix3 b t j) = half y (fun k => x5 (ix1 k)) (fun k => x6 (ix1 k)) (fun k c => x7 (ix2 k c)) (fun f j => x8 (ix2 f j)) j := by
  rw [val_main_v51_apply, val_main_v50_apply, val_main_v49_apply, val_main_cst_8_apply,
    norm2 x0 x1 x2 x3 x4 x5 x6 x7 x8 b t _ (down_eq x0 x1 x2 x3 x4 x5 x6 x7 x8 b t y hy) j]
  exact congrArg (· + _) (hy j)

theorem result_eq (x0 : Vec Ideal S16x2048x1024 .f32) (x1 : Vec Ideal S16x2048x512 .f32) (x2 : Vec Ideal S16x2048x8x64 .f32) (x3 : Vec Ideal S1024x1024 .f32) (x4 x5 x6 : Vec Ideal S1024 .f32) (x7 : Vec Ideal S1024x5632 .f32) (x8 : Vec Ideal S2816x1024 .f32) (b : Fin 16) (t : Fin 2048) (j : Fin 1024) :
    val_main_v51 (F := Ideal) x0 x1 x2 x3 x4 x5 x6 x7 x8 (ix3 b t j)
      = half (mix (fun k => x0 (ix3 b t k)) (fun k => x1 (ix3 b t k)) (fun k => x2 (ix4 b t (⟨k.val / 64, by omega⟩ : Fin 8) (⟨k.val % 64, by omega⟩ : Fin 64)))
          (fun k j => x3 (ix2 (⟨k.val, by omega⟩ : Fin 1024) j)) (fun k j => x3 (ix2 (⟨512 + k.val, by omega⟩ : Fin 1024) j)) (fun k => x4 (ix1 k)))
          (fun k => x5 (ix1 k)) (fun k => x6 (ix1 k)) (fun k c => x7 (ix2 k c)) (fun f j => x8 (ix2 f j)) j :=
  half_eq x0 x1 x2 x3 x4 x5 x6 x7 x8 b t _ (mix_eq x0 x1 x2 x3 x4 b t) j

end Cert.Proof.OutRefRows

end
-- ==== Proof.Sweep.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pointwise
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number of rows below `n` whose score reaches `f`. -/
def cnt (s : ℕ → EReal) (n : ℕ) (f : EReal) : ℕ := ((Finset.range n).filter fun r => f ≤ s r).card

/-- The largest score below `f` among the rows below `n` (`⊥` if there is none). -/
def mxb (s : ℕ → EReal) (n : ℕ) (f : EReal) : EReal := (Finset.range n).sup fun r => if f ≤ s r then ⊥ else s r

/-- One block of 256 rows added to the running counts. -/
def cntStep (g x : FVec F S256x256 .f32) (acc : IVec S32x256 32) : IVec S32x256 32 :=
  addi acc (multiReductionI .add [0] S32x256 (shapeCast S8x32x256 (select (cmpf .oge x g) (broadcast S256x256 1#32) (broadcast S256x256 0#32)) shapeCasts_S256x256_S8x32x256) 0#32 reduces_S8x32x256_S32x256 rfl)

/-- The running counts after `m` blocks. -/
def cntU (g : FVec F S256x256 .f32) (rd : ℕ → FVec F S256x256 .f32) : ℕ → IVec S32x256 32
  | 0 => broadcast S32x256 0#32
  | q + 1 => cntStep g (rd q) (cntU g rd q)

/-- The column counts. -/
def cntCol (g : FVec F S256x256 .f32) (rd : ℕ → FVec F S256x256 .f32) (m : ℕ) : IVec S1x256 32 :=
  shapeCast S1x256 (multiReductionI .add [0] S256 (cntU g rd m) 0#32 reduces_S32x256_S256 rfl) shapeCasts_S256_S1x256

/-- One block of 256 rows joined to the running maxima below the bound. -/
def maxStep (g x : FVec F S256x256 .f32) (acc : FVec F S32x256 .f32) : FVec F S32x256 .f32 :=
  maximumf acc (multiReduction .maximumf [0] S32x256 (shapeCast S8x32x256 (select (cmpf .oge x g) (broadcast S256x256 (Scalar.ofBits .f32 0xFF800000#32)) x) shapeCasts_S256x256_S8x32x256) 0xFF800000#32 reduces_S8x32x256_S32x256 (.inl rfl) rfl)

/-- The running maxima after `m` blocks. -/
def maxU (g : FVec F S256x256 .f32) (rd : ℕ → FVec F S256x256 .f32) : ℕ → FVec F S32x256 .f32
  | 0 => broadcast S32x256 (Scalar.ofBits .f32 0xFF800000#32)
  | q + 1 => maxStep g (rd q) (maxU g rd q)

/-- The column maxima. -/
def maxCol (g : FVec F S256x256 .f32) (rd : ℕ → FVec F S256x256 .f32) (m : ℕ) : FVec F S1x256 .f32 :=
  shapeCast S1x256 (multiReduction .maximumf [0] S256 (maxU g rd m) 0xFF800000#32 reduces_S32x256_S256 (.inl rfl) rfl) shapeCasts_S256_S1x256

theorem fold_ofNat {α : Type} (s : Finset α) (h : α → ℕ) :
    s.fold IntOp.addi 0#32 (fun x => BitVec.ofNat 32 (h x)) = BitVec.ofNat 32 (∑ x ∈ s, h x) := by
  classical
  induction s using Finset.induction_on with
  | empty => rfl
  | insert a s ha ih =>
    rw [Finset.fold_insert ha, ih, Finset.sum_insert ha, BitVec.ofNat_add]; rfl

theorem sum_blocks (b m : ℕ) (h : ℕ → ℕ) :
    ∑ r ∈ Finset.range (b * m), h r = ∑ q ∈ Finset.range m, ∑ i ∈ Finset.range b, h (b * q + i) := by
  induction m with
  | zero => simp
  | succ m ih => rw [Nat.mul_succ, Finset.sum_range_add, ih, Finset.sum_range_succ]

theorem cntU_apply (g : FVec Ideal S256x256 .f32) (rd : ℕ → FVec Ideal S256x256 .f32) (f : Fin 256 → EReal) (S : ℕ → Fin 256 → EReal)
    (hg : ∀ (ρ c : Fin 256), g (ix2 ρ c) = f c) (m : ℕ)
    (hrd : ∀ q < m, ∀ (ρ c : Fin 256), rd q (ix2 ρ c) = S (256 * q + ρ.val) c) (ρ : Fin 32) (c : Fin 256) :
    cntU g rd m (ix2 ρ c) = BitVec.ofNat 32 (∑ q ∈ Finset.range m, ∑ a ∈ Finset.range 8, if f c ≤ S (256 * q + (32 * a + ρ.val)) c then 1 else 0) := by
  induction m with
  | zero => rfl
  | succ m ih =>
    rw [cntU, Finset.sum_range_succ, BitVec.ofNat_add, ← ih fun q hq => hrd q (by omega)]
    pointwise [cntStep]
    simp only [hg, hrd m (Nat.lt_succ_self m)]
    rw [Finset.sum_range (n := 8), ← fold_ofNat]
    refine congrArg₂ IntOp.addi rfl ?_
    refine Finset.fold_congr fun a _ => ?_
    rw [mul_comm a.val 32]
    split <;> rfl

/-- The column count: the number of rows below `256 m` whose score reaches the bound. -/
theorem cntCol_apply (g : FVec Ideal S256x256 .f32) (rd : ℕ → FVec Ideal S256x256 .f32) (f : Fin 256 → EReal) (S : ℕ → Fin 256 → EReal)
    (hg : ∀ (ρ c : Fin 256), g (ix2 ρ c) = f c) (m : ℕ)
    (hrd : ∀ q < m, ∀ (ρ c : Fin 256), rd q (ix2 ρ c) = S (256 * q + ρ.val) c) (c : Fin 256) :
    cntCol g rd m (ix2 0 c) = BitVec.ofNat 32 (cnt (fun r => S r c) (256 * m) (f c)) := by
  pointwise [cntCol]
  simp only [cntU_apply g rd f S hg m hrd]
  rw [fold_ofNat, cnt, Finset.card_filter, sum_blocks 256 m, Finset.sum_comm]
  refine congrArg _ (Finset.sum_congr rfl fun q _ => ?_)
  rw [show (256 : ℕ) = 32 * 8 from rfl, sum_blocks 32 8 fun i => if f c ≤ S (32 * 8 * q + i) c then 1 else 0, Finset.sum_comm]
  refine Finset.sum_congr rfl fun a _ => ?_
  rw [← Finset.sum_range fun ρ => if f c ≤ S (32 * 8 * q + (32 * a + ρ)) c then 1 else 0]

theorem ofBits_ninf : Ideal.ofBits .f32 0xFF800000#32 = (⊥ : EReal) := by
  simp [Ideal.ofBits, Ideal.ieee]

theorem maxU_apply (g : FVec Ideal S256x256 .f32) (rd : ℕ → FVec Ideal S256x256 .f32) (f : Fin 256 → EReal) (S : ℕ → Fin 256 → EReal)
    (hg : ∀ (ρ c : Fin 256), g (ix2 ρ c) = f c) (m : ℕ)
    (hrd : ∀ q < m, ∀ (ρ c : Fin 256), rd q (ix2 ρ c) = S (256 * q + ρ.val) c) (ρ : Fin 32) (c : Fin 256) :
    maxU g rd m (ix2 ρ c) = (Finset.range m).sup fun q => (Finset.univ : Finset (Fin 8)).sup fun a =>
      if f c ≤ S (256 * q + (32 * a.val + ρ.val)) c then ⊥ else S (256 * q + (32 * a.val + ρ.val)) c := by
  induction m with
  | zero => exact ofBits_ninf
  | succ m ih =>
    rw [maxU, Finset.range_add_one, Finset.sup_insert, ← ih fun q hq => hrd q (by omega), sup_comm]
    pointwise [maxStep]
    simp only [hg, hrd m (Nat.lt_succ_self m), ofBits_ninf]
    refine congrArg₂ max rfl ?_
    refine Finset.fold_congr fun a _ => ?_
    rw [mul_comm a.val 32]

/-- The column maximum: the largest score below the bound among the rows below `256 m`. -/
theorem maxCol_apply (g : FVec Ideal S256x256 .f32) (rd : ℕ → FVec Ideal S256x256 .f32) (f : Fin 256 → EReal) (S : ℕ → Fin 256 → EReal)
    (hg : ∀ (ρ c : Fin 256), g (ix2 ρ c) = f c) (m : ℕ)
    (hrd : ∀ q < m, ∀ (ρ c : Fin 256), rd q (ix2 ρ c) = S (256 * q + ρ.val) c) (c : Fin 256) :
    maxCol g rd m (ix2 0 c) = mxb (fun r => S r c) (256 * m) (f c) := by
  pointwise [maxCol]
  simp only [maxU_apply g rd f S hg m hrd, ofBits_ninf]
  change (Finset.univ : Finset (Fin 32)).sup _ = _
  refine eq_of_forall_ge_iff fun z => ?_
  simp only [mxb, Finset.sup_le_iff, Finset.mem_univ, Finset.mem_range, true_implies]
  constructor
  · intro h r hr
    have := h ⟨r % 32, by omega⟩ (r / 256) (by omega) ⟨r % 256 / 32, by omega⟩
    have e : 256 * (r / 256) + (32 * (r % 256 / 32) + r % 32) = r := by omega
    simpa only [e] using this
  · intro h ρ q hq a
    exact h _ (by omega)

end Cert.Proof.KernelIdeal
-- ==== Proof.Words.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pointwise
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

theorem toInt_ofNat {a : ℕ} (h : a < 2 ^ 31) : (BitVec.ofNat 32 a).toInt = (a : ℤ) := by
  rw [BitVec.toInt_eq_toNat_of_lt, BitVec.toNat_ofNat, Nat.mod_eq_of_lt (by omega)]
  rw [BitVec.toNat_ofNat, Nat.mod_eq_of_lt (by omega)]; omega

theorem toNat_ofNat {a : ℕ} (h : a < 2 ^ 31) : (BitVec.ofNat 32 a).toNat = a := by
  rw [BitVec.toNat_ofNat, Nat.mod_eq_of_lt (by omega)]

theorem sle_ofNat {a b : ℕ} (ha : a < 2 ^ 31) (hb : b < 2 ^ 31) :
    IntOp.cmpi .sle (BitVec.ofNat 32 a) (BitVec.ofNat 32 b) = BitVec.ofBool (decide (a ≤ b)) := by
  simp only [IntOp.cmpi, BitVec.sle, toInt_ofNat ha, toInt_ofNat hb, Nat.cast_le]

theorem sge_ofNat {a b : ℕ} (ha : a < 2 ^ 31) (hb : b < 2 ^ 31) :
    IntOp.cmpi .sge (BitVec.ofNat 32 a) (BitVec.ofNat 32 b) = BitVec.ofBool (decide (b ≤ a)) := by
  simp only [IntOp.cmpi, BitVec.sle, toInt_ofNat ha, toInt_ofNat hb, Nat.cast_le]

theorem sgt_ofNat {a b : ℕ} (ha : a < 2 ^ 31) (hb : b < 2 ^ 31) :
    IntOp.cmpi .sgt (BitVec.ofNat 32 a) (BitVec.ofNat 32 b) = BitVec.ofBool (decide (b < a)) := by
  simp only [IntOp.cmpi, BitVec.slt, toInt_ofNat ha, toInt_ofNat hb, Nat.cast_lt]

theorem slt_ofNat {a b : ℕ} (ha : a < 2 ^ 31) (hb : b < 2 ^ 31) :
    IntOp.cmpi .slt (BitVec.ofNat 32 a) (BitVec.ofNat 32 b) = BitVec.ofBool (decide (a < b)) := by
  simp only [IntOp.cmpi, BitVec.slt, toInt_ofNat ha, toInt_ofNat hb, Nat.cast_lt]

theorem shr6_ofNat {a : ℕ} (ha : a < 2 ^ 31) :
    IntOp.shrsi .vector (BitVec.ofNat 32 a) 6#32 = BitVec.ofNat 32 (a / 64) := by
  have h6 : (6#32).toNat = 6 := rfl
  unfold IntOp.shrsi
  rw [if_pos (by rw [h6]; omega), BitVec.sshiftRight', h6,
    BitVec.sshiftRight_eq_of_msb_false (BitVec.msb_eq_false_iff_two_mul_lt.mpr (by rw [toNat_ofNat ha]; omega))]
  apply BitVec.eq_of_toNat_eq
  rw [BitVec.toNat_ushiftRight, toNat_ofNat ha, toNat_ofNat (by omega), Nat.shiftRight_eq_div_pow]

theorem mul_add_ofNat (a b c : ℕ) :
    IntOp.addi (Scalar.muli (BitVec.ofNat 32 a) (BitVec.ofNat 32 b)) (BitVec.ofNat 32 c) = BitVec.ofNat 32 (a * b + c) := by
  show BitVec.ofNat 32 a * BitVec.ofNat 32 b + BitVec.ofNat 32 c = _
  rw [← BitVec.ofNat_mul, ← BitVec.ofNat_add]

theorem select_ofBool {α : Type} (p : Prop) [Decidable p] (a b : α) :
    Scalar.select (BitVec.ofBool (decide p)) a b = if p then a else b := by
  by_cases h : p <;> simp [Scalar.select, h]

/-- The causal chunk mask of a score. -/
theorem mask_select {α : Type} {j ρ q : ℕ} (hj : j < 8) (hρ : ρ < 2048) (hq : q < 256) (a b : α) :
    Scalar.select (IntOp.cmpi .sle (IntOp.shrsi .vector (BitVec.ofNat 32 ρ) 6#32)
      (IntOp.shrsi .vector (IntOp.addi (Scalar.muli (BitVec.ofNat 32 j) 256#32) (BitVec.ofNat 32 q)) 6#32)) a b
      = if ρ / 64 ≤ (256 * j + q) / 64 then a else b := by
  rw [show (256#32) = BitVec.ofNat 32 256 from rfl, mul_add_ofNat, shr6_ofNat (by omega), shr6_ofNat (by omega), sle_ofNat (by omega) (by omega),
    select_ofBool, Nat.mul_comm j]

theorem clamp_cases (w : BitVec 32) : ∃ q : Fin 8, Scalar.minsi (Scalar.maxsi w 0#32) 7#32 = BitVec.ofNat 32 q.val := by
  have h0 : (0#32).toInt = 0 := rfl
  have h7 : (7#32).toInt = 7 := rfl
  unfold Scalar.minsi Scalar.maxsi IntOp.minsi IntOp.maxsi
  by_cases h1 : (0#32).slt w
  · rw [if_pos h1]
    by_cases h2 : w.slt 7#32
    · rw [if_pos h2]
      simp only [BitVec.slt, h0, h7, decide_eq_true_eq] at h1 h2
      rw [BitVec.toInt_eq_toNat_cond] at h1 h2
      have h3 := w.isLt
      exact ⟨⟨w.toNat, by split at h2 <;> split at h1 <;> omega⟩, by simp⟩
    · rw [if_neg h2]; exact ⟨7, rfl⟩
  · rw [if_neg h1]; exact ⟨0, rfl⟩

end Cert.Proof.KernelIdeal
-- ==== Proof.Bisect.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Sweep
public import proofs.«01_k».proof.Proof.Words
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- The block of 256 score rows a sweep's load number `q` reads. -/
def rdq (X : BufTy.Contents (Elt F) arg9.view.ty) (q : ℕ) : FVec F S256x256 .f32 :=
  if h : q < 8 then arg9.view.readAt (Elt F) (Rect.unit (s := S2048x256) ![256 * q, 0] S256x256.size (by
    intro a; fin_cases a
    · show 256 * q + 256 ≤ 2048; omega
    · show 0 + 256 ≤ 256; omega)).toLoadRect X
  else fun _ => FloatOps.ofBits .f32 0

/-- The number of blocks a sweep with block word `v0` runs through. -/
def blocks (v0 : BitVec 32) : ℕ := (Scalar.minsi (Scalar.maxsi (Scalar.subi v0 1#32) 0#32) 7#32).toNat + 1

/-- One bisection trip. -/
def t1Next (X : BufTy.Contents (Elt F) arg9.view.ty) (m : ℕ) (k : Fin k0_t1_loop.trips) (acc : IVec S1x256 32 × IVec S1x256 32) : IVec S1x256 32 × IVec S1x256 32 :=
  (select (cmpi .sge (cntCol (broadcastTo S256x256 (k0_pay405 (F := F) k acc.1) broadcasts_S1x256_S256x256) (rdq arg9 X) m) (broadcast S1x256 256#32)) (k0_pay404 k acc.1) acc.1,
   select (cmpi .sge (cntCol (broadcastTo S256x256 (k0_pay405 (F := F) k acc.1) broadcasts_S1x256_S256x256) (rdq arg9 X) m) (broadcast S1x256 256#32))
     (cntCol (broadcastTo S256x256 (k0_pay405 (F := F) k acc.1) broadcasts_S1x256_S256x256) (rdq arg9 X) m) acc.2)

theorem t1_step (𝒱 : Variants) (c : Dev nD) (bd : Option 𝒱.V) (i : grid0.Coords)
   (v0 : BitVec 32)
   (v19 v27 : IVec S1x256 32) (v29 : IVec S1x256 1) (v32 v33 : IVec S1x256 32) (k : Fin k0_t1_loop.trips) (acc : IVec S1x256 32 × IVec S1x256 32)
   (X : BufTy.Contents (Elt F) arg9.view.ty) :
   (arg9.view.loc (c : Thread nD τ) ↦[arg9.view.set]{fullShare} X : sProp 𝕄)
   ⊢ wp frame (wpE (defs₀ (F := F)) 𝒱 (c : Thread nD τ) bd) Set.univ (k0_t1_body (F := F) i arg2 harg2 arg3 harg3 arg4 harg4 arg5 harg5 arg6 harg6 arg7 harg7 arg8 harg8 arg9 harg9 arg10 harg10 arg11 harg11 arg12 harg12 arg13 harg13 arg14 harg14 v0 v19 v27 v29 v32 v33 k acc)
      (fun r => iprop((arg9.view.loc (c : Thread nD τ) ↦[arg9.view.set]{fullShare} X) ∗ ⌜r = t1Next arg9 X (blocks v0) k acc⌝)) := by
  obtain ⟨a16, a17⟩ := acc
  unfold k0_t1_body blocks
  obtain ⟨q, hq⟩ := clamp_cases (Scalar.subi v0 1#32)
  simp only [hq]
  clear hq
  fin_cases q
  all_goals
    simp only [Fin.zero_eta, Fin.mk_one, Fin.reduceFinMk, Fin.val_zero, Fin.val_one, Fin.val_ofNat]
    iintro H
    sl_exec
    sl_step
    isplitl [H]; · iexact H
    ipureintro
    rfl

end Cert.Proof.KernelIdeal
-- ==== Proof.Views.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section
variable {σ : RefSig} {κ : Kind} {sp : Space} {e : EltTy} {Val : EltTy → Type}

/-- A load of a rank-2 block, at an index. -/
theorem readAt_ix2 {m n a b : ℕ} (v : View σ κ sp (⟨2, ![m, n]⟩ : Shape) e) (X : v.ty.Contents Val) {o p : ℕ}
    (inb : ∀ x : Fin 2, (![o, p] : Fin 2 → ℕ) x + (![a, b] : Fin 2 → ℕ) x ≤ (![m, n] : Fin 2 → ℕ) x) (i : Fin a) (j : Fin b) :
    v.readAt Val (Rect.unit (s := ⟨2, ![m, n]⟩) ![o, p] ![a, b] inb).toLoadRect X (ix2 i j)
      = v.read Val X (ix2 ⟨o + i.val, by have := inb 0; have := i.isLt; simp at *; omega⟩ ⟨p + j.val, by have := inb 1; have := j.isLt; simp at *; omega⟩) := by
  show v.read Val X _ = _
  congr 1
  funext x
  apply Fin.ext
  fin_cases x
  · show o + 1 * i.val = o + i.val; omega
  · show p + 1 * j.val = p + j.val; omega

/-- A load of a rank-3 block, at an index. -/
theorem readAt_ix3 {l m n a b d : ℕ} (v : View σ κ sp (⟨3, ![l, m, n]⟩ : Shape) e) (X : v.ty.Contents Val) {o p q : ℕ}
    (inb : ∀ x : Fin 3, (![o, p, q] : Fin 3 → ℕ) x + (![a, b, d] : Fin 3 → ℕ) x ≤ (![l, m, n] : Fin 3 → ℕ) x) (i : Fin a) (j : Fin b) (k : Fin d) :
    v.readAt Val (Rect.unit (s := ⟨3, ![l, m, n]⟩) ![o, p, q] ![a, b, d] inb).toLoadRect X (ix3 i j k)
      = v.read Val X (ix3 ⟨o + i.val, by have := inb 0; have := i.isLt; simp at *; omega⟩ ⟨p + j.val, by have := inb 1; have := j.isLt; simp at *; omega⟩
          ⟨q + k.val, by have := inb 2; have := k.isLt; simp at *; omega⟩) := by
  show v.read Val X _ = _
  congr 1
  funext x
  apply Fin.ext
  fin_cases x
  · show o + 1 * i.val = o + i.val; omega
  · show p + 1 * j.val = p + j.val; omega
  · show q + 1 * k.val = q + k.val; omega

end

end Cert.Proof.KernelIdeal
-- ==== Proof.Score.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Bisect
public import proofs.«01_k».proof.Proof.Views
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt Ideal) ℕ (UR sig nD τ) ℕ

/-- The score of key row `r` for query column `c` of block `j`. -/
def scK (j : ℕ) (X3 : BufTy.Contents (Elt Ideal) arg3.view.ty) (X6 : BufTy.Contents (Elt Ideal) arg6.view.ty) (X7 : BufTy.Contents (Elt Ideal) arg7.view.ty) (r : Fin 2048) (c : Fin 256) : EReal :=
  if r.val / 64 ≤ (256 * j + c.val) / 64 then
    ∑ h : Fin 8, max (∑ k : Fin 256, arg3.view.read (Elt Ideal) X3 (ix3 0 r k) * arg6.view.read (Elt Ideal) X6 (ix3 0 ⟨256 * h.val + k.val, by omega⟩ c)) 0
      * arg7.view.read (Elt Ideal) X7 (ix3 0 h c)
  else ⊥

/-- The number of rows a column may attend to, as the kernel computes it. -/
def nadmV (j : ℕ) : IVec S1x256 32 :=
  minsi (muli (addi (shrsi (addi (broadcast S1x256 (Scalar.muli (BitVec.ofNat 32 j) 256#32)) (iota Kind.tc S1x256 32 [1] iota_S1x256_d1_w32))
    (broadcast S1x256 6#32)) (broadcast S1x256 1#32)) (broadcast S1x256 64#32)) (broadcast S1x256 2048#32)

/-- The columns' counts of rows with a score of at least zero. -/
def cV (X : BufTy.Contents (Elt Ideal) arg9.view.ty) (j : ℕ) : IVec S1x256 32 :=
  cntCol (broadcast S256x256 (FloatOps.ofBits (F := Ideal) .f32 0#32)) (rdq arg9 X) (j + 1)

/-- Rows below `256 (j + 1)` of the score buffer hold the scores. -/
def Scored (j : ℕ) (X3 : BufTy.Contents (Elt Ideal) arg3.view.ty) (X6 : BufTy.Contents (Elt Ideal) arg6.view.ty) (X7 : BufTy.Contents (Elt Ideal) arg7.view.ty) (X : BufTy.Contents (Elt Ideal) arg9.view.ty) : Prop :=
  ∀ ρ : Fin 2048, ρ.val < 256 * (j + 1) → ∀ q : Fin 256, arg9.view.read (Elt Ideal) X (ix2 ρ q) = scK arg3 arg6 arg7 j X3 X6 X7 ρ q

theorem part78_run (𝒱 : Variants) (c : Dev nD) (bd : Option 𝒱.V) (i : grid0.Coords)
   (X3 : BufTy.Contents (Elt Ideal) arg3.view.ty) (X6 : BufTy.Contents (Elt Ideal) arg6.view.ty) (X7 : BufTy.Contents (Elt Ideal) arg7.view.ty) (X9 : BufTy.Contents (Elt Ideal) arg9.view.ty) :
   iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9))
   ⊢ (wp frame (wpE (defs₀ (F := Ideal)) 𝒱 (c : Thread nD τ) bd) Set.univ (k0_part78 (F := Ideal) i arg2 harg2 arg3 harg3 arg4 harg4 arg5 harg5 arg6 harg6 arg7 harg7 arg8 harg8 arg9 harg9 arg10 harg10 arg11 harg11 arg12 harg12 arg13 harg13 arg14 harg14)
    (fun r => iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ ∃ X', (arg9.view.loc (c : Thread nD τ) ↦[arg9.view.set]{fullShare} X') ∗
      ⌜Scored arg3 arg6 arg7 arg9 (i 1).val X3 X6 X7 X' ∧ ∃ X'', Scored arg3 arg6 arg7 arg9 (i 1).val X3 X6 X7 X'' ∧
        r = ⟨BitVec.ofNat 32 (i 1).val, Scalar.addi (BitVec.ofNat 32 (i 1).val) 1#32, nadmV (i 1).val, cV arg9 X'' (i 1).val,
          cmpi .sge (cV arg9 X'' (i 1).val) (broadcast S1x256 256#32),
          select (cmpi .sge (cV arg9 X'' (i 1).val) (broadcast S1x256 256#32)) (broadcast S1x256 0#32) (broadcast S1x256 2147483648#32), broadcast S1x256 0#32⟩⌝)) : sProp 𝕄) := by
  unfold k0_part78
  obtain ⟨q, hq⟩ : ∃ q : Fin 8, i 1 = q := ⟨_, rfl⟩
  simp only [hq]
  clear hq
  fin_cases q
  all_goals
    simp only [Fin.zero_eta, Fin.mk_one, Fin.reduceFinMk, Fin.val_zero, Fin.val_one, Fin.val_ofNat]
    iintro ⟨H3, H6, H7, H9⟩
    sl_exec
    sl_step
    isplitl [H3]; · iexact H3
    isplitl [H6]; · iexact H6
    isplitl [H7]; · iexact H7
    iexists _; isplitl [H9]; · iexact H9
    ipureintro
    refine ⟨?_, _, ?_, rfl⟩
    all_goals
      intro ρ hρ q
      sl_unfold_words
      refine (View.read_writes_cons_rows_of_mem arg9.view _ (o := 0) _ _ _ (ix2 ρ q) (ix2 (⟨ρ.val, by simpa using hρ⟩ : Fin _) q) rfl (by simp) (by simp)).trans ?_
      pointwise [k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78]
      refine (mask_select (by decide) (by omega) (by omega) _ _).trans ?_
      unfold scK
      rw [Fin.sum_univ_eight, ofBits_ninf]
      refine if_congr Iff.rfl ?_ rfl
      simp only [readAt_ix3, Nat.zero_add, Nat.add_zero, Fin.val_zero, Fin.val_one, Fin.val_two, Fin.isValue, Fin.val_ofNat, Nat.reduceMul, Nat.reduceMod, Nat.mul_zero, Nat.mul_one, Fin.eta, Fin.mk_zero, Fin.mk_one, Fin.reduceFinMk]
      rfl

end Cert.Proof.KernelIdeal
-- ==== Proof.Settle.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Bisect
public import proofs.«01_k».proof.Proof.Views
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- The bisection's carried values before trip `k`. -/
def t1Seq (X : BufTy.Contents (Elt F) arg9.view.ty) (m : ℕ) (init : IVec S1x256 32 × IVec S1x256 32) : ℕ → IVec S1x256 32 × IVec S1x256 32
  | 0 => init
  | k + 1 => if h : k < k0_t1_loop.trips then t1Next arg9 X m ⟨k, h⟩ (t1Seq X m init k) else t1Seq X m init k

/-- The score a key stands for, as a vector. -/
def keyF (p : IVec S1x256 32) : FVec F S1x256 .f32 :=
  bitcastToFloat .f32 (xori p (andi (shrsi p (broadcast S1x256 31#32)) (broadcast S1x256 2147483647#32)))

/-- The bisection loop's invariant: the scores as they were, the carried values those of the recursion. -/
@[reducible] def t1Inv (𝒱 : Variants) (c : Dev nD) (bd : Option 𝒱.V) (i : grid0.Coords) (v0 : BitVec 32) (v19 v27 : IVec S1x256 32) (v29 : IVec S1x256 1) (v32 v33 : IVec S1x256 32)
    (init : IVec S1x256 32 × IVec S1x256 32) (X : BufTy.Contents (Elt F) arg9.view.ty) :
    Gen.LoopInvTy_k0_t1 (F := F) Unit ℕ (UR sig nD τ) ℕ 𝒱 c bd Set.univ i arg2 harg2 arg3 harg3 arg4 harg4 arg5 harg5 arg6 harg6 arg7 harg7 arg8 harg8 arg9 harg9 arg10 harg10 arg11 harg11 arg12 harg12 arg13 harg13 arg14 harg14 v0 v19 v27 v29 v32 v33 init where
  inv k acc := iprop((arg9.view.loc (c : Thread nD τ) ↦[arg9.view.set]{fullShare} X) ∗ ⌜acc = t1Seq arg9 X (blocks v0) init k⌝)
  step k acc := by
    iintro ⟨H, %e⟩
    subst e
    have hs : t1Seq arg9 X (blocks v0) init (k.val + 1) = t1Next arg9 X (blocks v0) k (t1Seq arg9 X (blocks v0) init k.val) := dif_pos k.isLt
    rw [hs]
    iapply t1_step
    iexact H

/-- What the selection's bisection part leaves: the count of the bound, the count and maximum beyond it, and the flags. -/
def p79 (X : BufTy.Contents (Elt F) arg9.view.ty) (m : ℕ) (v19 v27 : IVec S1x256 32) (v29 : IVec S1x256 1) (v32 v33 : IVec S1x256 32) :
    (Σ' (v36_1 : IVec S1x256 32) (v59 : IVec S1x256 32) (v61 : FVec F S1x256 .f32) (v63 : IVec S1x256 1) (v68 : IVec S1x256 32), IVec S1x1x256 32) :=
  let t := t1Seq arg9 X m (v32, select v29 v27 v33) 31
  let g : FVec F S256x256 .f32 := broadcastTo S256x256 (keyF (addi t.1 (broadcast S1x256 1#32))) broadcasts_S1x256_S256x256
  let take := cmpi .sle v19 (broadcast S1x256 256#32)
  let fin := select (ori take (cmpf .oeq (maxCol g (rdq arg9 X) m) (keyF t.1))) (broadcast S1x256 1#32) (broadcast S1x256 0#32)
  ⟨t.2, cntCol g (rdq arg9 X) m, maxCol g (rdq arg9 X) m, take, fin, shapeCast S1x1x256 (subi (broadcast S1x256 1#32) fin) shapeCasts_S1x256_S1x1x256⟩

theorem part79_run (𝒱 : Variants) (c : Dev nD) (bd : Option 𝒱.V) (i : grid0.Coords) (v0 : BitVec 32) (v19 v27 : IVec S1x256 32) (v29 : IVec S1x256 1) (v32 v33 : IVec S1x256 32)
   (X : BufTy.Contents (Elt F) arg9.view.ty) :
   ((arg9.view.loc (c : Thread nD τ) ↦[arg9.view.set]{fullShare} X) : sProp 𝕄)
   ⊢ wp frame (wpE (defs₀ (F := F)) 𝒱 (c : Thread nD τ) bd) Set.univ (k0_part79 (F := F) i arg2 harg2 arg3 harg3 arg4 harg4 arg5 harg5 arg6 harg6 arg7 harg7 arg8 harg8 arg9 harg9 arg10 harg10 arg11 harg11 arg12 harg12 arg13 harg13 arg14 harg14 v0 v19 v27 v29 v32 v33)
    (fun r => iprop((arg9.view.loc (c : Thread nD τ) ↦[arg9.view.set]{fullShare} X) ∗ ⌜r = p79 arg9 X (blocks v0) v19 v27 v29 v32 v33⌝)) := by
  let L := t1Inv (F := F) arg2 harg2 arg3 harg3 arg4 harg4 arg5 harg5 arg6 harg6 arg7 harg7 arg8 harg8 arg9 harg9 arg10 harg10 arg11 harg11 arg12 harg12 arg13 harg13 arg14 harg14 𝒱 c bd i v0 v19 v27 v29 v32 v33 (v32, select v29 v27 v33) X
  unfold k0_part79
  iintro H
  sl_exec
  sl_unfold_words
  obtain ⟨q, hq⟩ := clamp_cases (Scalar.subi v0 1#32)
  have hb : blocks v0 = q.val + 1 := by
    unfold blocks; rw [hq]; fin_cases q <;> rfl
  rw [hb]
  simp only [hq]
  clear hq hb L
  fin_cases q
  all_goals
    simp only [Fin.zero_eta, Fin.mk_one, Fin.reduceFinMk, Fin.val_zero, Fin.val_one, Fin.val_ofNat]
    sl_exec
    sl_step
    isplitl [H]; · iexact H
    ipureintro
    rfl

end Cert.Proof.KernelIdeal
-- ==== Proof.Walk.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Settle
public import proofs.«01_k».proof.Proof.Views
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- What the walk carries: the number of unfinished columns, the value reached, the count above it, the threshold, its
    two counts, and the finished flags. -/
abbrev Walk (F : FTy → Type) : Type :=
  BitVec 32 × FVec F S1x256 .f32 × IVec S1x256 32 × FVec F S1x256 .f32 × IVec S1x256 32 × IVec S1x256 32 × IVec S1x256 32

/-- The sum of a row of words. -/
def rowSum (v : IVec S1x1x256 32) : BitVec 32 :=
  extractAt ![0, 0, 0] (shapeCast S1x1x1 (multiReductionI .add [1, 2] S1 v 0#32 reduces_S1x1x256_S1 rfl) shapeCasts_S1_S1x1x1) inpos_S1x1x1_p0_0_0

/-- One step of the walk. -/
def walkNext (X : BufTy.Contents (Elt F) arg9.view.ty) (m : ℕ) (w : Walk F) : Walk F :=
  let g : FVec F S256x256 .f32 := broadcastTo S256x256 w.2.1 broadcasts_S1x256_S256x256
  let n := cntCol g (rdq arg9 X) m
  let ge := cmpi .sge n (broadcast S1x256 256#32)
  let new := andi ge (cmpi .eq w.2.2.2.2.2.2 (broadcast S1x256 0#32))
  let fin := select ge (broadcast S1x256 1#32) w.2.2.2.2.2.2
  let done := cmpi .sgt fin (broadcast S1x256 0#32)
  (rowSum (shapeCast S1x1x256 (subi (broadcast S1x256 1#32) fin) shapeCasts_S1x256_S1x1x256),
   select done w.2.1 (maxCol g (rdq arg9 X) m), select done w.2.2.1 n,
   select new w.2.1 w.2.2.2.1, select new n w.2.2.2.2.1, select new w.2.2.1 w.2.2.2.2.2.1, fin)

/-- The walk goes on while a column is unfinished. -/
def walkGo (w : Walk F) : Prop := Scalar.cmpi .sgt w.1 0#32 = 1#1

instance (w : Walk F) : Decidable (walkGo w) := inferInstanceAs (Decidable (_ = _))

/-- Where the walk is after at most `n` steps. -/
def walkEnd (X : BufTy.Contents (Elt F) arg9.view.ty) (m : ℕ) : ℕ → Walk F → Walk F
  | 0, w => w
  | n + 1, w => if walkGo w then walkEnd X m n (walkNext arg9 X m w) else w

theorem walkEnd_stop (X : BufTy.Contents (Elt F) arg9.view.ty) (m n : ℕ) (w : Walk F) (h : ¬ walkGo w) : walkEnd arg9 X m n w = w := by
  cases n with
  | zero => rfl
  | succ n => rw [walkEnd, if_neg h]

/-- The walk's label, entered with `w`. -/
def whileAt (i : grid0.Coords) (arg9 : Memref sig .tc .vmem S2048x256 .f32) (harg9 : arg9.IsWhole) (w : Walk F) : Prog (TpuEff nD τ sig (Elt F) (Λ₀ F) .tc) (Walk F) :=
  defs₀ (F := F) .tc 1 (Cc0While1.mk i arg9 harg9 w.1 w.2.1 w.2.2.1 w.2.2.2.1 w.2.2.2.2.1 w.2.2.2.2.2.1 w.2.2.2.2.2.2)

theorem whileAt_eq (i : grid0.Coords) (arg9 : Memref sig .tc .vmem S2048x256 .f32) (harg9 : arg9.IsWhole) (w : Walk F) :
    whileAt i arg9 harg9 w = cc0_while1 (F := F) i arg9 harg9 w.1 w.2.1 w.2.2.1 w.2.2.2.1 w.2.2.2.2.1 w.2.2.2.2.2.1 w.2.2.2.2.2.2 := rfl

end Cert.Proof.KernelIdeal
-- ==== Proof.Stops.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Walk
public import proofs.«01_k».proof.Proof.Words
public import proofs.«01_k».proof.Proof.Views
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt Ideal) ℕ (UR sig nD τ) ℕ

/-- The score of a row and column, as the sweeps read it. -/
def scoreAt (X : BufTy.Contents (Elt Ideal) arg9.view.ty) (r : ℕ) (c : Fin 256) : EReal := rdq arg9 X (r / 256) (ix2 ⟨r % 256, Nat.mod_lt _ (by decide)⟩ c)

theorem rdq_scoreAt (X : BufTy.Contents (Elt Ideal) arg9.view.ty) (q : ℕ) (ρ c : Fin 256) : rdq arg9 X q (ix2 ρ c) = scoreAt arg9 X (256 * q + ρ.val) c := by
  unfold scoreAt
  have h1 : (256 * q + ρ.val) / 256 = q := by omega
  have h2 : (256 * q + ρ.val) % 256 = ρ.val := by omega
  simp only [h1, h2, Fin.eta]

/-- A value for every column, as the sweeps compare it. -/
theorem wide_apply (v : FVec Ideal S1x256 .f32) (ρ c : Fin 256) : broadcastTo S256x256 v broadcasts_S1x256_S256x256 (ix2 ρ c) = v (ix2 0 c) := by
  pointwise []

theorem cnt_le (s : ℕ → EReal) (n : ℕ) (f : EReal) : cnt s n f ≤ n :=
  (Finset.card_filter_le _ _).trans (by simp)

theorem rowSum_zero (v : IVec S1x1x256 32) (h : ∀ x, v x = 0#32) : rowSum v = 0#32 := by
  obtain rfl : v = fun _ => 0#32 := funext h
  pointwise [rowSum]
  exact (fold_ofNat _ fun _ => 0).trans (by simp)

/-- The columns' flags are 0 or 1, and the first word counts the unfinished ones. -/
def WalkOk (w : Walk Ideal) : Prop :=
  w.1 = rowSum (shapeCast S1x1x256 (subi (broadcast S1x256 1#32) w.2.2.2.2.2.2) shapeCasts_S1x256_S1x1x256)
    ∧ ∀ c, w.2.2.2.2.2.2 (ix2 0 c) = 0#32 ∨ w.2.2.2.2.2.2 (ix2 0 c) = 1#32

/-- How far a column is from its end. -/
def colLeft (X : BufTy.Contents (Elt Ideal) arg9.view.ty) (n : ℕ) (w : Walk Ideal) (c : Fin 256) : ℕ :=
  if w.2.2.2.2.2.2 (ix2 0 c) = 1#32 then 0 else 1 + ((Finset.range n).filter fun r => scoreAt arg9 X r c < w.2.1 (ix2 0 c)).card

/-- How far the walk is from its end. -/
def left (X : BufTy.Contents (Elt Ideal) arg9.view.ty) (n : ℕ) (w : Walk Ideal) : ℕ := ∑ c, colLeft arg9 X n w c

theorem unfinished (w : Walk Ideal) (hw : WalkOk w) (hgo : walkGo w) : ∃ c, w.2.2.2.2.2.2 (ix2 0 c) ≠ 1#32 := by
  by_contra hall
  push Not at hall
  unfold walkGo at hgo
  rw [hw.1, rowSum_zero] at hgo
  · exact absurd hgo (by decide)
  · intro x
    have e : subi (broadcast S1x256 1#32) w.2.2.2.2.2.2 = fun _ => 0#32 := by
      funext y
      rw [eq_ix2 y]
      have h0 : y 0 = (0 : Fin 1) := Subsingleton.elim (α := Fin 1) _ _
      have := hall (y 1)
      rw [h0]
      show 1#32 - w.2.2.2.2.2.2 (ix2 0 (y 1)) = 0#32
      rw [this]; rfl
    rw [e]
    rfl

section
variable (X : BufTy.Contents (Elt Ideal) arg9.view.ty) (m : ℕ) (hm : m < 2 ^ 20) (w : Walk Ideal)
include hm

theorem next_ge (c : Fin 256) :
    cmpi .sge (cntCol (broadcastTo S256x256 w.2.1 broadcasts_S1x256_S256x256) (rdq arg9 X) m) (broadcast S1x256 256#32) (ix2 0 c)
      = BitVec.ofBool (decide (256 ≤ cnt (fun r => scoreAt arg9 X r c) (256 * m) (w.2.1 (ix2 0 c)))) := by
  show IntOp.cmpi .sge (cntCol _ _ m (ix2 0 c)) 256#32 = _
  rw [cntCol_apply _ _ (fun c => w.2.1 (ix2 0 c)) (scoreAt arg9 X) (fun ρ c => wide_apply _ ρ c) m (fun q _ ρ c => rdq_scoreAt arg9 X q ρ c) c]
  exact sge_ofNat (by have := cnt_le (fun r => scoreAt arg9 X r c) (256 * m) (w.2.1 (ix2 0 c)); omega) (by norm_num)

theorem next_fin (c : Fin 256) :
    (walkNext arg9 X m w).2.2.2.2.2.2 (ix2 0 c) = if 256 ≤ cnt (fun r => scoreAt arg9 X r c) (256 * m) (w.2.1 (ix2 0 c)) then 1#32 else w.2.2.2.2.2.2 (ix2 0 c) := by
  show Scalar.select (cmpi .sge _ _ (ix2 0 c)) 1#32 _ = _
  rw [next_ge arg9 X m hm w c]
  exact select_ofBool _ _ _

theorem next_ok (hw : WalkOk w) : WalkOk (walkNext arg9 X m w) := by
  refine ⟨rfl, fun c => ?_⟩
  rw [next_fin arg9 X m hm w c]
  split
  · exact .inr rfl
  · exact hw.2 c

theorem next_val (c : Fin 256) (h : (walkNext arg9 X m w).2.2.2.2.2.2 (ix2 0 c) = 0#32) :
    (walkNext arg9 X m w).2.1 (ix2 0 c) = mxb (fun r => scoreAt arg9 X r c) (256 * m) (w.2.1 (ix2 0 c)) := by
  show Scalar.select (IntOp.cmpi .sgt ((walkNext arg9 X m w).2.2.2.2.2.2 (ix2 0 c)) 0#32) (w.2.1 (ix2 0 c)) (maxCol _ _ m (ix2 0 c)) = _
  rw [h, maxCol_apply _ _ (fun c => w.2.1 (ix2 0 c)) (scoreAt arg9 X) (fun ρ c => wide_apply _ ρ c) m (fun q _ ρ c => rdq_scoreAt arg9 X q ρ c) c]
  rfl

theorem colLeft_next (hm1 : 1 ≤ m) (hw : WalkOk w) (c : Fin 256) :
    colLeft arg9 X (256 * m) (walkNext arg9 X m w) c ≤ colLeft arg9 X (256 * m) w c
      ∧ (w.2.2.2.2.2.2 (ix2 0 c) ≠ 1#32 → colLeft arg9 X (256 * m) (walkNext arg9 X m w) c < colLeft arg9 X (256 * m) w c) := by
  have hf := next_fin arg9 X m hm w c
  have hv := next_val arg9 X m hm w c
  unfold colLeft
  generalize (walkNext arg9 X m w).2.2.2.2.2.2 (ix2 0 c) = f' at hf hv ⊢
  generalize (walkNext arg9 X m w).2.1 (ix2 0 c) = x' at hv ⊢
  have h01 := hw.2 c
  generalize w.2.2.2.2.2.2 (ix2 0 c) = f at hf h01 ⊢
  generalize w.2.1 (ix2 0 c) = x at hf hv ⊢
  by_cases hge : 256 ≤ cnt (fun r => scoreAt arg9 X r c) (256 * m) x
  · rw [if_pos hge] at hf
    rw [hf, if_pos rfl]
    exact ⟨Nat.zero_le _, fun h => by rw [if_neg h]; omega⟩
  · rw [if_neg hge] at hf
    subst hf
    rcases h01 with h0 | h1
    · subst h0
      have hx := hv rfl
      rw [if_neg (by decide), if_neg (by decide)]
      suffices ((Finset.range (256 * m)).filter fun r => scoreAt arg9 X r c < x').card < ((Finset.range (256 * m)).filter fun r => scoreAt arg9 X r c < x).card by
        exact ⟨by omega, fun _ => by omega⟩
      have hlt : ∃ r ∈ Finset.range (256 * m), scoreAt arg9 X r c < x := by
        by_contra hno
        push Not at hno
        apply hge
        unfold cnt
        rw [Finset.filter_true_of_mem hno, Finset.card_range]
        omega
      obtain ⟨r0, hr0, hr0x⟩ := hlt
      have hne : (Finset.range (256 * m)).Nonempty := ⟨r0, hr0⟩
      obtain ⟨r1, hr1, e1⟩ := Finset.exists_mem_eq_sup (Finset.range (256 * m)) hne fun r => if x ≤ scoreAt arg9 X r c then (⊥ : EReal) else scoreAt arg9 X r c
      have hx' : x' = if x ≤ scoreAt arg9 X r1 c then (⊥ : EReal) else scoreAt arg9 X r1 c := by
        rw [hx]; exact e1
      have hx'x : x' < x := by
        rw [hx']; split
        · exact lt_of_le_of_lt bot_le hr0x
        · exact lt_of_not_ge ‹_›
      have hatt : ∃ r ∈ Finset.range (256 * m), scoreAt arg9 X r c < x ∧ x' ≤ scoreAt arg9 X r c := by
        by_cases h : x ≤ scoreAt arg9 X r1 c
        · exact ⟨r0, hr0, hr0x, by rw [hx', if_pos h]; exact bot_le⟩
        · exact ⟨r1, hr1, lt_of_not_ge h, by rw [hx', if_neg h]⟩
      obtain ⟨r2, hr2, ha, hb⟩ := hatt
      refine Finset.card_lt_card ⟨fun r hr => ?_, fun hsub => ?_⟩
      · rw [Finset.mem_filter] at hr ⊢
        exact ⟨hr.1, hr.2.trans hx'x⟩
      · exact absurd (Finset.mem_filter.mp (hsub (Finset.mem_filter.mpr ⟨hr2, ha⟩))).2 (not_lt.mpr hb)
    · subst h1
      rw [if_pos rfl]
      exact ⟨le_refl _, fun h => absurd rfl h⟩

theorem left_next (hm1 : 1 ≤ m) (hw : WalkOk w) (hgo : walkGo w) : left arg9 X (256 * m) (walkNext arg9 X m w) < left arg9 X (256 * m) w := by
  obtain ⟨c, hc⟩ := unfinished w hw hgo
  exact Finset.sum_lt_sum (fun c _ => (colLeft_next arg9 X m hm w hm1 hw c).1) ⟨c, Finset.mem_univ c, (colLeft_next arg9 X m hm w hm1 hw c).2 hc⟩

end

/-- The walk stops. -/
theorem walk_stops (X : BufTy.Contents (Elt Ideal) arg9.view.ty) (m : ℕ) (hm : m < 2 ^ 20) (hm1 : 1 ≤ m) (n : ℕ) :
    ∀ w : Walk Ideal, WalkOk w → left arg9 X (256 * m) w ≤ n → ¬ walkGo (walkEnd arg9 X m n w) := by
  induction n with
  | zero =>
    intro w hw hn hgo
    have := left_next arg9 X m hm w hm1 hw hgo
    omega
  | succ n ih =>
    intro w hw hn
    rw [walkEnd]
    split
    · rename_i hgo
      refine ih _ (next_ok arg9 X m hm w hw) ?_
      have := left_next arg9 X m hm w hm1 hw hgo
      omega
    · assumption

end Cert.Proof.KernelIdeal
-- ==== Proof.WalkRun.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Walk
public import proofs.«01_k».proof.Proof.Views
public import Idealize.ShloMosaic.Lib.Pointwise
public import Idealize.ShloMosaic.Lib.WritesUnit
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- The walk's next entry, from a sweep's reduced counts and maxima. -/
@[reducible] def mkCall (i : grid0.Coords) (w2 : FVec F S1x256 .f32) (w3 : IVec S1x256 32) (w4 : FVec F S1x256 .f32) (w5 w6 w7 : IVec S1x256 32)
    (C : IVec S256 32) (M : FVec F S256 .f32) : Cc0While1 F :=
  ⟨i, arg9, harg9,
   extractAt ![0, 0, 0] (shapeCast S1x1x1 (multiReductionI .add [1, 2] S1 (shapeCast S1x1x256 (subi (broadcast S1x256 1#32)
     (select (cmpi .sge (shapeCast S1x256 C shapeCasts_S256_S1x256) (broadcast S1x256 256#32)) (broadcast S1x256 1#32) w7)) shapeCasts_S1x256_S1x1x256) 0#32 reduces_S1x1x256_S1 rfl) shapeCasts_S1_S1x1x1) inpos_S1x1x1_p0_0_0,
   select (cmpi .sgt (select (cmpi .sge (shapeCast S1x256 C shapeCasts_S256_S1x256) (broadcast S1x256 256#32)) (broadcast S1x256 1#32) w7) (broadcast S1x256 0#32)) w2 (shapeCast S1x256 M shapeCasts_S256_S1x256),
   select (cmpi .sgt (select (cmpi .sge (shapeCast S1x256 C shapeCasts_S256_S1x256) (broadcast S1x256 256#32)) (broadcast S1x256 1#32) w7) (broadcast S1x256 0#32)) w3 (shapeCast S1x256 C shapeCasts_S256_S1x256),
   select (andi (cmpi .sge (shapeCast S1x256 C shapeCasts_S256_S1x256) (broadcast S1x256 256#32)) (cmpi .eq w7 (broadcast S1x256 0#32))) w2 w4,
   select (andi (cmpi .sge (shapeCast S1x256 C shapeCasts_S256_S1x256) (broadcast S1x256 256#32)) (cmpi .eq w7 (broadcast S1x256 0#32))) (shapeCast S1x256 C shapeCasts_S256_S1x256) w5,
   select (andi (cmpi .sge (shapeCast S1x256 C shapeCasts_S256_S1x256) (broadcast S1x256 256#32)) (cmpi .eq w7 (broadcast S1x256 0#32))) w3 w6,
   select (cmpi .sge (shapeCast S1x256 C shapeCasts_S256_S1x256) (broadcast S1x256 256#32)) (broadcast S1x256 1#32) w7⟩

theorem call_eq (i : grid0.Coords) (w1 : BitVec 32) (w2 : FVec F S1x256 .f32) (w3 : IVec S1x256 32) (w4 : FVec F S1x256 .f32) (w5 w6 w7 : IVec S1x256 32)
    (X : BufTy.Contents (Elt F) arg9.view.ty) (m : ℕ) {C : IVec S256 32} {M : FVec F S256 .f32}
    (eC : C = multiReductionI .add [0] S256 (cntU (broadcastTo S256x256 w2 broadcasts_S1x256_S256x256) (rdq arg9 X) m) 0#32 reduces_S32x256_S256 rfl)
    (eM : M = multiReduction .maximumf [0] S256 (maxU (broadcastTo S256x256 w2 broadcasts_S1x256_S256x256) (rdq arg9 X) m) 0xFF800000#32 reduces_S32x256_S256 (.inl rfl) rfl) :
    mkCall arg9 harg9 i w2 w3 w4 w5 w6 w7 C M
      = Cc0While1.mk i arg9 harg9 (walkNext arg9 X m (w1, w2, w3, w4, w5, w6, w7)).1 (walkNext arg9 X m (w1, w2, w3, w4, w5, w6, w7)).2.1 (walkNext arg9 X m (w1, w2, w3, w4, w5, w6, w7)).2.2.1 (walkNext arg9 X m (w1, w2, w3, w4, w5, w6, w7)).2.2.2.1
        (walkNext arg9 X m (w1, w2, w3, w4, w5, w6, w7)).2.2.2.2.1 (walkNext arg9 X m (w1, w2, w3, w4, w5, w6, w7)).2.2.2.2.2.1 (walkNext arg9 X m (w1, w2, w3, w4, w5, w6, w7)).2.2.2.2.2.2 := by
  subst eC eM
  unfold mkCall walkNext cntCol maxCol rowSum
  dsimp only

/-- Entering the walk's label, by what entering it at a lower variant does. -/
theorem walk_call (c : Dev nD) (n : ℕ) (i : grid0.Coords) (X : BufTy.Contents (Elt F) arg9.view.ty) (w : Walk F) (R : Walk F)
   (ih : ((arg9.view.loc (c : Thread nD τ) ↦[arg9.view.set]{fullShare} X) : sProp 𝕄) ⊢ wp frame (wpE (defs₀ (F := F)) Variants.nat (c : Thread nD τ) (some n)) Set.univ (whileAt i arg9 harg9 w) (fun r => iprop((arg9.view.loc (c : Thread nD τ) ↦[arg9.view.set]{fullShare} X) ∗ ⌜r = R⌝)))
   (bd : Option ℕ) (hbd : ∀ u ∈ bd, n < u)
   (a : Cc0While1 F) (ha : a = Cc0While1.mk i arg9 harg9 w.1 w.2.1 w.2.2.1 w.2.2.2.1 w.2.2.2.2.1 w.2.2.2.2.2.1 w.2.2.2.2.2.2) {α : Type}
   (k : Walk F → Prog (TpuEff nD τ sig (Elt F) (Λ₀ F) .tc) α) (Q : α → sProp 𝕄)
   (hk : ∀ r, iprop((arg9.view.loc (c : Thread nD τ) ↦[arg9.view.set]{fullShare} X) ∗ ⌜r = R⌝) ⊢ wp frame (wpE (defs₀ (F := F)) Variants.nat (c : Thread nD τ) bd) Set.univ (k r) Q) :
   ((arg9.view.loc (c : Thread nD τ) ↦[arg9.view.set]{fullShare} X) : sProp 𝕄) ⊢ wp frame (wpE (defs₀ (F := F)) Variants.nat (c : Thread nD τ) bd) Set.univ (.op (.call (1 : (Λ₀ F).Label) a) k) Q := by
  subst ha
  refine BIBase.Entails.trans ?_ (wp_call Variants.nat (c : Thread nD τ) bd Set.univ n hbd)
  unfold whileAt at ih
  have h2 : ∀ x, iprop((arg9.view.loc (c : Thread nD τ) ↦[arg9.view.set]{fullShare} X) ∗ ⌜x = R⌝) ⊢ (fun x => wp frame (wpE (defs₀ (F := F)) Variants.nat (c : Thread nD τ) bd) Set.univ (k x) Q) x := hk
  generalize (defs₀ (F := F) .tc 1 (Cc0While1.mk i arg9 harg9 w.1 w.2.1 w.2.2.1 w.2.2.2.1 w.2.2.2.2.1 w.2.2.2.2.2.1 w.2.2.2.2.2.2)) = p at ih ⊢
  exact BIBase.Entails.trans ih (wp_mono _ _ _ h2)

/-- One entry of the walk's label: stop at once, or make one step and enter again. -/
theorem walk_step (c : Dev nD) (n : ℕ) (i : grid0.Coords) (X : BufTy.Contents (Elt F) arg9.view.ty) (w : Walk F) (hgo : walkGo w) (m : ℕ) (hm : (i 1).val + 1 = m)
   (w' R : Walk F) (hw : walkNext arg9 X m w = w')
   (ih : ((arg9.view.loc (c : Thread nD τ) ↦[arg9.view.set]{fullShare} X) : sProp 𝕄) ⊢ wp frame (wpE (defs₀ (F := F)) Variants.nat (c : Thread nD τ) (some n)) Set.univ (whileAt i arg9 harg9 w') (fun r => iprop((arg9.view.loc (c : Thread nD τ) ↦[arg9.view.set]{fullShare} X) ∗ ⌜r = R⌝))) :
   ((arg9.view.loc (c : Thread nD τ) ↦[arg9.view.set]{fullShare} X) : sProp 𝕄) ⊢ wp frame (wpE (defs₀ (F := F)) Variants.nat (c : Thread nD τ) (some (n + 1))) Set.univ (whileAt i arg9 harg9 w) (fun r => iprop((arg9.view.loc (c : Thread nD τ) ↦[arg9.view.set]{fullShare} X) ∗ ⌜r = R⌝)) := by
  obtain ⟨w1, w2, w3, w4, w5, w6, w7⟩ := w
  unfold walkGo at hgo
  dsimp only at hgo
  rw [whileAt_eq]
  dsimp only
  obtain ⟨q, hq⟩ : ∃ q : Fin 8, i 1 = q := ⟨_, rfl⟩
  have hm' : q.val + 1 = m := by rw [← hq]; exact hm
  clear hm
  unfold cc0_while1
  rw [hq]
  clear hq
  fin_cases q
  all_goals
    simp only [Fin.zero_eta, Fin.mk_one, Fin.reduceFinMk, Fin.val_zero, Fin.val_one, Fin.val_ofNat] at hm' ⊢
    iintro H
    sl_exec
    istop
    try sl_unfold_words
    refine walk_call arg9 harg9 c n i X w' R ih _ (fun u hu => by cases hu; exact Nat.lt_succ_self n) _ ?_ _ _ fun r => ?_
    · subst hw hm'
      refine call_eq arg9 harg9 i w1 w2 w3 w4 w5 w6 w7 X _ ?_ ?_
      · rfl
      · rfl
    · iintro ⟨H, %e⟩
      sl_step
      isplitl [H]; · iexact H
      ipureintro
      exact e

/-- The walk's label, entered where it stops within `n` steps. -/
theorem walk_run (c : Dev nD) (i : grid0.Coords) (X : BufTy.Contents (Elt F) arg9.view.ty) (m : ℕ) (hm : (i 1).val + 1 = m) (n : ℕ) : ∀ w : Walk F, ¬ walkGo (walkEnd arg9 X m n w) →
   (((arg9.view.loc (c : Thread nD τ) ↦[arg9.view.set]{fullShare} X) : sProp 𝕄) ⊢ wp frame (wpE (defs₀ (F := F)) Variants.nat (c : Thread nD τ) (some n)) Set.univ (whileAt i arg9 harg9 w) (fun r => iprop((arg9.view.loc (c : Thread nD τ) ↦[arg9.view.set]{fullShare} X) ∗ ⌜r = walkEnd arg9 X m n w⌝))) := by
  have stop : ∀ n (w : Walk F), ¬ walkGo w → (((arg9.view.loc (c : Thread nD τ) ↦[arg9.view.set]{fullShare} X) : sProp 𝕄)
   ⊢ wp frame (wpE (defs₀ (F := F)) Variants.nat (c : Thread nD τ) (some n)) Set.univ (whileAt i arg9 harg9 w) (fun r => iprop((arg9.view.loc (c : Thread nD τ) ↦[arg9.view.set]{fullShare} X) ∗ ⌜r = walkEnd arg9 X m n w⌝))) := by
    intro n w h
    rw [walkEnd_stop arg9 X _ n w h]
    unfold walkGo at h
    rw [whileAt_eq]
    unfold cc0_while1
    dsimp only
    rw [if_neg h]
    iintro H
    sl_step
    isplitl [H]; · iexact H
    ipureintro
    rfl
  induction n with
  | zero => exact fun w h => stop 0 w h
  | succ n ih =>
    intro w h
    by_cases hgo : walkGo w
    · rw [walkEnd, if_pos hgo] at h ⊢
      generalize hw : walkNext arg9 X m w = w' at h ⊢
      specialize ih w' h
      generalize walkEnd arg9 X m n w' = R at ih ⊢
      exact walk_step arg9 harg9 c n i X w hgo m hm w' R hw ih
    · exact stop _ w hgo

end Cert.Proof.KernelIdeal
-- ==== Proof.Bias.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.WalkRun
public import proofs.«01_k».proof.Proof.Views
public import Idealize.ShloMosaic.Lib.Pointwise
public import Idealize.ShloMosaic.Lib.WritesUnit
public import Idealize.ShloMosaic.Lib.LoopRemainder
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- `walk_call` beside what the walk does not touch. -/
theorem walk_call_fr (c : Dev nD) (n : ℕ) (i : grid0.Coords) (X : BufTy.Contents (Elt F) arg9.view.ty) (w : Walk F) (R : Walk F) (Fr : sProp 𝕄)
   (ih : ((arg9.view.loc (c : Thread nD τ) ↦[arg9.view.set]{fullShare} X) : sProp 𝕄) ⊢ wp frame (wpE (defs₀ (F := F)) Variants.nat (c : Thread nD τ) (some n)) Set.univ (whileAt i arg9 harg9 w) (fun r => iprop((arg9.view.loc (c : Thread nD τ) ↦[arg9.view.set]{fullShare} X) ∗ ⌜r = R⌝)))
   (bd : Option ℕ) (hbd : ∀ u ∈ bd, n < u)
   (a : Cc0While1 F) (ha : a = Cc0While1.mk i arg9 harg9 w.1 w.2.1 w.2.2.1 w.2.2.2.1 w.2.2.2.2.1 w.2.2.2.2.2.1 w.2.2.2.2.2.2) {α : Type}
   (k : Walk F → Prog (TpuEff nD τ sig (Elt F) (Λ₀ F) .tc) α) (Q : α → sProp 𝕄)
   (hk : ∀ r, iprop(((arg9.view.loc (c : Thread nD τ) ↦[arg9.view.set]{fullShare} X) ∗ ⌜r = R⌝) ∗ Fr) ⊢ wp frame (wpE (defs₀ (F := F)) Variants.nat (c : Thread nD τ) bd) Set.univ (k r) Q) :
   (iprop((arg9.view.loc (c : Thread nD τ) ↦[arg9.view.set]{fullShare} X) ∗ Fr) : sProp 𝕄) ⊢ wp frame (wpE (defs₀ (F := F)) Variants.nat (c : Thread nD τ) bd) Set.univ (.op (.call (1 : (Λ₀ F).Label) a) k) Q := by
  subst ha
  refine BIBase.Entails.trans ?_ (wp_call Variants.nat (c : Thread nD τ) bd Set.univ n hbd)
  unfold whileAt at ih
  have h2 : ∀ x, iprop(((arg9.view.loc (c : Thread nD τ) ↦[arg9.view.set]{fullShare} X) ∗ ⌜x = R⌝) ∗ Fr) ⊢ (fun x => wp frame (wpE (defs₀ (F := F)) Variants.nat (c : Thread nD τ) bd) Set.univ (k x) Q) x := hk
  generalize (defs₀ (F := F) .tc 1 (Cc0While1.mk i arg9 harg9 w.1 w.2.1 w.2.2.1 w.2.2.2.1 w.2.2.2.2.1 w.2.2.2.2.2.1 w.2.2.2.2.2.2)) = p at ih ⊢
  refine BIBase.Entails.trans ?_ (wp_mono _ _ _ h2)
  refine BIBase.Entails.trans ?_ (wp_frame_r _ _ _)
  iintro ⟨H, G⟩
  isplitl [H]
  · iapply ih; iexact H
  · iexact G

/-- The bias loop without ties: the scores stay, the bias is written. -/
@[reducible] def t2Inv (c : Dev nD) (i : grid0.Coords) (v0 : BitVec 32) (v36_1 : IVec S1x256 32) (v59 : IVec S1x256 32) (v61 : FVec F S1x256 .f32) (v63 : IVec S1x256 1) (v68 : IVec S1x256 32) (v71 : IVec S1x1x256 32) (v75_3 : FVec F S1x256 .f32) (X : BufTy.Contents (Elt F) arg9.view.ty) :
    Gen.LoopInvTy_k0_t2 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 v0 v36_1 v59 v61 v63 v68 v71 v75_3 where
  inv k acc := iprop((arg9.view.loc (c : Thread nD τ) ↦[arg9.view.set]{fullShare} X) ∗ ∃ Y, (arg10.view.loc (c : Thread nD τ) ↦[arg10.view.set]{fullShare} Y))
  step k acc := by
    iintro ⟨H9, %Y, H10⟩
    unfold k0_t2_body
    sl_exec
    sl_step
    isplitl [H9]; · iexact H9
    iexists _; iexact H10

/-- The bias loop that counts ties: the scores stay, the bias is written. -/
@[reducible] def t4Inv (c : Dev nD) (i : grid0.Coords) (v0 : BitVec 32) (v36_1 : IVec S1x256 32) (v59 : IVec S1x256 32) (v61 : FVec F S1x256 .f32) (v63 : IVec S1x256 1) (v68 : IVec S1x256 32) (v71 : IVec S1x1x256 32) (v75_3 : FVec F S1x256 .f32) (v75_5 : IVec S1x256 32) (init : FVec F S1x256 .f32) (X : BufTy.Contents (Elt F) arg9.view.ty) :
    Gen.LoopInvTy_k0_t4 (F := F) Unit ℕ (UR sig nD τ) ℕ Variants.nat c none Set.univ i arg2 harg2 arg3 harg3 arg4 harg4 arg5 harg5 arg6 harg6 arg7 harg7 arg8 harg8 arg9 harg9 arg10 harg10 arg11 harg11 arg12 harg12 arg13 harg13 arg14 harg14 v0 v36_1 v59 v61 v63 v68 v71 v75_3 v75_5 init where
  inv k acc := iprop((arg9.view.loc (c : Thread nD τ) ↦[arg9.view.set]{fullShare} X) ∗ ∃ Y, (arg10.view.loc (c : Thread nD τ) ↦[arg10.view.set]{fullShare} Y))
  step k acc := by
    iintro ⟨H9, %Y, H10⟩
    unfold k0_t4_body
    sl_exec
    sl_step
    isplitl [H9]; · iexact H9
    iexists _; iexact H10

/-- The bias part, run to its end: the scores stay, the bias and the two accumulators are written. -/
theorem part80_run (c : Dev nD) (i : grid0.Coords) (v0 : BitVec 32) (v36_1 : IVec S1x256 32) (v59 : IVec S1x256 32) (v61 : FVec F S1x256 .f32) (v63 : IVec S1x256 1) (v68 : IVec S1x256 32) (v71 : IVec S1x1x256 32)
   (n : ℕ) (X : BufTy.Contents (Elt F) arg9.view.ty) (X10 : BufTy.Contents (Elt F) arg10.view.ty) (X11 : BufTy.Contents (Elt F) arg11.view.ty) (X12 : BufTy.Contents (Elt F) arg12.view.ty)
   (hn : ¬ walkGo (walkEnd arg9 X ((i 1).val + 1) n (rowSum v71, v61, v59, v61, v36_1, v59, v68))) :
   (iprop((arg9.view.loc (c : Thread nD τ) ↦[arg9.view.set]{fullShare} X) ∗ ((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12))) : sProp 𝕄)
   ⊢ wp frame (wpE (defs₀ (F := F)) Variants.nat (c : Thread nD τ) none) Set.univ (k0_part80 (F := F) i arg2 harg2 arg3 harg3 arg4 harg4 arg5 harg5 arg6 harg6 arg7 harg7 arg8 harg8 arg9 harg9 arg10 harg10 arg11 harg11 arg12 harg12 arg13 harg13 arg14 harg14 v0 v36_1 v59 v61 v63 v68 v71)
    (fun _ => iprop((arg9.view.loc (c : Thread nD τ) ↦[arg9.view.set]{fullShare} X) ∗ (∃ Y, (arg10.view.loc (c : Thread nD τ) ↦[arg10.view.set]{fullShare} Y)) ∗ (∃ Y, (arg11.view.loc (c : Thread nD τ) ↦[arg11.view.set]{fullShare} Y)) ∗ (∃ Y, (arg12.view.loc (c : Thread nD τ) ↦[arg12.view.set]{fullShare} Y)))) := by
  have ih := walk_run arg9 harg9 c i X _ rfl n _ hn
  unfold k0_part80
  iintro ⟨H9, H10, H11, H12⟩
  sl_exec
  istop
  refine BIBase.Entails.trans ?_ (walk_call_fr arg9 harg9 c n i X _ _ iprop((arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12)) ih none (fun u hu => nomatch hu) _ rfl _ _ fun r => ?_)
  · iintro ⟨⟨⟨H9, H10⟩, H11⟩, H12⟩
    isplitl [H9]; · iexact H9
    isplitl [H10]; · iexact H10
    isplitl [H11]; · iexact H11
    iexact H12
  obtain ⟨r0, r1, r2, r3, r4, r5, r6⟩ := r
  let L2 := t2Inv (F := F) arg2 harg2 arg3 harg3 arg4 harg4 arg5 harg5 arg6 harg6 arg7 harg7 arg8 harg8 arg9 harg9 arg10 harg10 arg11 harg11 arg12 harg12 arg13 harg13 arg14 harg14 c i v0 v36_1 v59 v61 v63 v68 v71 r3 X
  let L4 := t4Inv (F := F) arg2 harg2 arg3 harg3 arg4 harg4 arg5 harg5 arg6 harg6 arg7 harg7 arg8 harg8 arg9 harg9 arg10 harg10 arg11 harg11 arg12 harg12 arg13 harg13 arg14 harg14 c i v0 v36_1 v59 v61 v63 v68 v71 r3 r5 (broadcast S1x256 (FloatOps.ofBits .f32 0x00000000#32)) X
  iintro ⟨⟨H9, %e⟩, H10, H11, H12⟩
  sl_exec
  split
  all_goals
    sl_exec
    split
    all_goals
      sl_exec
      sl_step
      isplitl [H9]; · iexact H9
      isplitl [H10]; · iexists _; iexact H10
      isplitl [H11]; · iexists _; iexact H11
      iexists _; iexact H12

end Cert.Proof.KernelIdeal
-- ==== Proof.Attn.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Bisect
public import proofs.«01_k».proof.Proof.Views
public import Idealize.ShloMosaic.Lib.Pointwise
public import Idealize.ShloMosaic.Lib.WritesUnit
public import Idealize.ShloMosaic.Lib.LoopRemainder
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt F) ℕ (UR sig nD τ) ℕ

/-- The scores of the queries and keys: the logits and their maxima are written. -/
theorem part81_run (𝒱 : Variants) (c : Dev nD) (bd : Option 𝒱.V) (i : grid0.Coords) (q : Fin 8) (v107 : FVec F S512x256 .f32)
   (X2 : BufTy.Contents (Elt F) arg2.view.ty) (X5 : BufTy.Contents (Elt F) arg5.view.ty) (X10 : BufTy.Contents (Elt F) arg10.view.ty) (X11 : BufTy.Contents (Elt F) arg11.view.ty) (X13 : BufTy.Contents (Elt F) arg13.view.ty) (X14 : BufTy.Contents (Elt F) arg14.view.ty) :
   (iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14)) : sProp 𝕄)
   ⊢ wp frame (wpE (defs₀ (F := F)) 𝒱 (c : Thread nD τ) bd) Set.univ (k0_part81 (F := F) i arg2 harg2 arg3 harg3 arg4 harg4 arg5 harg5 arg6 harg6 arg7 harg7 arg8 harg8 arg9 harg9 arg10 harg10 arg11 harg11 arg12 harg12 arg13 harg13 arg14 harg14 (BitVec.ofNat 32 q.val) v107)
    (fun _ => iprop((arg2.view.loc (c : Thread nD τ) ↦[arg2.view.set]{fullShare} X2) ∗ (arg5.view.loc (c : Thread nD τ) ↦[arg5.view.set]{fullShare} X5) ∗ (arg10.view.loc (c : Thread nD τ) ↦[arg10.view.set]{fullShare} X10) ∗ (∃ Y, (arg11.view.loc (c : Thread nD τ) ↦[arg11.view.set]{fullShare} Y)) ∗ (∃ Y, (arg13.view.loc (c : Thread nD τ) ↦[arg13.view.set]{fullShare} Y)) ∗ (∃ Y, (arg14.view.loc (c : Thread nD τ) ↦[arg14.view.set]{fullShare} Y)))) := by
  unfold k0_part81
  fin_cases q
  all_goals
    simp only [Fin.zero_eta, Fin.mk_one, Fin.reduceFinMk, Fin.val_zero, Fin.val_one, Fin.val_ofNat]
    iintro ⟨H2, H5, H10, H11, H13, H14⟩
    sl_exec
    sl_step
    isplitl [H2]; · iexact H2
    isplitl [H5]; · iexact H5
    isplitl [H10]; · iexact H10
    isplitl [H11]; · iexists _; iexact H11
    isplitl [H13]; · iexists _; iexact H13
    iexists _; iexact H14

/-- The maxima of the heads. -/
theorem part82_run (𝒱 : Variants) (c : Dev nD) (bd : Option 𝒱.V) (i : grid0.Coords) (v141 : FVec F S1x256 .f32)
   (X11 : BufTy.Contents (Elt F) arg11.view.ty) :
   ((arg11.view.loc (c : Thread nD τ) ↦[arg11.view.set]{fullShare} X11) : sProp 𝕄)
   ⊢ wp frame (wpE (defs₀ (F := F)) 𝒱 (c : Thread nD τ) bd) Set.univ (k0_part82 (F := F) i arg2 harg2 arg3 harg3 arg4 harg4 arg5 harg5 arg6 harg6 arg7 harg7 arg8 harg8 arg9 harg9 arg10 harg10 arg11 harg11 arg12 harg12 arg13 harg13 arg14 harg14 v141)
    (fun _ => iprop(∃ Y, (arg11.view.loc (c : Thread nD τ) ↦[arg11.view.set]{fullShare} Y))) := by
  unfold k0_part82
  iintro H11
  sl_exec
  sl_step
  iexists _; iexact H11

/-- The weights and the weighted sums, and the first heads' results. -/
theorem part83_run (𝒱 : Variants) (c : Dev nD) (bd : Option 𝒱.V) (i : grid0.Coords) (arg1 : BitVec 32) (v174 : FVec F S8x256 .f32) (v175 : Vec F S8x256 .f32)
   (X4 : BufTy.Contents (Elt F) arg4.view.ty) (X8 : BufTy.Contents (Elt F) arg8.view.ty) (X11 : BufTy.Contents (Elt F) arg11.view.ty) (X12 : BufTy.Contents (Elt F) arg12.view.ty) (X13 : BufTy.Contents (Elt F) arg13.view.ty) (X14 : BufTy.Contents (Elt F) arg14.view.ty) :
   (iprop((arg4.view.loc (c : Thread nD τ) ↦[arg4.view.set]{fullShare} X4) ∗ (arg8.view.loc (c : Thread nD τ) ↦[arg8.view.set]{fullShare} X8) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) : sProp 𝕄)
   ⊢ wp frame (wpE (defs₀ (F := F)) 𝒱 (c : Thread nD τ) bd) Set.univ (k0_part83 (F := F) i arg2 harg2 arg3 harg3 arg4 harg4 arg5 harg5 arg6 harg6 arg7 harg7 arg8 harg8 arg9 harg9 arg10 harg10 arg11 harg11 arg12 harg12 arg13 harg13 arg14 harg14 arg1 v174 v175)
    (fun _ => iprop((arg4.view.loc (c : Thread nD τ) ↦[arg4.view.set]{fullShare} X4) ∗ (∃ Y, (arg8.view.loc (c : Thread nD τ) ↦[arg8.view.set]{fullShare} Y)) ∗ (∃ Y, (arg11.view.loc (c : Thread nD τ) ↦[arg11.view.set]{fullShare} Y)) ∗ (∃ Y, (arg12.view.loc (c : Thread nD τ) ↦[arg12.view.set]{fullShare} Y)) ∗ (∃ Y, (arg13.view.loc (c : Thread nD τ) ↦[arg13.view.set]{fullShare} Y)) ∗ (∃ Y, (arg14.view.loc (c : Thread nD τ) ↦[arg14.view.set]{fullShare} Y)))) := by
  let L := Gen.loopInv_k0_t6 (F := F) 𝒱 c bd Set.univ i arg2 harg2 arg3 harg3 arg4 harg4 arg5 harg5 arg6 harg6 arg7 harg7 arg8 harg8 arg9 harg9 arg10 harg10 arg11 harg11 arg12 harg12 arg13 harg13 arg14 harg14 arg1 v174 v175 X4 (arg11.view.writes (Elt F) X11 [⟨Rect.unit (s := S64x256) ![56, 0] S8x256.size inb_S64x256_S8x256_56_0, shapeCast S8x256 v174 shapeCasts_S8x256_S8x256⟩]) X14 X12 X13
  unfold k0_part83
  iintro ⟨H4, H8, H11, H12, H13, H14⟩
  sl_exec
  clear L
  sl_exec
  sl_step
  isplitl [H4]; · iexact H4
  isplitl [H8]; · iexists _; iexact H8
  isplitl [H11]; · iexists _; iexact H11
  isplitl [H12]; · iexists _; iexact H12
  isplitl [H13]; · iexists _; iexact H13
  iexists _; iexact H14

/-- Three heads' results. -/
theorem part84_run (𝒱 : Variants) (c : Dev nD) (bd : Option 𝒱.V) (i : grid0.Coords) (v205 : FVec F S256 .f32)
   (X8 : BufTy.Contents (Elt F) arg8.view.ty) (X12 : BufTy.Contents (Elt F) arg12.view.ty) (X13 : BufTy.Contents (Elt F) arg13.view.ty) :
   (iprop((arg8.view.loc (c : Thread nD τ) ↦[arg8.view.set]{fullShare} X8) ∗ (arg12.view.loc (c : Thread nD τ) ↦[arg12.view.set]{fullShare} X12) ∗ (arg13.view.loc (c : Thread nD τ) ↦[arg13.view.set]{fullShare} X13)) : sProp 𝕄)
   ⊢ wp frame (wpE (defs₀ (F := F)) 𝒱 (c : Thread nD τ) bd) Set.univ (k0_part84 (F := F) i arg2 harg2 arg3 harg3 arg4 harg4 arg5 harg5 arg6 harg6 arg7 harg7 arg8 harg8 arg9 harg9 arg10 harg10 arg11 harg11 arg12 harg12 arg13 harg13 arg14 harg14 v205)
    (fun _ => iprop((∃ Y, (arg8.view.loc (c : Thread nD τ) ↦[arg8.view.set]{fullShare} Y)) ∗ (arg12.view.loc (c : Thread nD τ) ↦[arg12.view.set]{fullShare} X12) ∗ (arg13.view.loc (c : Thread nD τ) ↦[arg13.view.set]{fullShare} X13))) := by
  unfold k0_part84
  iintro ⟨H8, H12, H13⟩
  sl_exec
  sl_step
  isplitl [H8]; · iexists _; iexact H8
  isplitl [H12]; · iexact H12
  iexact H13

end Cert.Proof.KernelIdeal
-- ==== Proof.Body.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Score
public import proofs.«01_k».proof.Proof.Stops
public import proofs.«01_k».proof.Proof.Bias
public import proofs.«01_k».proof.Proof.Attn
public import proofs.«01_k».proof.Proof.Views
public import Idealize.ShloMosaic.Lib.Pointwise
public import Idealize.ShloMosaic.Lib.WritesUnit
public import Idealize.ShloMosaic.Lib.LoopRemainder
public import Idealize.ShloMosaic.Adequacy
public import Idealize.ShloMosaic.Init

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)

local notation "𝕄" => MT nD τ sig Unit (Elt Ideal) ℕ (UR sig nD τ) ℕ

set_option pp.maxSteps 300
/-- The walk's first entry, from what the bisection leaves. -/
@[reducible] def walkInit (r : Σ' (_ : IVec S1x256 32) (_ : IVec S1x256 32) (_ : FVec Ideal S1x256 .f32) (_ : IVec S1x256 1) (_ : IVec S1x256 32), IVec S1x1x256 32) : Walk Ideal :=
  (rowSum r.2.2.2.2.2, r.2.2.1, r.2.1, r.2.2.1, r.1, r.2.1, r.2.2.2.2.1)

theorem walkInit_ok (X : BufTy.Contents (Elt Ideal) arg9.view.ty) (m : ℕ) (v19 v27 : IVec S1x256 32) (v29 : IVec S1x256 1) (v32 v33 : IVec S1x256 32) :
    WalkOk (walkInit (p79 (F := Ideal) arg9 X m v19 v27 v29 v32 v33)) := by
  refine ⟨rfl, fun c => ?_⟩
  unfold walkInit p79
  dsimp only
  rw [select]
  unfold Scalar.select
  split
  · exact .inr rfl
  · exact .inl rfl

theorem walk_ends (X : BufTy.Contents (Elt Ideal) arg9.view.ty) (m : ℕ) (hm : m < 2 ^ 20) (hm1 : 1 ≤ m) (w : Walk Ideal) (hw : WalkOk w) :
    ∃ n, ¬ walkGo (walkEnd arg9 X m n w) := ⟨_, walk_stops arg9 X m hm hm1 _ w hw le_rfl⟩

/-- The kernel's body at a grid point: the inputs stay, the output's block and the scratch are written. -/
theorem body_run (c : Dev nD) (i : grid0.Coords)
   (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (X13 : BufTy.Contents (Elt Ideal) arg13.view.ty) (X14 : BufTy.Contents (Elt Ideal) arg14.view.ty) :
   (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14)) : sProp 𝕄)
   ⊢ wp frame (wpE (defs₀ (F := Ideal)) Variants.nat (c : Thread nD τ) none) Set.univ (cc0_attn_prompt (F := Ideal) i arg2 harg2 arg3 harg3 arg4 harg4 arg5 harg5 arg6 harg6 arg7 harg7 arg8 harg8 arg9 harg9 arg10 harg10 arg11 harg11 arg12 harg12 arg13 harg13 arg14 harg14)
    (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ Y, (arg8.view.loc (c : Thread nD τ) ↦[arg8.view.set]{fullShare} Y)) ∗ (∃ Y, (arg9.view.loc (c : Thread nD τ) ↦[arg9.view.set]{fullShare} Y)) ∗ (∃ Y, (arg10.view.loc (c : Thread nD τ) ↦[arg10.view.set]{fullShare} Y)) ∗ (∃ Y, (arg11.view.loc (c : Thread nD τ) ↦[arg11.view.set]{fullShare} Y)) ∗ (∃ Y, (arg12.view.loc (c : Thread nD τ) ↦[arg12.view.set]{fullShare} Y)) ∗ (∃ Y, (arg13.view.loc (c : Thread nD τ) ↦[arg13.view.set]{fullShare} Y)) ∗ (∃ Y, (arg14.view.loc (c : Thread nD τ) ↦[arg14.view.set]{fullShare} Y)))) := by
  unfold cc0_attn_prompt
  iintro ⟨H2, H3, H4, H5, H6, H7, H8, H9, H10, H11, H12, H13, H14⟩
  rw [wp_bind]
  iapply (wp_wand_r Idealize.ShloMosaic.frame (wpE (defs₀ (F := Ideal)) Variants.nat (c : Thread nD τ) none) Set.univ)
  isplitl [H3 H6 H7 H9]
  · iapply (part78_run arg2 harg2 arg3 harg3 arg4 harg4 arg5 harg5 arg6 harg6 arg7 harg7 arg8 harg8 arg9 harg9 arg10 harg10 arg11 harg11 arg12 harg12 arg13 harg13 arg14 harg14 Variants.nat c none i X3 X6 X7 X9)
    isplitl [H3]; · iexact H3
    isplitl [H6]; · iexact H6
    isplitl [H7]; · iexact H7
    iexact H9
  iintro %r ⟨H3, H6, H7, %X, H9, %h⟩
  obtain ⟨-, X'', -, rfl⟩ := h
  dsimp only
  generalize nadmV _ = v19
  generalize cV arg9 X'' _ = v27
  generalize cmpi .sge v27 _ = v29
  generalize select v29 _ _ = v32
  generalize broadcast S1x256 0#32 = v33
  clear X''
  rw [wp_bind]
  iapply (wp_wand_r Idealize.ShloMosaic.frame (wpE (defs₀ (F := Ideal)) Variants.nat (c : Thread nD τ) none) Set.univ)
  isplitl [H9]
  · iapply (part79_run arg2 harg2 arg3 harg3 arg4 harg4 arg5 harg5 arg6 harg6 arg7 harg7 arg8 harg8 arg9 harg9 arg10 harg10 arg11 harg11 arg12 harg12 arg13 harg13 arg14 harg14 Variants.nat c none i (Scalar.addi (BitVec.ofNat 32 (i 1).val) 1#32) v19 v27 v29 v32 v33 X)
    iexact H9
  iintro %r ⟨H9, %h⟩
  have hw := walkInit_ok arg9 X (blocks (Scalar.addi (BitVec.ofNat 32 (i 1).val) 1#32)) v19 v27 v29 v32 v33
  rw [← h] at hw
  clear h
  obtain ⟨v36, v59, v61, v63, v68, v71⟩ := r
  dsimp only at hw ⊢
  obtain ⟨n, hn⟩ := walk_ends arg9 X ((i 1).val + 1) (by have : (i 1).val < 8 := (i 1).isLt; omega) (by omega) _ hw
  rw [wp_bind]
  iapply (wp_wand_r Idealize.ShloMosaic.frame (wpE (defs₀ (F := Ideal)) Variants.nat (c : Thread nD τ) none) Set.univ)
  isplitl [H9 H10 H11 H12]
  · iapply (part80_run arg2 harg2 arg3 harg3 arg4 harg4 arg5 harg5 arg6 harg6 arg7 harg7 arg8 harg8 arg9 harg9 arg10 harg10 arg11 harg11 arg12 harg12 arg13 harg13 arg14 harg14 c i (Scalar.addi (BitVec.ofNat 32 (i 1).val) 1#32) v36 v59 v61 v63 v68 v71 n X X10 X11 X12 hn)
    isplitl [H9]; · iexact H9
    isplitl [H10]; · iexact H10
    isplitl [H11]; · iexact H11
    iexact H12
  iintro %r ⟨H9, ⟨%Y10, H10⟩, ⟨%Y11, H11⟩, ⟨%Y12, H12⟩⟩
  rw [wp_bind]
  iapply (wp_wand_r Idealize.ShloMosaic.frame (wpE (defs₀ (F := Ideal)) Variants.nat (c : Thread nD τ) none) Set.univ)
  isplitl [H2 H5 H10 H11 H13 H14]
  · iapply (part81_run arg2 harg2 arg3 harg3 arg4 harg4 arg5 harg5 arg6 harg6 arg7 harg7 arg8 harg8 arg9 harg9 arg10 harg10 arg11 harg11 arg12 harg12 arg13 harg13 arg14 harg14 Variants.nat c none i (i 1) r X2 X5 Y10 Y11 X13 X14)
    isplitl [H2]; · iexact H2
    isplitl [H5]; · iexact H5
    isplitl [H10]; · iexact H10
    isplitl [H11]; · iexact H11
    isplitl [H13]; · iexact H13
    iexact H14
  iintro %r ⟨H2, H5, H10, ⟨%Y11, H11⟩, ⟨%Y13, H13⟩, ⟨%Y14, H14⟩⟩
  rw [wp_bind]
  iapply (wp_wand_r Idealize.ShloMosaic.frame (wpE (defs₀ (F := Ideal)) Variants.nat (c : Thread nD τ) none) Set.univ)
  isplitl [H11]
  · iapply (part82_run arg2 harg2 arg3 harg3 arg4 harg4 arg5 harg5 arg6 harg6 arg7 harg7 arg8 harg8 arg9 harg9 arg10 harg10 arg11 harg11 arg12 harg12 arg13 harg13 arg14 harg14 Variants.nat c none i r Y11)
    iexact H11
  iintro %r ⟨%Y11, H11⟩
  obtain ⟨v174, v175⟩ := r
  dsimp only
  rw [wp_bind]
  iapply (wp_wand_r Idealize.ShloMosaic.frame (wpE (defs₀ (F := Ideal)) Variants.nat (c : Thread nD τ) none) Set.univ)
  isplitl [H4 H8 H11 H12 H13 H14]
  · iapply (part83_run arg2 harg2 arg3 harg3 arg4 harg4 arg5 harg5 arg6 harg6 arg7 harg7 arg8 harg8 arg9 harg9 arg10 harg10 arg11 harg11 arg12 harg12 arg13 harg13 arg14 harg14 Variants.nat c none i _ v174 v175 X4 X8 Y11 Y12 Y13 Y14)
    isplitl [H4]; · iexact H4
    isplitl [H8]; · iexact H8
    isplitl [H11]; · iexact H11
    isplitl [H12]; · iexact H12
    isplitl [H13]; · iexact H13
    iexact H14
  iintro %r ⟨H4, ⟨%Y8, H8⟩, ⟨%Y11, H11⟩, ⟨%Y12, H12⟩, ⟨%Y13, H13⟩, ⟨%Y14, H14⟩⟩
  rw [wp_bind]
  iapply (wp_wand_r Idealize.ShloMosaic.frame (wpE (defs₀ (F := Ideal)) Variants.nat (c : Thread nD τ) none) Set.univ)
  isplitl [H8 H12 H13]
  · iapply (part84_run arg2 harg2 arg3 harg3 arg4 harg4 arg5 harg5 arg6 harg6 arg7 harg7 arg8 harg8 arg9 harg9 arg10 harg10 arg11 harg11 arg12 harg12 arg13 harg13 arg14 harg14 Variants.nat c none i r Y8 Y12 Y13)
    isplitl [H8]; · iexact H8
    isplitl [H12]; · iexact H12
    iexact H13
  iintro %r ⟨⟨%Y8, H8⟩, H12, H13⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iexists _; iexact H14

end Cert.Proof.KernelIdeal
-- ==== Proof.Run.lean ====
module

public import proofs.«01_k».proof.Proof.Body
public import Idealize.ShloMosaic.Lib.Pipeline.Frame
public import Idealize.ShloMosaic.Lib.StableHlo.RunRead

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- What the host operations before the call write, in order. -/
abbrev hostWritten : List (Ref sig .tc) :=
  [main_v0, main_v1, main_v2, main_v3, main_v4, main_v5, main_cst, main_v6, main_v7, main_v8, main_v9, main_v10, main_cst_0, main_v11, main_v12, main_v13, main_v14, main_v15, main_c, main_v16, main_v17, main_c_1, main_v18, main_v19, main_v20, main_v21, main_v22, main_cst_2, main_call0_v0, main_call0_v1, main_v23, main_v24, main_v25, main_cst_3, main_v26, main_v27, main_v28, main_v29, main_v30, main_v31, main_cst_4, main_v32, main_v33, main_v34, main_v35, main_cst_5, main_v36, main_v37, main_v38]

theorem hostWritten_eq : ([hostOps0, hostOps0_1, hostOps0_2].flatten : List (HloOp τ sig (Elt Ideal))).map HloOp.writes = hostWritten.map fun w => {Proc.devRef (τ := τ) .tc w} := rfl

/-- What each buffer holds when the call starts. -/
def V (c : Dev nD) (b : Ref sig .tc) : Buf (Elt Ideal) ((c.tc : Thread nD τ).loc b) :=
  StableHlo.after ([hostOps0, hostOps0_1, hostOps0_2] : List (List (HloOp τ sig (Elt Ideal)))).flatten (fun b => m (c, b)) b

theorem V_kept (c : Dev nD) (b : Ref sig .tc) (hb : b ∉ hostWritten) : V m c b = m ((c.tc : Thread nD τ).loc b) :=
  StableHlo.after_unwritten hostWritten hostWritten_eq hb _

/-- The call's windows: an input stays what it was, of the output nothing is said. -/
def rdat (c : Dev nD) : RDat τ (Elt Ideal) Unit ℕ (UR sig nD τ) ℕ (cfg0 (F := Ideal)) c where
  A w := V m c (Pipeline.arrRef spec0 w)
  after w _ Y X := w = 6 ∨ X = Y
  Φ _ := Pipeline.ΦA spec0 c
  q _ := fullShare
  owed _ := 0

theorem ΦA_eq (c : Dev nD) :
    (Pipeline.ΦA (U := UR sig nD τ) (Val := Elt Ideal) spec0 c : sProp 𝕄)
      = iprop(((∃ f, owns (c : Thread nD τ) (Memref.whole cc0_scratch0) fullShare f) ∗ (∃ f, owns (c : Thread nD τ) (Memref.whole cc0_scratch1) fullShare f)
         ∗ (∃ f, owns (c : Thread nD τ) (Memref.whole cc0_scratch2) fullShare f) ∗ (∃ f, owns (c : Thread nD τ) (Memref.whole cc0_scratch3) fullShare f)
         ∗ (∃ f, owns (c : Thread nD τ) (Memref.whole cc0_scratch4) fullShare f) ∗ (∃ f, owns (c : Thread nD τ) (Memref.whole cc0_scratch5) fullShare f)) ∗ ∃ r, prngReg c r) := by
  unfold Pipeline.ΦA
  rw [scopedRest0_eq]; simp only [owns_whole]; try rfl

/-- The body at a point, its buffers owned as memrefs. -/
theorem body_owns (c : Dev nD) (i : grid0.Coords)
   (arg2 : Memref sig .tc .vmem S1x2048x512 .bf16) (harg2 : arg2.IsWhole) (arg3 : Memref sig .tc .vmem S1x2048x256 .bf16) (harg3 : arg3.IsWhole) (arg4 : Memref sig .tc .vmem S1x8x512x256 .bf16) (harg4 : arg4.IsWhole) (arg5 : Memref sig .tc .vmem S1x1024x256 .bf16) (harg5 : arg5.IsWhole) (arg6 : Memref sig .tc .vmem S1x2048x256 .bf16) (harg6 : arg6.IsWhole) (arg7 : Memref sig .tc .vmem S1x8x256 .f32) (harg7 : arg7.IsWhole) (arg8 : Memref sig .tc .vmem S1x512x256 .bf16) (harg8 : arg8.IsWhole) (arg9 : Memref sig .tc .vmem S2048x256 .f32) (harg9 : arg9.IsWhole) (arg10 : Memref sig .tc .vmem S2048x256 .f32) (harg10 : arg10.IsWhole) (arg11 : Memref sig .tc .vmem S64x256 .f32) (harg11 : arg11.IsWhole) (arg12 : Memref sig .tc .vmem S64x256 .f32) (harg12 : arg12.IsWhole) (arg13 : Memref sig .tc .vmem S512x256 .f32) (harg13 : arg13.IsWhole) (arg14 : Memref sig .tc .vmem S8x2048x256 .f32) (harg14 : arg14.IsWhole)
   Y2 Y3 Y4 Y5 Y6 Y7 :
   (iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7
     ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y)) : sProp 𝕄)
   ⊢ wp Idealize.ShloMosaic.frame (wpE (defs₀ (F := Ideal)) Variants.nat (c : Thread nD τ) none) Set.univ (cc0_attn_prompt (F := Ideal) i arg2 harg2 arg3 harg3 arg4 harg4 arg5 harg5 arg6 harg6 arg7 harg7 arg8 harg8 arg9 harg9 arg10 harg10 arg11 harg11 arg12 harg12 arg13 harg13 arg14 harg14)
    (fun _ => iprop(owns (c : Thread nD τ) arg2 fullShare Y2 ∗ owns (c : Thread nD τ) arg3 fullShare Y3 ∗ owns (c : Thread nD τ) arg4 fullShare Y4 ∗ owns (c : Thread nD τ) arg5 fullShare Y5 ∗ owns (c : Thread nD τ) arg6 fullShare Y6 ∗ owns (c : Thread nD τ) arg7 fullShare Y7
     ∗ (∃ Y, owns (c : Thread nD τ) arg8 fullShare Y) ∗ (∃ Y, owns (c : Thread nD τ) arg9 fullShare Y) ∗ (∃ Y, owns (c : Thread nD τ) arg10 fullShare Y) ∗ (∃ Y, owns (c : Thread nD τ) arg11 fullShare Y) ∗ (∃ Y, owns (c : Thread nD τ) arg12 fullShare Y) ∗ (∃ Y, owns (c : Thread nD τ) arg13 fullShare Y) ∗ (∃ Y, owns (c : Thread nD τ) arg14 fullShare Y))) := by
  unfold owns
  iintro ⟨⟨%X2, %h2, H2⟩, ⟨%X3, %h3, H3⟩, ⟨%X4, %h4, H4⟩, ⟨%X5, %h5, H5⟩, ⟨%X6, %h6, H6⟩, ⟨%X7, %h7, H7⟩, ⟨%Y8, %X8, %h8, H8⟩, ⟨%Y9, %X9, %h9, H9⟩, ⟨%Y10, %X10, %h10, H10⟩, ⟨%Y11, %X11, %h11, H11⟩, ⟨%Y12, %X12, %h12, H12⟩, ⟨%Y13, %X13, %h13, H13⟩, ⟨%Y14, %X14, %h14, H14⟩⟩
  iapply (wp_wand_r Idealize.ShloMosaic.frame (wpE (defs₀ (F := Ideal)) Variants.nat (c : Thread nD τ) none) Set.univ)
  isplitl [H2 H3 H4 H5 H6 H7 H8 H9 H10 H11 H12 H13 H14]
  · iapply (body_run arg2 harg2 arg3 harg3 arg4 harg4 arg5 harg5 arg6 harg6 arg7 harg7 arg8 harg8 arg9 harg9 arg10 harg10 arg11 harg11 arg12 harg12 arg13 harg13 arg14 harg14 c i X2 X3 X4 X5 X6 X7 X8 X9 X10 X11 X12 X13 X14)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %r ⟨H2, H3, H4, H5, H6, H7, ⟨%Z8, H8⟩, ⟨%Z9, H9⟩, ⟨%Z10, H10⟩, ⟨%Z11, H11⟩, ⟨%Z12, H12⟩, ⟨%Z13, H13⟩, ⟨%Z14, H14⟩⟩
  isplitl [H2]
  · iexists X2; isplitr; swap; · iexact H2
    ipureintro; exact h2
  isplitl [H3]
  · iexists X3; isplitr; swap; · iexact H3
    ipureintro; exact h3
  isplitl [H4]
  · iexists X4; isplitr; swap; · iexact H4
    ipureintro; exact h4
  isplitl [H5]
  · iexists X5; isplitr; swap; · iexact H5
    ipureintro; exact h5
  isplitl [H6]
  · iexists X6; isplitr; swap; · iexact H6
    ipureintro; exact h6
  isplitl [H7]
  · iexists X7; isplitr; swap; · iexact H7
    ipureintro; exact h7
  isplitl [H8]
  · iexists _, Z8; isplitr; swap; · iexact H8
    ipureintro; rfl
  isplitl [H9]
  · iexists _, Z9; isplitr; swap; · iexact H9
    ipureintro; rfl
  isplitl [H10]
  · iexists _, Z10; isplitr; swap; · iexact H10
    ipureintro; rfl
  isplitl [H11]
  · iexists _, Z11; isplitr; swap; · iexact H11
    ipureintro; rfl
  isplitl [H12]
  · iexists _, Z12; isplitr; swap; · iexact H12
    ipureintro; rfl
  isplitl [H13]
  · iexists _, Z13; isplitr; swap; · iexact H13
    ipureintro; rfl
  iexists _, Z14; isplitr; swap; · iexact H14
  ipureintro; rfl

theorem defs₀_row (t : Fin (cfg0 (F := Ideal)).N) : defs₀ (F := Ideal) .tc (cfg0 (F := Ideal)).body ((cfg0 (F := Ideal)).bodyArgs t ((cfg0 (F := Ideal)).slots t)) = bodyAt0 t := by
  unfold defs₀; rw [Defs.onTc_tc]

theorem body_obligation (c : Dev nD) : (rdat m c).BodyObligation (defs₀ (F := Ideal)) Variants.nat () Set.univ := by
  intro t Y _
  rw [bigSep_W0, bigSep_W0, defs₀_row]
  rw [show (rdat m c).Φ t.succ = Pipeline.ΦA spec0 c from rfl, show (rdat m c).Φ t.castSucc = Pipeline.ΦA spec0 c from rfl,
    show (rdat m c).owesAt () t.succ = (rdat m c).owesAt () t.castSucc from rfl, ΦA_eq]
  generalize (rdat m c).owesAt () t.castSucc = OW
  unfold bodyAt0
  iintro ⟨⟨⟨S0, S1, S2, S3, S4, S5⟩, Hg⟩, HO, H0, H1, H2, H3, H4, H5, H6⟩
  iapply (wp_wand_r Idealize.ShloMosaic.frame (wpE (defs₀ (F := Ideal)) Variants.nat (c : Thread nD τ) none) Set.univ)
  isplitl [H0 H1 H2 H3 H4 H5 H6 S0 S1 S2 S3 S4 S5]
  · iapply (body_owns c (grid0.coords t) _ _ _ _ _ _ _ _ _ _ _ _ _ _ _ _ _ _ _ _ _ _ _ _ _ _ (Y 0) (Y 1) (Y 2) (Y 3) (Y 4) (Y 5))
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [S0]; · iexact S0
    isplitl [S1]; · iexact S1
    isplitl [S2]; · iexact S2
    isplitl [S3]; · iexact S3
    isplitl [S4]; · iexact S4
    iexact S5
  iintro %r ⟨H0, H1, H2, H3, H4, H5, ⟨%Z, H6⟩, S0, S1, S2, S3, S4, S5⟩
  isplitl [S0 S1 S2 S3 S4 S5 Hg]
  · isplitl [S0 S1 S2 S3 S4 S5]
    · isplitl [S0]; · iexact S0
      isplitl [S1]; · iexact S1
      isplitl [S2]; · iexact S2
      isplitl [S3]; · iexact S3
      isplitl [S4]; · iexact S4
      iexact S5
    iexact Hg
  isplitl [HO]; · iexact HO
  isplitl [H0]; · iexists _; isplitr; swap; · iexact H0
                  ipureintro; exact .inr rfl
  isplitl [H1]; · iexists _; isplitr; swap; · iexact H1
                  ipureintro; exact .inr rfl
  isplitl [H2]; · iexists _; isplitr; swap; · iexact H2
                  ipureintro; exact .inr rfl
  isplitl [H3]; · iexists _; isplitr; swap; · iexact H3
                  ipureintro; exact .inr rfl
  isplitl [H4]; · iexists _; isplitr; swap; · iexact H4
                  ipureintro; exact .inr rfl
  isplitl [H5]; · iexists _; isplitr; swap; · iexact H5
                  ipureintro; exact .inr rfl
  iexists _; isplitr; swap; · iexact H6
  ipureintro; exact .inl rfl

theorem hmain : Pipeline.HMain (Ix := Unit) (Name := ℕ) (U := UR sig nD τ) (Lvl := ℕ) (cfgs (F := Ideal)) 0 (defs₀ (F := Ideal)) Variants.nat m (main (F := Ideal)) (V m) :=
  Pipeline.hmain_prefixes (cfgs (F := Ideal)) 0 (defs₀ (F := Ideal)) Variants.nat m (main (F := Ideal)) [hostOps0, hostOps0_1, hostOps0_2]
    ⟨hostOps0_sub, hostOps0_1_sub, hostOps0_2_sub⟩
    ⟨StableHlo.forall_fresh_of_map rfl, StableHlo.forall_fresh_of_map rfl, StableHlo.forall_fresh_of_map rfl⟩
    main_chain

set_option backward.isDefEq.respectTransparency.types false in
theorem run_main :
    θ_run (defs (F := Ideal)) (onTc (τ := τ) (main (F := Ideal))) (s₀ m ρ)
      (fun r => RDat.FramePost (cfg0 (F := Ideal)) (rdat m) (V m) r ∧ r.2.sem = fun _ => 0) :=
  RDat.θ_run_frame (Q' := _) (cfgs (F := Ideal)) 0 launch0 (defs₀ (F := Ideal)) Variants.nat (rdat m) m ρ (main (F := Ideal))
    (body_obligation m) (fun c w => by fin_cases w <;> rfl) (fun _ _ => rfl) (V m) (hmain m) (fun _ _ => rfl) (fun _ _ => rfl)

theorem frame : Cert.quiescent_KernelIdeal := by
  intro m ρ _
  refine (θ_run (defs (F := Ideal)) _ _).mono (fun r (h : _ ∧ _) => ⟨fun c => ?_, h.2⟩) (run_main m ρ)
  have k : ∀ b : Ref sig .tc, b.isScoped = false → (∀ w, (spec0 w).arr.view.ref ≠ b) → b ∉ hostWritten →
      r.2.mem ((c.tc : Thread nD τ).loc b) = m ((c.tc : Thread nD τ).loc b) :=
    fun b hs ha hb => ((h.1 c).2 b (Pipeline.mem_restRefs_of b hs ha)).trans (V_kept m c b hb)
  exact ⟨k _ rfl (by decide) (by decide), k _ rfl (by decide) (by decide), k _ rfl (by decide) (by decide),
    k _ rfl (by decide) (by decide), k _ rfl (by decide) (by decide), k _ rfl (by decide) (by decide)⟩

end Cert.Proof.KernelIdeal

end
-- ==== Proof.InBody.lean ====
module

public import proofs.«01_k».proof.Defs
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import Idealize.ShloMosaic.Lib.Pipeline.FrameBody
public import Idealize.ShloMosaic.Lib.Pipeline.Frame
public import Idealize.ShloMosaic.Lib.StableHlo.RunRead
public import Idealize.ShloMosaic.Lib.Pointwise
public import Idealize.ShloMosaic.Lib.WritesUnit
public import Idealize.ShloMosaic.Lib.Exec

@[expose] public section

noncomputable section

namespace Cert.Proof.InProjIdeal

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The rectangles the body reads: all of the input's rows and of the gain, the projection's second 1024 columns. -/
abbrev rX : Rect S1x32x1024 := Rect.unit (s := S1x32x1024) ![0, 0, 0] S1x32x1024.size inb_S1x32x1024_S1x32x1024_0_0_0
abbrev rG : Rect S1x1024 := Rect.unit (s := S1x1024) ![0, 0] S1x1024.size inb_S1x1024_S1x1024_0_0
abbrev rW : Rect S1024x2176 := Rect.unit (s := S1024x2176) ![0, 1024] S1024x1024.size inb_S1024x2176_S1024x1024_0_1024

abbrev rV0 : Rect S1x1x256x64 := ⟨(⟨![0, 0, 0, 0], S1x1x32x64.size, ![1, 1, 8, 1], inb_S1x1x256x64_S1x1x32x64_0_0_0_0_s_1_1_8_1⟩ : LoadRect S1x1x256x64), spos_1_1_8_1⟩
abbrev rV1 : Rect S1x1x256x64 := ⟨(⟨![0, 0, 1, 0], S1x1x32x64.size, ![1, 1, 8, 1], inb_S1x1x256x64_S1x1x32x64_0_0_1_0_s_1_1_8_1⟩ : LoadRect S1x1x256x64), spos_1_1_8_1⟩
abbrev rV2 : Rect S1x1x256x64 := ⟨(⟨![0, 0, 2, 0], S1x1x32x64.size, ![1, 1, 8, 1], inb_S1x1x256x64_S1x1x32x64_0_0_2_0_s_1_1_8_1⟩ : LoadRect S1x1x256x64), spos_1_1_8_1⟩
abbrev rV3 : Rect S1x1x256x64 := ⟨(⟨![0, 0, 3, 0], S1x1x32x64.size, ![1, 1, 8, 1], inb_S1x1x256x64_S1x1x32x64_0_0_3_0_s_1_1_8_1⟩ : LoadRect S1x1x256x64), spos_1_1_8_1⟩
abbrev rV4 : Rect S1x1x256x64 := ⟨(⟨![0, 0, 4, 0], S1x1x32x64.size, ![1, 1, 8, 1], inb_S1x1x256x64_S1x1x32x64_0_0_4_0_s_1_1_8_1⟩ : LoadRect S1x1x256x64), spos_1_1_8_1⟩
abbrev rV5 : Rect S1x1x256x64 := ⟨(⟨![0, 0, 5, 0], S1x1x32x64.size, ![1, 1, 8, 1], inb_S1x1x256x64_S1x1x32x64_0_0_5_0_s_1_1_8_1⟩ : LoadRect S1x1x256x64), spos_1_1_8_1⟩
abbrev rV6 : Rect S1x1x256x64 := ⟨(⟨![0, 0, 6, 0], S1x1x32x64.size, ![1, 1, 8, 1], inb_S1x1x256x64_S1x1x32x64_0_0_6_0_s_1_1_8_1⟩ : LoadRect S1x1x256x64), spos_1_1_8_1⟩
abbrev rV7 : Rect S1x1x256x64 := ⟨(⟨![0, 0, 7, 0], S1x1x32x64.size, ![1, 1, 8, 1], inb_S1x1x256x64_S1x1x32x64_0_0_7_0_s_1_1_8_1⟩ : LoadRect S1x1x256x64), spos_1_1_8_1⟩

/-- What the body leaves in the values' block: head `h`'s rows, eight apart. -/
def outV (x0 : Vec Ideal S1x32x1024 .f32) (x1 : Vec Ideal S1x1024 .f32) (x2 : Vec Ideal S1024x2176 .bf16) : Vec Ideal S1x1x256x64 .f32 :=
  View.canon [⟨rV7, k0_pay52 (k0_pay35 (k0_pay8 (View.ld x0 rX) (View.ld x1 rG) (View.ld x2 rW)))⟩, ⟨rV6, k0_pay50 (k0_pay35 (k0_pay8 (View.ld x0 rX) (View.ld x1 rG) (View.ld x2 rW)))⟩, ⟨rV5, k0_pay48 (k0_pay35 (k0_pay8 (View.ld x0 rX) (View.ld x1 rG) (View.ld x2 rW)))⟩, ⟨rV4, k0_pay46 (k0_pay35 (k0_pay8 (View.ld x0 rX) (View.ld x1 rG) (View.ld x2 rW)))⟩, ⟨rV3, k0_pay44 (k0_pay35 (k0_pay8 (View.ld x0 rX) (View.ld x1 rG) (View.ld x2 rW)))⟩, ⟨rV2, k0_pay42 (k0_pay41 (k0_pay8 (View.ld x0 rX) (View.ld x1 rG) (View.ld x2 rW)))⟩, ⟨rV1, k0_pay39 (k0_pay8 (View.ld x0 rX) (View.ld x1 rG) (View.ld x2 rW))⟩, ⟨rV0, k0_pay37 (k0_pay8 (View.ld x0 rX) (View.ld x1 rG) (View.ld x2 rW))⟩]

theorem coverV (p0 p1 p2 p3 p4 p5 p6 p7 : Vec Ideal S1x1x32x64 .f32) (y : S1x1x256x64.Idx) :
    ∃ pc ∈ ([⟨rV7, p7⟩, ⟨rV6, p6⟩, ⟨rV5, p5⟩, ⟨rV4, p4⟩, ⟨rV3, p3⟩, ⟨rV2, p2⟩, ⟨rV1, p1⟩, ⟨rV0, p0⟩] : List (View.Piece (Elt Ideal) S1x1x256x64 .f32)), y ∈ pc.1.set := by
  have h0 : (y 0).val < 1 := (y 0).isLt
  have h1 : (y 1).val < 1 := (y 1).isLt
  have h2 : (y 2).val < 256 := (y 2).isLt
  have h3 : (y 3).val < 64 := (y 3).isLt
  have key : ∀ (h : ℕ) (inb : ∀ a, S1x1x32x64.size a = 0 ∨ (![0, 0, h, 0] : Fin 4 → ℕ) a + (![1, 1, 8, 1] : Fin 4 → ℕ) a * (S1x1x32x64.size a - 1) < S1x1x256x64.size a),
      (y 2).val % 8 = h → y ∈ (⟨(⟨![0, 0, h, 0], S1x1x32x64.size, ![1, 1, 8, 1], inb⟩ : LoadRect S1x1x256x64), spos_1_1_8_1⟩ : Rect S1x1x256x64).set := by
    intro h inb e
    refine (LoadRect.mem_set _).mpr fun a => ?_
    match a with
    | ⟨0, _⟩ => exact ⟨0, (show (0:ℕ) < 1 from by decide), by show (y 0).val = 0 + 1 * 0; omega⟩
    | ⟨1, _⟩ => exact ⟨0, (show (0:ℕ) < 1 from by decide), by show (y 1).val = 0 + 1 * 0; omega⟩
    | ⟨2, _⟩ => exact ⟨(y 2).val / 8, by show (y 2).val / 8 < 32; omega, by show (y 2).val = h + 8 * ((y 2).val / 8); omega⟩
    | ⟨3, _⟩ => exact ⟨(y 3).val, h3, by show (y 3).val = 0 + 1 * (y 3).val; omega⟩
  have hc : (y 2).val % 8 = 0 ∨ (y 2).val % 8 = 1 ∨ (y 2).val % 8 = 2 ∨ (y 2).val % 8 = 3 ∨ (y 2).val % 8 = 4 ∨ (y 2).val % 8 = 5 ∨ (y 2).val % 8 = 6 ∨ (y 2).val % 8 = 7 := by omega
  rcases hc with e | e | e | e | e | e | e | e
  · exact ⟨⟨rV0, p0⟩, by simp, key 0 _ e⟩
  · exact ⟨⟨rV1, p1⟩, by simp, key 1 _ e⟩
  · exact ⟨⟨rV2, p2⟩, by simp, key 2 _ e⟩
  · exact ⟨⟨rV3, p3⟩, by simp, key 3 _ e⟩
  · exact ⟨⟨rV4, p4⟩, by simp, key 4 _ e⟩
  · exact ⟨⟨rV5, p5⟩, by simp, key 5 _ e⟩
  · exact ⟨⟨rV6, p6⟩, by simp, key 6 _ e⟩
  · exact ⟨⟨rV7, p7⟩, by simp, key 7 _ e⟩

set_option maxHeartbeats 4000000 in
/-- The body at a grid point: the inputs stay, the values' block holds `outV` of the rows, the gain and the weights. -/
theorem body_owns (c : Dev nD) (i : grid0.Coords) (arg2 : Memref sig .tc .vmem S1x32x1024 .f32) (harg2 : arg2.IsWhole) (arg3 : Memref sig .tc .vmem S1x1024 .f32) (harg3 : arg3.IsWhole) (arg4 : Memref sig .tc .vmem S1024x2176 .bf16) (harg4 : arg4.IsWhole) (arg5 : Memref sig .tc .vmem S1024x1152 .bf16) (harg5 : arg5.IsWhole) (arg6 : Memref sig .tc .vmem S32x128 .f32) (harg6 : arg6.IsWhole) (arg7 : Memref sig .tc .vmem S32x128 .f32) (harg7 : arg7.IsWhole) (arg8 : Memref sig .tc .vmem S32x32 .f32) (harg8 : arg8.IsWhole) (arg9 : Memref sig .tc .vmem S32x32 .f32) (harg9 : arg9.IsWhole) (arg10 : Memref sig .tc .vmem S1x32x512 .f32) (harg10 : arg10.IsWhole) (arg11 : Memref sig .tc .vmem S31x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .hbm S2x8x256x64 .f32) (harg15 : arg15.IsWhole) (arg16 : Memref sig .tc .hbm S2x8x256x64 .f32) (harg16 : arg16.IsWhole) (arg17 : Memref sig .tc .hbm S2x8x32x64 .f32) (harg17 : arg17.IsWhole) (arg18 : Memref sig .tc .hbm S2x8x30x512 .f32) (harg18 : arg18.IsWhole) (arg19 : Memref sig .tc .vmem S1x1x256x64 .f32) (harg19 : arg19.IsWhole) (arg20 : Memref sig .tc .vmem S1x1x256x64 .f32) (harg20 : arg20.IsWhole) (arg21 : Memref sig .tc .vmem S1x1x32x64 .f32) (harg21 : arg21.IsWhole) (arg22 : Memref sig .tc .vmem S1x1x30x512 .f32) (harg22 : arg22.IsWhole) (arg23 : Memref sig .tc .vmem S1x32x512 .bf16) (harg23 : arg23.IsWhole) (arg24 : Memref sig .tc .vmem S1x32x512 .f32) (harg24 : arg24.IsWhole) (arg25 : Memref sig .tc .vmem S1x32x512 .f32) (harg25 : arg25.IsWhole) (arg26 : Memref sig .tc .vmem S1x32x512 .f32) (harg26 : arg26.IsWhole) (arg27 : Memref sig .tc .vmem S1x32x512 .f32) (harg27 : arg27.IsWhole) (arg28 : Memref sig .tc .vmem S1x32x128 .f32) (harg28 : arg28.IsWhole) (arg29 : Memref sig .tc .vmem S64x512 .f32) (harg29 : arg29.IsWhole) (arg30 : Memref sig .tc .vmem S7x56x512 .f32) (harg30 : arg30.IsWhole)
    (x0 : Vec Ideal S1x32x1024 .f32) (x1 : Vec Ideal S1x1024 .f32) (x2 : Vec Ideal S1024x2176 .bf16) (x3 : Vec Ideal S1024x1152 .bf16) (x4 : Vec Ideal S32x128 .f32) (x5 : Vec Ideal S32x128 .f32) (x6 : Vec Ideal S32x32 .f32) (x7 : Vec Ideal S32x32 .f32) (x8 : Vec Ideal S1x32x512 .f32) (x9 : Vec Ideal S31x512 .f32) (x10 : Vec Ideal S1x512 .f32) (x11 : Vec Ideal S1x512 .f32) (x12 : Vec Ideal S1x512 .f32) (K : PUnit → sProp 𝕄) :
    (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg19 fullShare d) ∗ owns (c : Thread nD τ) arg20 fullShare (outV x0 x1 x2) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d)) -∗ K ⟨⟩)) : sProp 𝕄)
      ⊢ wp Idealize.ShloMosaic.frame (wpE (defs₀ (F := Ideal)) Variants.nat (c : Thread nD τ) none) Set.univ (cc0_inproj_conv (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
        K := by
  have hi : (i 1).val = 0 := by have := (i 1).isLt; simpa using this
  have hc1 : Scalar.cmpi .ne (Scalar.extui (Scalar.cmpi .eq (BitVec.ofNat 32 (i 1).val) 0#32) : BitVec 32) 0#32 = 1#1 := by rw [hi]; decide
  have hc2 : ¬ Scalar.cmpi .ne (Scalar.extui (Scalar.cmpi .sgt (BitVec.ofNat 32 (i 1).val) 0#32) : BitVec 32) 0#32 = 1#1 := by rw [hi]; decide
  have hc3 : k0_cond3 i = 1#1 := by unfold k0_cond3; dsimp only; rw [hi]; decide
  simp only [cc0_inproj_conv_eq_skeleton]; unfold cc0_inproj_conv_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
  subst hf0 hf1 hf2 hf3 hf4 hf5 hf6 hf7 hf8 hf9 hf10 hf11 hf12
  sl_exec
  rw [wp_ret]
  imodintro
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _, _; isplitr; swap; · iexact H13
    ipureintro; rfl
  isplitl [H14]
  · iexists _; isplitr
    swap; · iexact H14
    ipureintro
    refine (View.read_writes_eq_canon _ _ _ (coverV _ _ _ _ _ _ _ _)).trans ?_
    rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  iexists _, _; isplitr; swap; · iexact H24
  ipureintro; rfl

end Cert.Proof.InProjIdeal

end
-- ==== Proof.InRun.lean ====
/- The run of the sample's input projection with the values' blocks, and its frame. -/
module

public import proofs.«01_k».proof.Proof.InBody
public import Idealize.ShloMosaic.Lib.Pipeline.Frame
public import Idealize.ShloMosaic.Lib.StableHlo.RunRead

@[expose] public section

set_option maxRecDepth 8000

noncomputable section

namespace Cert.Proof.InProjIdeal

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

local notation "𝕄" => MT nD τ sig Unit (Elt Ideal) ℕ (UR sig nD τ) ℕ

variable (m : (ℓ : Loc nD τ sig) → Buf (Elt Ideal) ℓ) (ρ : Dev nD → PrngReg)

/-- What the host operations before the call write, in order. -/
abbrev hostWritten : List (Ref sig .tc) :=
  [main_v0, main_c, main_v1, main_v2, main_v3, main_cst, main_v4, main_v5, main_cst_0, main_v6, main_v7, main_cst_1, main_v8, main_v9, main_cst_2, main_v10, main_v11, main_cst_3, main_v12, main_v13, main_v14, main_v15, main_v16, main_v17, main_v18, main_v19, main_v20, main_v21, main_v22, main_v23, main_v24, main_v25, main_v26, main_v27, main_v28, main_v29, main_v30, main_cst_4, main_v31, main_v32, main_v33, main_v34, main_v35, main_v36, main_cst_5, main_v37, main_v38, main_v39, main_c_6, main_call0_v0, main_v40, main_v41, main_v42, main_v43, main_v44, main_v45_0, main_v45_1, main_v45_2, main_v45_3]

theorem hostWritten_eq : ([hostOps0, hostOps0_1, hostOps0_2].flatten : List (HloOp τ sig (Elt Ideal))).map HloOp.writes = hostWritten.map fun w => {Proc.devRef (τ := τ) .tc w} := rfl

/-- What each buffer holds when the call starts. -/
def V (c : Dev nD) (b : Ref sig .tc) : Buf (Elt Ideal) ((c.tc : Thread nD τ).loc b) :=
  StableHlo.after ([hostOps0, hostOps0_1, hostOps0_2] : List (List (HloOp τ sig (Elt Ideal)))).flatten (fun b => m (c, b)) b

theorem V_kept (c : Dev nD) (b : Ref sig .tc) (hb : b ∉ hostWritten) : V m c b = m ((c.tc : Thread nD τ).loc b) :=
  StableHlo.after_unwritten hostWritten hostWritten_eq hb _

/-- A window's block at a point, read off its array. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The call's windows: an input stays what it was, the values' block is `outV` of the rows', the gain's and the weights' blocks,
    of the other outputs nothing is said. -/
def rdat (c : Dev nD) : RDat τ (Elt Ideal) Unit ℕ (UR sig nD τ) ℕ cfg0 c where
  A w := V m c (Pipeline.arrRef spec0 w)
  after w t := match w with
    | ⟨0,_⟩ => fun Y X => X = Y
    | ⟨1,_⟩ => fun Y X => X = Y
    | ⟨2,_⟩ => fun Y X => X = Y
    | ⟨3,_⟩ => fun Y X => X = Y
    | ⟨4,_⟩ => fun Y X => X = Y
    | ⟨5,_⟩ => fun Y X => X = Y
    | ⟨6,_⟩ => fun Y X => X = Y
    | ⟨7,_⟩ => fun Y X => X = Y
    | ⟨8,_⟩ => fun Y X => X = Y
    | ⟨9,_⟩ => fun Y X => X = Y
    | ⟨10,_⟩ => fun Y X => X = Y
    | ⟨11,_⟩ => fun Y X => X = Y
    | ⟨12,_⟩ => fun Y X => X = Y
    | ⟨13,_⟩ => fun _ _ => True
    | ⟨14,_⟩ => fun _ X => X = outV (iblk m c 0 t) (iblk m c 1 t) (iblk m c 2 t)
    | ⟨_ + 15, _⟩ => fun _ _ => True
  Φ _ := Pipeline.ΦA spec0 c
  q _ := fullShare
  owed _ := 0

theorem A_eq (c : Dev nD) (w : Fin cfg0.W) : (rdat m c).A w = V m c (Pipeline.arrRef spec0 w) := by dsimp only [rdat]

theorem ΦA_eq (c : Dev nD) :
    (Pipeline.ΦA (U := UR sig nD τ) (Val := Elt Ideal) spec0 c : sProp 𝕄)
      = iprop(((∃ f, owns (c : Thread nD τ) (Memref.whole cc0_scratch0) fullShare f) ∗ (∃ f, owns (c : Thread nD τ) (Memref.whole cc0_scratch1) fullShare f)) ∗ ∃ r, prngReg c r) := by
  unfold Pipeline.ΦA
  rw [scopedRest0_eq]; simp only [owns_whole]; try rfl

theorem found0 (c : Dev nD) (t : Fin cfg0.N) (Y) (h : (rdat m c).Finds 0 t Y) : Y = iblk m c 0 t := by
  obtain ⟨d, hd⟩ := (rdat m c).finds_in_eq_fetched 0 rfl (fun _ _ _ => rfl) (fun _ _ _ h => h) t Y h
  rw [hd]
  unfold RDat.fetched RDat.blockOf iblk
  rw [A_eq]; rfl

theorem found1 (c : Dev nD) (t : Fin cfg0.N) (Y) (h : (rdat m c).Finds 1 t Y) : Y = iblk m c 1 t := by
  obtain ⟨d, hd⟩ := (rdat m c).finds_in_eq_fetched 1 rfl (fun _ _ _ => rfl) (fun _ _ _ h => h) t Y h
  rw [hd]
  unfold RDat.fetched RDat.blockOf iblk
  rw [A_eq]; rfl

theorem found2 (c : Dev nD) (t : Fin cfg0.N) (Y) (h : (rdat m c).Finds 2 t Y) : Y = iblk m c 2 t := by
  obtain ⟨d, hd⟩ := (rdat m c).finds_in_eq_fetched 2 rfl (fun _ _ _ => rfl) (fun _ _ _ h => h) t Y h
  rw [hd]
  unfold RDat.fetched RDat.blockOf iblk
  rw [A_eq]; rfl

theorem defs₀_row (t : Fin cfg0.N) : defs₀ (F := Ideal) .tc cfg0.body (cfg0.bodyArgs t (cfg0.slots t)) = bodyAt0 t := by
  unfold defs₀; rw [Defs.onTc_tc]

theorem body_obligation (c : Dev nD) : (rdat m c).BodyObligation (defs₀ (F := Ideal)) Variants.nat () Set.univ := by
  intro t Y hY
  have e0 := found0 m c t _ (hY 0)
  have e1 := found1 m c t _ (hY 1)
  have e2 := found2 m c t _ (hY 2)
  rw [bigSep_W0, bigSep_W0, defs₀_row]
  rw [show (rdat m c).Φ t.succ = Pipeline.ΦA spec0 c from rfl, show (rdat m c).Φ t.castSucc = Pipeline.ΦA spec0 c from rfl,
    show (rdat m c).owesAt () t.succ = (rdat m c).owesAt () t.castSucc from rfl, ΦA_eq]
  generalize (rdat m c).owesAt () t.castSucc = OW
  unfold bodyAt0
  iintro ⟨⟨⟨S0, S1⟩, Hg⟩, HO, H0, H1, H2, H3, H4, H5, H6, H7, H8, H9, H10, H11, H12, H13, H14, H15, H16, H17, H18, H19, H20, H21, H22⟩
  iapply (body_owns c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [S0]; · iexact S0
  isplitl [S1]; · iexact S1
  iintro ⟨H0, H1, H2, H3, H4, H5, H6, H7, H8, H9, H10, H11, H12, ⟨%Z13, H13⟩, H14, ⟨%Z15, H15⟩, ⟨%Z16, H16⟩, ⟨%Z17, H17⟩, ⟨%Z18, H18⟩, ⟨%Z19, H19⟩, ⟨%Z20, H20⟩, ⟨%Z21, H21⟩, ⟨%Z22, H22⟩, S0, S1⟩
  isplitl [S0 S1 Hg]
  · isplitl [S0 S1]
    · isplitl [S0]; · iexact S0
      iexact S1
    iexact Hg
  isplitl [HO]; · iexact HO
  isplitl [H0]
  · iexists _; isplitr; swap; · iexact H0
    ipureintro; exact rfl
  isplitl [H1]
  · iexists _; isplitr; swap; · iexact H1
    ipureintro; exact rfl
  isplitl [H2]
  · iexists _; isplitr; swap; · iexact H2
    ipureintro; exact rfl
  isplitl [H3]
  · iexists _; isplitr; swap; · iexact H3
    ipureintro; exact rfl
  isplitl [H4]
  · iexists _; isplitr; swap; · iexact H4
    ipureintro; exact rfl
  isplitl [H5]
  · iexists _; isplitr; swap; · iexact H5
    ipureintro; exact rfl
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rfl
  isplitl [H9]
  · iexists _; isplitr; swap; · iexact H9
    ipureintro; exact rfl
  isplitl [H10]
  · iexists _; isplitr; swap; · iexact H10
    ipureintro; exact rfl
  isplitl [H11]
  · iexists _; isplitr; swap; · iexact H11
    ipureintro; exact rfl
  isplitl [H12]
  · iexists _; isplitr; swap; · iexact H12
    ipureintro; exact rfl
  isplitl [H13]
  · iexists _; isplitr; swap; · iexact H13
    ipureintro; exact trivial
  isplitl [H14]
  · iexists _; isplitr; swap; · iexact H14
    ipureintro; exact (show outV (Y 0) (Y 1) (Y 2) = outV (iblk m c 0 t) (iblk m c 1 t) (iblk m c 2 t) from by rw [e0, e1, e2])
  isplitl [H15]
  · iexists _; isplitr; swap; · iexact H15
    ipureintro; exact trivial
  isplitl [H16]
  · iexists _; isplitr; swap; · iexact H16
    ipureintro; exact trivial
  isplitl [H17]
  · iexists _; isplitr; swap; · iexact H17
    ipureintro; exact trivial
  isplitl [H18]
  · iexists _; isplitr; swap; · iexact H18
    ipureintro; exact trivial
  isplitl [H19]
  · iexists _; isplitr; swap; · iexact H19
    ipureintro; exact trivial
  isplitl [H20]
  · iexists _; isplitr; swap; · iexact H20
    ipureintro; exact trivial
  isplitl [H21]
  · iexists _; isplitr; swap; · iexact H21
    ipureintro; exact trivial
  iexists _; isplitr; swap; · iexact H22
  ipureintro; exact trivial

theorem hmain : Pipeline.HMain (Ix := Unit) (Name := ℕ) (U := UR sig nD τ) (Lvl := ℕ) cfgs 0 (defs₀ (F := Ideal)) Variants.nat m (main (F := Ideal)) (V m) :=
  Pipeline.hmain_prefixes cfgs 0 (defs₀ (F := Ideal)) Variants.nat m (main (F := Ideal)) [hostOps0, hostOps0_1, hostOps0_2]
    ⟨hostOps0_sub, hostOps0_1_sub, hostOps0_2_sub⟩
    ⟨StableHlo.forall_fresh_of_map rfl, StableHlo.forall_fresh_of_map rfl, StableHlo.forall_fresh_of_map rfl⟩
    main_chain

set_option backward.isDefEq.respectTransparency.types false in
theorem run_main :
    θ_run (defs (F := Ideal)) (onTc (τ := τ) (main (F := Ideal))) (s₀ m ρ)
      (fun r => RDat.FramePost cfg0 (rdat m) (V m) r ∧ r.2.sem = fun _ => 0) :=
  RDat.θ_run_frame (Q' := _) cfgs 0 launch0 (defs₀ (F := Ideal)) Variants.nat (rdat m) m ρ (main (F := Ideal))
    (body_obligation m) (fun c w => by fin_cases w <;> rfl) (fun _ _ => rfl) (V m) (hmain m) (fun _ _ => rfl) (fun _ _ => rfl)

/-- The arguments after the run. -/
theorem kept (r : PUnit × MemSt nD τ sig (Elt Ideal)) (h : RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have k : ∀ b : Ref sig .tc, b.isScoped = false → (∀ w, (spec0 w).arr.view.ref ≠ b) → b ∉ hostWritten →
      r.2.mem ((c.tc : Thread nD τ).loc b) = m ((c.tc : Thread nD τ).loc b) :=
    fun b hs ha hb => ((h c).2 b (Pipeline.mem_restRefs_of b hs ha)).trans (V_kept m c b hb)
  refine ⟨(h.arr_in c 0 rfl).trans ((A_eq m c 0).trans (V_kept m c main_arg0 (by decide))), k _ rfl (by decide) (by decide), k _ rfl (by decide) (by decide), k _ rfl (by decide) (by decide), (h.arr_in c 9 rfl).trans ((A_eq m c 9).trans (V_kept m c main_arg4 (by decide))), k _ rfl (by decide) (by decide), k _ rfl (by decide) (by decide), k _ rfl (by decide) (by decide), k _ rfl (by decide) (by decide), k _ rfl (by decide) (by decide), k _ rfl (by decide) (by decide), k _ rfl (by decide) (by decide)⟩

theorem frame : Cert.quiescent_InProjIdeal := by
  intro m ρ _
  exact (θ_run (defs (F := Ideal)) _ _).mono (fun r (h : _ ∧ _) => ⟨fun c => kept m r h.1 c, h.2⟩) (run_main m ρ)

end Cert.Proof.InProjIdeal

end
-- ==== Proof.InRows.lean ====
/- The new values stack for the sample as one function of the arguments: its first layer kept, its second the normed rows times the
   value columns of the projection, head by head. -/
module

public import proofs.«01_k».proof.Proof.Rows

@[expose] public section

noncomputable section

namespace Cert.Proof.InRows

open Idealize.ShloMosaic Idealize.ShloMosaic.ValueIdx
open Cert.Proof.Rows
open scoped BigOperators

/-- A normed row times one column. -/
def valCol (x g : Row) (w : Fin 1024 → EReal) : EReal := ∑ k, rms x g k * w k

theorem valCol_congr {x y g h : Row} {w v : Fin 1024 → EReal} (hx : ∀ k, x k = y k) (hg : ∀ k, g k = h k) (hw : ∀ k, w k = v k) :
    valCol x g w = valCol y h v := by
  rw [show x = y from funext hx, show g = h from funext hg, show w = v from funext hw]

/-- One value of the second layer: batch row, position and head together, lane. -/
def newVal (x0 : Vec Ideal ⟨3, ![8, 32, 1024]⟩ .f32) (x1 : Vec Ideal ⟨1, ![1024]⟩ .f32) (x2 : Vec Ideal ⟨2, ![1024, 3144]⟩ .f32)
    (b : Fin 8) (r : Fin 256) (d : Fin 64) : EReal :=
  valCol (fun k => x0 (ix3 b (⟨r.val / 8, by omega⟩ : Fin 32) k)) (fun k => x1 (ix1 k))
    (fun k => x2 (ix2 k (⟨2048 + (r.val % 8 * 64 + d.val), by omega⟩ : Fin 3144)))

/-- The stack: layer 0 kept, layer 1 new. -/
def G (x0 : Vec Ideal ⟨3, ![8, 32, 1024]⟩ .f32) (x1 : Vec Ideal ⟨1, ![1024]⟩ .f32) (x2 : Vec Ideal ⟨2, ![1024, 3144]⟩ .f32)
    (x9 : Vec Ideal ⟨4, ![2, 8, 256, 64]⟩ .f32) : Vec Ideal ⟨4, ![2, 8, 256, 64]⟩ .f32 := fun i =>
  if (i 0).val = 1 then newVal x0 x1 x2 ⟨(i 1).val, (i 1).isLt⟩ ⟨(i 2).val, (i 2).isLt⟩ ⟨(i 3).val, (i 3).isLt⟩ else x9 i

theorem G_new (x0 : Vec Ideal ⟨3, ![8, 32, 1024]⟩ .f32) (x1 : Vec Ideal ⟨1, ![1024]⟩ .f32) (x2 : Vec Ideal ⟨2, ![1024, 3144]⟩ .f32)
    (x9 : Vec Ideal ⟨4, ![2, 8, 256, 64]⟩ .f32) (b : Fin 8) (r : Fin 256) (d : Fin 64) : G x0 x1 x2 x9 (ix4 (1 : Fin 2) b r d) = newVal x0 x1 x2 b r d :=
  if_pos rfl

theorem G_kept (x0 : Vec Ideal ⟨3, ![8, 32, 1024]⟩ .f32) (x1 : Vec Ideal ⟨1, ![1024]⟩ .f32) (x2 : Vec Ideal ⟨2, ![1024, 3144]⟩ .f32)
    (x9 : Vec Ideal ⟨4, ![2, 8, 256, 64]⟩ .f32) (i : (⟨4, ![2, 8, 256, 64]⟩ : Shape).Idx) (h : ¬ (i 0).val = 1) : G x0 x1 x2 x9 i = x9 i :=
  if_neg h

end Cert.Proof.InRows

end
-- ==== Proof.InBlock.lean ====
/- One grid point of the sample's input projection: the values' block, read at an index. -/
module

public import proofs.«01_k».proof.Proof.InRun
public import proofs.«01_k».proof.Proof.InRows

@[expose] public section

noncomputable section

namespace Cert.Proof.InBlock

open Cert.InProjIdeal Cert.InProjIdeal.Gen Cert.Proof.InProjIdeal Idealize.ShloMosaic.ValueIdx
open Idealize.ShloMosaic hiding ix1 ix2 ix3 ix4 truncf_apply mulf_apply addf_apply
open Cert.Proof.Rows Cert.Proof.InRows
open scoped BigOperators

variable (x0 : Vec Ideal S1x32x1024 .f32) (x1 : Vec Ideal S1x1024 .f32) (x2 : Vec Ideal S1024x2176 .bf16)

theorem ld_x0 : View.ld x0 rX = x0 := View.ld_unit_zero (S := S1x32x1024) (by funext a; match a with | ⟨0, _⟩ => rfl | ⟨1, _⟩ => rfl | ⟨2, _⟩ => rfl) _ x0
theorem ld_x1 : View.ld x1 rG = x1 := View.ld_unit_zero (S := S1x1024) (by funext a; match a with | ⟨0, _⟩ => rfl | ⟨1, _⟩ => rfl) _ x1
theorem ld_x2 (k c : Fin 1024) : View.ld x2 rW (ix2 k c) = x2 (ix2 k (⟨1024 + c.val, by omega⟩ : Fin 2176)) := by
  refine congrArg x2 (funext fun a => Fin.ext ?_)
  match a with
  | ⟨0, _⟩ => show 0 + 1 * k.val = k.val; omega
  | ⟨1, _⟩ => show 1024 + 1 * c.val = 1024 + c.val; omega

/-- The block's rows, normed. -/
theorem norm_apply (i : Fin 32) (j : Fin 1024) :
    k0_pay6 (F := Ideal) x0 x1 (ix2 i j) = rms (fun k => x0 (ix3 (0 : Fin 1) i k)) (fun k => x1 (ix2 (0 : Fin 1) k)) j := by
  have e : ∀ k, shapeCast S32x1024 x0 shapeCasts_S1x32x1024_S32x1024 (ix2 i k) = x0 (ix3 (0 : Fin 1) i k) := fun k => shapeCast_1ab_ab_apply x0 _ i k
  unfold k0_pay6
  dsimp only
  rw [cast_self, truncf_apply, mulf_apply, mulf_apply]
  refine (congrArg₂ (· * ·) (congrArg₂ (· * ·) (e j) (inv_apply (shapeCast S32x1024 x0 shapeCasts_S1x32x1024_S32x1024) _ _ _ _ _ i j)) (broadcastTo_1b_ab_apply x1 _ i j)).trans ?_
  simp only [e]
  rfl

/-- The projection's second 1024 columns. -/
theorem v_apply (i : Fin 32) (c : Fin 1024) :
    k0_pay8 (F := Ideal) (View.ld x0 rX) (View.ld x1 rG) (View.ld x2 rW) (ix2 i c)
      = valCol (fun k => x0 (ix3 (0 : Fin 1) i k)) (fun k => x1 (ix2 (0 : Fin 1) k)) (fun k => x2 (ix2 k (⟨1024 + c.val, by omega⟩ : Fin 2176))) := by
  rw [ld_x0, ld_x1]
  unfold k0_pay8
  rw [cast_self]
  refine (dot_apply (φ₁ := .bf16) (φ₂ := .bf16) dot_S32x1024_S1024x1024_S32x1024_1_0_0_1_n_n rfl (k0_pay6 x0 x1) (View.ld x2 rW) i c).trans (Finset.sum_congr rfl fun k _ => ?_)
  rw [norm_apply, ld_x2]

/-- The values' block as one function of the rows', the gain's and the weights' blocks. -/
def blockG : Vec Ideal S1x1x256x64 .f32 := fun y =>
  valCol (fun k => x0 (ix3 (0 : Fin 1) (⟨(y 2).val / 8, by have h : (y 2).val < 256 := (y 2).isLt; omega⟩ : Fin 32) k)) (fun k => x1 (ix2 (0 : Fin 1) k))
    (fun k => x2 (ix2 k (⟨1536 + ((y 2).val % 8 * 64 + (y 3).val), by have h : (y 3).val < 64 := (y 3).isLt; omega⟩ : Fin 2176)))

/-- A head's rows: what is stored is the block's function where it is stored. -/
theorem piece (h : ℕ) (hh : h < 8) (s1 : S32x1024.Slices ![0, 512] S32x512) (s2 : S32x512.Slices ![0, h * 64] S32x64) (sc : S32x64.ShapeCasts S1x1x32x64)
    (inb : ∀ a, S1x1x32x64.size a = 0 ∨ (![0, 0, h, 0] : Fin 4 → ℕ) a + (![1, 1, 8, 1] : Fin 4 → ℕ) a * (S1x1x32x64.size a - 1) < S1x1x256x64.size a)
    (x : S1x1x32x64.Idx) :
    shapeCast S1x1x32x64 (extractStridedSlice S32x64 ![0, h * 64] (extractStridedSlice S32x512 ![0, 512]
        (k0_pay8 (F := Ideal) (View.ld x0 rX) (View.ld x1 rG) (View.ld x2 rW)) s1) s2) sc x
      = blockG x0 x1 x2 ((⟨(⟨![0, 0, h, 0], S1x1x32x64.size, ![1, 1, 8, 1], inb⟩ : LoadRect S1x1x256x64), spos_1_1_8_1⟩ : Rect S1x1x256x64).emb x) := by
  have h0 : (x 0).val < 1 := (x 0).isLt
  have h1 : (x 1).val < 1 := (x 1).isLt
  have h2 : (x 2).val < 32 := (x 2).isLt
  have h3 : (x 3).val < 64 := (x 3).isLt
  rw [shapeCast_apply _ sc x (ix2 (⟨(x 2).val, h2⟩ : Fin 32) (⟨(x 3).val, h3⟩ : Fin 64)) (by
      rw [Shape.rowMajor_val_two, Shape.rowMajor_val_four]
      show (x 2).val * 64 + (x 3).val = (((x 0).val * 1 + (x 1).val) * 32 + (x 2).val) * 64 + (x 3).val
      omega),
    extractStridedSlice_apply _ _ s2 _ (ix2 (⟨(x 2).val, h2⟩ : Fin 32) (⟨h * 64 + (x 3).val, by omega⟩ : Fin 512)) (fun a => match a with
      | ⟨0, _⟩ => by show (x 2).val = 0 + (x 2).val; omega
      | ⟨1, _⟩ => rfl),
    extractStridedSlice_apply _ _ s1 _ (ix2 (⟨(x 2).val, h2⟩ : Fin 32) (⟨512 + (h * 64 + (x 3).val), by omega⟩ : Fin 1024)) (fun a => match a with
      | ⟨0, _⟩ => by show (x 2).val = 0 + (x 2).val; omega
      | ⟨1, _⟩ => rfl),
    v_apply]
  refine valCol_congr (fun k => congrArg x0 (congrArg (fun i : Fin 32 => ix3 (0 : Fin 1) i k) (Fin.ext ?_))) (fun _ => rfl)
    (fun k => congrArg x2 (congrArg (fun c : Fin 2176 => ix2 k c) (Fin.ext ?_)))
  · show (x 2).val = (h + 8 * (x 2).val) / 8
    omega
  · show 1024 + (512 + (h * 64 + (x 3).val)) = 1536 + ((h + 8 * (x 2).val) % 8 * 64 + (0 + 1 * (x 3).val))
    have : (h + 8 * (x 2).val) % 8 = h := by omega
    omega

/-- The values' block, read at an index. -/
theorem outV_eq : outV x0 x1 x2 = blockG x0 x1 x2 := by
  funext y
  unfold outV
  refine View.canon_apply_of_pieces (blockG x0 x1 x2) _ (fun p hp x => ?_) y (coverV _ _ _ _ _ _ _ _ y)
  simp only [List.mem_cons, List.not_mem_nil, or_false] at hp
  rcases hp with rfl | rfl | rfl | rfl | rfl | rfl | rfl | rfl
  · unfold k0_pay52 k0_pay35; exact piece x0 x1 x2 7 (by decide) slices_S32x1024_o0_512_S32x512 slices_S32x512_o0_448_S32x64 _ _ x
  · unfold k0_pay50 k0_pay35; exact piece x0 x1 x2 6 (by decide) slices_S32x1024_o0_512_S32x512 slices_S32x512_o0_384_S32x64 _ _ x
  · unfold k0_pay48 k0_pay35; exact piece x0 x1 x2 5 (by decide) slices_S32x1024_o0_512_S32x512 slices_S32x512_o0_320_S32x64 _ _ x
  · unfold k0_pay46 k0_pay35; exact piece x0 x1 x2 4 (by decide) slices_S32x1024_o0_512_S32x512 slices_S32x512_o0_256_S32x64 _ _ x
  · unfold k0_pay44 k0_pay35; exact piece x0 x1 x2 3 (by decide) slices_S32x1024_o0_512_S32x512 slices_S32x512_o0_192_S32x64 _ _ x
  · unfold k0_pay42 k0_pay41 k0_pay35; exact piece x0 x1 x2 2 (by decide) slices_S32x1024_o0_512_S32x512 slices_S32x512_o0_128_S32x64 _ _ x
  · unfold k0_pay39 k0_pay35; exact piece x0 x1 x2 1 (by decide) slices_S32x1024_o0_512_S32x512 slices_S32x512_o0_64_S32x64 _ _ x
  · unfold k0_pay37 k0_pay35; exact piece x0 x1 x2 0 (by decide) slices_S32x1024_o0_512_S32x512 slices_S32x512_o0_0_S32x64 _ _ x

end Cert.Proof.InBlock

end
-- ==== Proof.InValue.lean ====
/- The values stack the sample's input projection leaves, as one function of the arguments, and the call's run with it. -/
module

public import proofs.«01_k».proof.Proof.InBlock
public import Idealize.ShloMosaic.Lib.Pipeline.ArrRel

@[expose] public section

set_option maxRecDepth 8000

noncomputable section

namespace Cert.Proof.InValue

open Cert.InProjIdeal Cert.InProjIdeal.Gen Cert.Proof.InProjIdeal Idealize.ShloMosaic.TcCoe Idealize.SL.Sem
open Idealize.ShloMosaic hiding ix1 ix2 ix3 ix4 truncf_apply mulf_apply addf_apply
open Idealize.ShloMosaic.ValueIdx Idealize.ShloMosaic.StableHlo
open Idealize.ShloMosaic.Pipeline (RDat Dat)
open Cert.Proof.Rows Cert.Proof.InRows

variable (m : (ℓ : Loc nD τ sig) → Buf (Elt Ideal) ℓ) (ρ : Dev nD → PrngReg)

/-! ## The arrays the host code makes -/

theorem V_v44 (c : Dev nD) (j : Fin 1024) : V m c main_v44 (ix2 (0 : Fin 1) j) = m ((c : Thread nD τ).loc main_arg1) (ix1 j) := by
  have h : V m c main_v44 = broadcastInDim S1x1024 ![1] bcast_S1024_S1x1024_1 (m ((c : Thread nD τ).loc main_arg1)) := by
    dsimp only [V, hostOps0, hostOps0_1, hostOps0_2, List.flatten, List.append_eq, List.cons_append, List.nil_append, List.append_nil]
    after_results
  rw [h]
  exact broadcastInDim_apply _ bcast_S1024_S1x1024_1 _ _ _ fun a => match a with
    | ⟨0, _⟩ => by show j.val = if (1024 : Nat) = 1 then 0 else j.val; rw [if_neg (by decide)]

theorem V_v45_1 (c : Dev nD) : V m c main_v45_1 = m ((c : Thread nD τ).loc main_arg9) := by
  dsimp only [V, hostOps0, hostOps0_1, hostOps0_2, List.flatten, List.append_eq, List.cons_append, List.nil_append, List.append_nil]
  after_results; rfl

/-- The weights' columns the values use. -/
theorem V_w (c : Dev nD) (k : Fin 1024) (e : Fin 512) :
    V m c main_v33 (ix2 k (⟨1536 + e.val, by omega⟩ : Fin 2176)) = m ((c : Thread nD τ).loc main_arg2) (ix2 k (⟨2048 + e.val, by omega⟩ : Fin 3144)) := by
  dsimp only [V, hostOps0, hostOps0_1, hostOps0_2, List.flatten, List.append_eq, List.cons_append, List.nil_append, List.append_nil]
  after_results
  rw [ValueIdx.truncf_apply]
  refine (concatenate_apply_piece (t := S1024x2176) (1 : Fin 2) _ _ _ 1 (by show 1 < 4; decide) S1024x1024 _ rfl rfl 1024 rfl
    (ix2 k (⟨512 + e.val, by omega⟩ : Fin 1024)) (fun b hb => ?_) ?_).trans ?_
  · match b with
    | ⟨0, _⟩ => rfl
    | ⟨1, _⟩ => exact absurd rfl hb
  · show 1024 + (512 + e.val) = 1536 + e.val; omega
  · refine (congrFun (show HloOp.result _ _ (Proc.devRef .tc main_v29)
        = extractStridedSlice S1024x1024 ![0, 1536] (m ((c : Thread nD τ).loc main_arg2)) slices_S1024x3144_S1024x1024_0_1536 from ?_) _).trans ?_
    · show StableHlo.after [] (HloOp.result _ _) (Proc.devRef .tc main_v29) = _
      after_results
    exact extractStridedSlice_apply _ _ slices_S1024x3144_S1024x1024_0_1536 _ (ix2 k (⟨2048 + e.val, by omega⟩ : Fin 3144)) (fun a => match a with
      | ⟨0, _⟩ => by show k.val = 0 + k.val; omega
      | ⟨1, _⟩ => by show 2048 + e.val = 1536 + (512 + e.val); omega)

/-! ## The blocks -/

theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 2) = 0 ∧ win0_2.index t (1 : Fin 2) = 0 := (by decide +kernel : ∀ t : Fin grid0.N, _)
theorem idx14 : ∀ t : Fin cfg0.N, win0_14.index t (0 : Fin 4) = 1 ∧ win0_14.index t (1 : Fin 4) = t.val ∧ win0_14.index t (2 : Fin 4) = 0 ∧ win0_14.index t (3 : Fin 4) = 0 :=
  (by decide +kernel : ∀ t : Fin grid0.N, _)
theorem lt_N (t : Fin cfg0.N) : t.val < 8 := t.isLt

theorem blk0 (c : Dev nD) (t : Fin cfg0.N) (i : Fin 32) (j : Fin 1024) :
    (iblk m c 0 t : Vec Ideal S1x32x1024 .f32) (ix3 (0 : Fin 1) i j) = V m c main_arg0 (ix3 (⟨t.val, lt_N t⟩ : Fin 8) i j) := by
  obtain ⟨e0, e1, e2⟩ := idx0 t
  refine congrArg (V m c main_arg0) (funext fun a => Fin.ext ?_)
  match a with
  | ⟨0, _⟩ => show win0_0.index t (0 : Fin 3) * 1 + 1 * 0 = t.val; omega
  | ⟨1, _⟩ => show win0_0.index t (1 : Fin 3) * 32 + 1 * i.val = i.val; omega
  | ⟨2, _⟩ => show win0_0.index t (2 : Fin 3) * 1024 + 1 * j.val = j.val; omega

theorem blk1 (c : Dev nD) (t : Fin cfg0.N) (j : Fin 1024) :
    (iblk m c 1 t : Vec Ideal S1x1024 .f32) (ix2 (0 : Fin 1) j) = V m c main_v44 (ix2 (0 : Fin 1) j) := by
  obtain ⟨e0, e1⟩ := idx1 t
  refine congrArg (V m c main_v44) (funext fun a => Fin.ext ?_)
  match a with
  | ⟨0, _⟩ => show win0_1.index t (0 : Fin 2) * 1 + 1 * 0 = 0; omega
  | ⟨1, _⟩ => show win0_1.index t (1 : Fin 2) * 1024 + 1 * j.val = j.val; omega

theorem blk2 (c : Dev nD) (t : Fin cfg0.N) (i : Fin 1024) (j : Fin 2176) :
    (iblk m c 2 t : Vec Ideal S1024x2176 .bf16) (ix2 i j) = V m c main_v33 (ix2 i j) := by
  obtain ⟨e0, e1⟩ := idx2 t
  refine congrArg (V m c main_v33) (funext fun a => Fin.ext ?_)
  match a with
  | ⟨0, _⟩ => show win0_2.index t (0 : Fin 2) * 1024 + 1 * i.val = i.val; omega
  | ⟨1, _⟩ => show win0_2.index t (1 : Fin 2) * 2176 + 1 * j.val = j.val; omega

theorem emb14 (t : Fin cfg0.N) (r : Fin 256) (d : Fin 64) :
    (((cfg0.win 14).blk t).view.emb (ix4 (0 : Fin 1) (0 : Fin 1) r d) : S2x8x256x64.Idx) = ix4 (1 : Fin 2) (⟨t.val, lt_N t⟩ : Fin 8) r d := by
  obtain ⟨e0, e1, e2, e3⟩ := idx14 t
  refine funext fun a => Fin.ext ?_
  match a with
  | ⟨0, _⟩ => show win0_14.index t (0 : Fin 4) * 1 + 1 * 0 = 1; omega
  | ⟨1, _⟩ => show win0_14.index t (1 : Fin 4) * 1 + 1 * 0 = t.val; omega
  | ⟨2, _⟩ => show win0_14.index t (2 : Fin 4) * 256 + 1 * r.val = r.val; omega
  | ⟨3, _⟩ => show win0_14.index t (3 : Fin 4) * 64 + 1 * d.val = d.val; omega

/-- The function of the arguments as launched. -/
abbrev Gm (c : Dev nD) : Vec Ideal S2x8x256x64 .f32 :=
  G (m ((c : Thread nD τ).loc main_arg0)) (m ((c : Thread nD τ).loc main_arg1)) (m ((c : Thread nD τ).loc main_arg2)) (m ((c : Thread nD τ).loc main_arg9))

theorem exists_ix (y : S1x1x256x64.Idx) : ∃ (r : Fin 256) (d : Fin 64), y = ix4 (0 : Fin 1) (0 : Fin 1) r d :=
  ⟨⟨(y 2).val, (y 2).isLt⟩, ⟨(y 3).val, (y 3).isLt⟩, by
    have h0 : (y 0).val < 1 := (y 0).isLt
    have h1 : (y 1).val < 1 := (y 1).isLt
    funext a
    match a with
    | ⟨0, _⟩ => exact Fin.ext (by show (y 0).val = 0; omega)
    | ⟨1, _⟩ => exact Fin.ext (by show (y 1).val = 0; omega)
    | ⟨2, _⟩ => rfl
    | ⟨3, _⟩ => rfl⟩

theorem block_eq (c : Dev nD) (t : Fin cfg0.N) (y : S1x1x256x64.Idx) :
    outV (iblk m c 0 t) (iblk m c 1 t) (iblk m c 2 t) y = Gm m c (((cfg0.win 14).blk t).view.emb y) := by
  obtain ⟨r, d, rfl⟩ := exists_ix y
  rw [InBlock.outV_eq, emb14]
  refine Eq.trans ?_ (G_new _ _ _ _ _ r d).symm
  exact valCol_congr (fun k => (blk0 m c t _ k).trans (congrFun (V_kept m c main_arg0 (by decide)) _)) (fun k => (blk1 m c t k).trans (V_v44 m c k))
    (fun k => (blk2 m c t k _).trans (V_w m c k (⟨r.val % 8 * 64 + d.val, by omega⟩ : Fin 512)))

theorem after14 (c : Dev nD) (t : Fin cfg0.N) (X : (cfg0.win 14).block.Idx → Elt Ideal (cfg0.win 14).elt) (h : (rdat m c).Leaves 14 t X) :
    X = outV (iblk m c 0 t) (iblk m c 1 t) (iblk m c 2 t) := by
  obtain ⟨Y, _, h⟩ := h
  exact h

theorem covered (i : S2x8x256x64.Idx) (h : (i 0).val = 1) : ∃ t : Fin cfg0.N, (cfg0.win 14).flush t = true ∧ i ∈ ((cfg0.win 14).blk t).view.set := by
  have h1 : (i 1).val < 8 := (i 1).isLt
  let t : Fin cfg0.N := (⟨(i 1).val, h1⟩ : Fin grid0.N)
  refine ⟨t, flush0_14 t, ?_⟩
  have hm := ((cfg0.win 14).blk t).view.emb_mem_set (ix4 (0 : Fin 1) (0 : Fin 1) (⟨(i 2).val, (i 2).isLt⟩ : Fin 256) (⟨(i 3).val, (i 3).isLt⟩ : Fin 64))
  rw [emb14] at hm
  have e : i = ix4 (1 : Fin 2) (⟨t.val, lt_N t⟩ : Fin 8) (⟨(i 2).val, (i 2).isLt⟩ : Fin 256) (⟨(i 3).val, (i 3).isLt⟩ : Fin 64) := by
    funext a
    match a with
    | ⟨0, _⟩ => exact Fin.ext h
    | ⟨1, _⟩ => rfl
    | ⟨2, _⟩ => rfl
    | ⟨3, _⟩ => rfl
  rw [e]; exact hm

theorem final (r : PUnit × MemSt nD τ sig (Elt Ideal)) (h : RDat.FramePost cfg0 (rdat m) (V m) r) (c : Dev nD) :
    r.2.mem ((c : Thread nD τ).loc main_v45_1) = Gm m c := by
  obtain ⟨after, hL, hA⟩ := RDat.FramePost.exists_exact h c
  refine (hA 14).trans (funext fun i => ?_)
  rw [Dat.arrAt_eq_piecewise ((rdat m c).withAfter after) 14 (Gm m c) (fun t hf => by
    have e := after14 m c t _ (hL 14 t hf)
    funext y
    show after 14 t y = _
    rw [e]
    exact block_eq m c t y) i]
  split
  · rfl
  · rename_i hn
    have h0 : ¬ ((i : S2x8x256x64.Idx) 0).val = 1 := fun h1 => hn (covered i h1)
    exact ((congrFun (A_eq m c 14) i).trans (congrFun (V_v45_1 m c) i)).trans (G_kept _ _ _ _ i h0).symm

/-- The call's run, its values stack as the function of the arguments. -/
theorem run : θ_run (defs (F := Ideal)) (onTc (τ := τ) (main (F := Ideal))) ⟨m, fun _ => 0, ρ⟩ fun r => ∀ c : Dev nD,
      r.2.mem ((c : Thread nD τ).loc main_v45_1) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run (defs (F := Ideal)) _ _).mono (fun r (h : _ ∧ _) c => ⟨final m r h.1 c, kept m r h.1 c⟩) (run_main m ρ)

end Cert.Proof.InValue

end
-- ==== Proof.InRefRows.lean ====
/- The plain new values stack, read at an index. -/
module

public import proofs.«01_k».proof.Proof.Gen.InRefIdeal.Read
public import proofs.«01_k».proof.Proof.InRows
public import Idealize.ShloMosaic.Lib.IdealHost

@[expose] public section

noncomputable section

namespace Cert.Proof.InRefRows

open Cert.InRefIdeal Cert.InRefIdeal.Gen Cert.InRefIdeal.Read Idealize.ShloMosaic Idealize.ShloMosaic.ValueIdx
open Cert.Proof.Rows Cert.Proof.InRows
open scoped BigOperators

theorem norm_eq (x0 : Vec Ideal S8x32x1024 .f32) (x1 : Vec Ideal S1024 .f32) (b : Fin 8) (t : Fin 32) (j : Fin 1024) :
    val_main_v12 (F := Ideal) x0 x1 (ix3 b t j) = rms (fun k => x0 (ix3 b t k)) (fun k => x1 (ix1 k)) j := by
  have e : ∀ k : Fin 1024, idx_main_v1 (idx_main_v2 (idx_main_v8 (ix3 b t j))) k = ix3 b t k := fun k => by
    funext a; match a with | ⟨0, _⟩ => rfl | ⟨1, _⟩ => rfl | ⟨2, _⟩ => rfl
  have eg : idx_main_v10 (idx_main_v11 (ix3 b t j)) = ix1 j := by
    funext a; match a with | ⟨0, _⟩ => rfl
  rw [val_main_v12_apply, val_main_v9_apply, val_main_v8_apply, val_main_v7_apply, val_main_v6_apply, val_main_v4_apply, val_main_v2_apply, val_main_v1_apply,
    val_main_v3_apply, val_main_v5_apply, val_main_v11_apply, val_main_v10_apply, val_main_cst_apply, val_main_cst_0_apply, val_main_cst_1_apply, eg]
  simp only [val_main_v0_apply, e]
  have z : (FloatOps.ofBits (F := Ideal) .f32 0x00000000#32) = (0 : EReal) := Ideal.ofBits_zero_f32
  rw [z, zero_add]
  rfl

theorem col_eq (x0 : Vec Ideal S8x32x1024 .f32) (x1 : Vec Ideal S1024 .f32) (x2 : Vec Ideal S1024x3144 .f32) (b : Fin 8) (t : Fin 32) (c : Fin 3144) :
    val_main_v13 (F := Ideal) x0 x1 x2 (ix3 b t c) = valCol (fun k => x0 (ix3 b t k)) (fun k => x1 (ix1 k)) (fun k => x2 (ix2 k c)) := by
  rw [val_main_v13_apply]
  refine Finset.sum_congr rfl fun k _ => ?_
  have e : lidx_main_v13 (ix3 b t c) k = ix3 b t k := by funext a; match a with | ⟨0, _⟩ => rfl | ⟨1, _⟩ => rfl | ⟨2, _⟩ => rfl
  have e' : ridx_main_v13 (ix3 b t c) k = ix2 k c := by funext a; match a with | ⟨0, _⟩ => rfl | ⟨1, _⟩ => rfl
  rw [e, e', norm_eq x0 x1 b t k]

theorem new_eq (x0 : Vec Ideal S8x32x1024 .f32) (x1 : Vec Ideal S1024 .f32) (x2 : Vec Ideal S1024x3144 .f32) (b : Fin 8) (r : Fin 256) (d : Fin 64) :
    val_main_v16 (F := Ideal) x0 x1 x2 (ix4 (0 : Fin 1) b r d) = newVal x0 x1 x2 b r d := by
  have e : idx_main_v14 (idx_main_v16 (ix4 (0 : Fin 1) b r d))
      = ix3 b (⟨r.val / 8, by omega⟩ : Fin 32) (⟨2048 + (r.val % 8 * 64 + d.val), by omega⟩ : Fin 3144) := by
    have hb := b.isLt
    have hr := r.isLt
    have hd := d.isLt
    funext a
    match a with
    | ⟨0, _⟩ => exact Fin.ext (by show (((0 * 8 + b.val) * 256 + r.val) * 64 + d.val) / 16384 = b.val; omega)
    | ⟨1, _⟩ => exact Fin.ext (by show (((0 * 8 + b.val) * 256 + r.val) * 64 + d.val) / 512 % 32 = r.val / 8; omega)
    | ⟨2, _⟩ => exact Fin.ext (by show 2048 + (((0 * 8 + b.val) * 256 + r.val) * 64 + d.val) % 512 = 2048 + (r.val % 8 * 64 + d.val); omega)
  rw [val_main_v16_apply, val_main_v14_apply, e, col_eq]
  rfl

/-- The stack is the function of the arguments. -/
theorem result_eq (x0 : Vec Ideal S8x32x1024 .f32) (x1 : Vec Ideal S1024 .f32) (x2 : Vec Ideal S1024x3144 .f32) (x9 : Vec Ideal S2x8x256x64 .f32) :
    val_main_v17 (F := Ideal) x0 x1 x2 x9 = G x0 x1 x2 x9 := by
  funext i
  have h0 : (i 0).val < 2 := (i 0).isLt
  have h1 : (i 1).val < 8 := (i 1).isLt
  have h2 : (i 2).val < 256 := (i 2).isLt
  have h3 : (i 3).val < 64 := (i 3).isLt
  unfold val_main_v17 G
  by_cases h : (i 0).val = 1
  · rw [if_pos h]
    refine (concatenate_pair_apply_right (s₁ := S1x8x256x64) (s₂ := S1x8x256x64) (t := S2x8x256x64) (0 : Fin 4) (val_main_v15 (F := Ideal) x9) (val_main_v16 (F := Ideal) x0 x1 x2) concatenates_S1x8x256x64_S1x8x256x64_S2x8x256x64_d0 i rfl rfl
      (ix4 (0 : Fin 1) (⟨(i 1).val, h1⟩ : Fin 8) (⟨(i 2).val, h2⟩ : Fin 256) (⟨(i 3).val, h3⟩ : Fin 64)) (fun b hb => ?_) ?_).trans (new_eq x0 x1 x2 _ _ _)
    · match b with
      | ⟨0, _⟩ => exact absurd rfl hb
      | ⟨1, _⟩ => rfl
      | ⟨2, _⟩ => rfl
      | ⟨3, _⟩ => rfl
    · show 0 + 1 = (i 0).val; omega
  · rw [if_neg h]
    refine (concatenate_pair_apply_left (s₁ := S1x8x256x64) (s₂ := S1x8x256x64) (t := S2x8x256x64) (0 : Fin 4) (val_main_v15 (F := Ideal) x9) (val_main_v16 (F := Ideal) x0 x1 x2) concatenates_S1x8x256x64_S1x8x256x64_S2x8x256x64_d0 i rfl
      (ix4 (0 : Fin 1) (⟨(i 1).val, h1⟩ : Fin 8) (⟨(i 2).val, h2⟩ : Fin 256) (⟨(i 3).val, h3⟩ : Fin 64)) (fun b => ?_)).trans ?_
    · match b with
      | ⟨0, _⟩ => show 0 = (i 0).val; omega
      | ⟨1, _⟩ => rfl
      | ⟨2, _⟩ => rfl
      | ⟨3, _⟩ => rfl
    · rw [val_main_v15_apply]
      refine congrArg x9 (funext fun a => Fin.ext ?_)
      match a with
      | ⟨0, _⟩ => show 0 = (i 0).val; omega
      | ⟨1, _⟩ => rfl
      | ⟨2, _⟩ => rfl
      | ⟨3, _⟩ => rfl

end Cert.Proof.InRefRows

end
-- ==== Proof.Reference.lean ====
module

public import proofs.«01_k».proof.Defs
public import proofs.«01_k».proof.Proof.Gen.ReferenceIdeal
public import Idealize.ShloMosaic.Lib.StableHlo.Run
public import Idealize.ShloMosaic.Lib.StableHlo.RunRead
public import Idealize.ShloMosaic.Lib.Quiescent

@[expose] public section

noncomputable section

namespace Cert.Proof.Reference

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order, its calls written out. -/
abbrev ops : List (HloOp τ sig (Elt F)) :=
  [ StableHlo.nullary main_v0 (iotaInDim S2048 32 0),
    StableHlo.nullary main_v1 (iotaInDim S2048 32 0),
    StableHlo.binary main_arg3 main_arg4 main_v2 ((fun l r => Host.dotGeneral dot_S16x2048x8x64_S16x2048x64_S16x2048x8x2048_3_2_12_1_0_0 none l r) : (⟨S16x2048x8x64, .f32⟩ : BufTy).Contents (Elt F) → (⟨S16x2048x64, .f32⟩ : BufTy).Contents (Elt F) → (⟨S16x2048x8x2048, .f32⟩ : BufTy).Contents (Elt F)),
    StableHlo.nullary main_cst (constant S_ .f32 0x3E000000#32),
    StableHlo.unary main_cst main_v3 (broadcastInDim S16x2048x8x2048 ![] bcast_S_S16x2048x8x2048 : (⟨S_, .f32⟩ : BufTy).Contents (Elt F) → (⟨S16x2048x8x2048, .f32⟩ : BufTy).Contents (Elt F)),
    StableHlo.binary main_v2 main_v3 main_v4 (mulf : (⟨S16x2048x8x2048, .f32⟩ : BufTy).Contents (Elt F) → (⟨S16x2048x8x2048, .f32⟩ : BufTy).Contents (Elt F) → (⟨S16x2048x8x2048, .f32⟩ : BufTy).Contents (Elt F)),
    StableHlo.nullary main_cst_0 (constant S_ .f32 0x3EB504F3#32),
    StableHlo.unary main_cst_0 main_v5 (broadcastInDim S16x2048x8 ![] bcast_S_S16x2048x8 : (⟨S_, .f32⟩ : BufTy).Contents (Elt F) → (⟨S16x2048x8, .f32⟩ : BufTy).Contents (Elt F)),
    StableHlo.binary main_arg5 main_v5 main_v6 (mulf : (⟨S16x2048x8, .f32⟩ : BufTy).Contents (Elt F) → (⟨S16x2048x8, .f32⟩ : BufTy).Contents (Elt F) → (⟨S16x2048x8, .f32⟩ : BufTy).Contents (Elt F)),
    StableHlo.TRef.nullary (.of main_call0_cst : StableHlo.TRef sig ⟨S_, .f32⟩) (constant S_ .f32 0x00000000#32),
    StableHlo.TRef.unary (.of main_call0_cst : StableHlo.TRef sig ⟨S_, .f32⟩) (.of main_call0_v0 : StableHlo.TRef sig ⟨S16x2048x8x2048, .f32⟩) (broadcastInDim S16x2048x8x2048 ![] bcast_S_S16x2048x8x2048),
    StableHlo.TRef.binary (.of main_v4 : StableHlo.TRef sig ⟨S16x2048x8x2048, .f32⟩) (.of main_call0_v0 : StableHlo.TRef sig ⟨S16x2048x8x2048, .f32⟩) (.of main_v7 : StableHlo.TRef sig ⟨S16x2048x8x2048, .f32⟩) maximumf,
    StableHlo.binary main_v6 main_v7 main_v8 ((fun l r => Host.dotGeneral dot_S16x2048x8_S16x2048x8x2048_S16x2048x2048_2_2_n_3_01_01 none l r) : (⟨S16x2048x8, .f32⟩ : BufTy).Contents (Elt F) → (⟨S16x2048x8x2048, .f32⟩ : BufTy).Contents (Elt F) → (⟨S16x2048x2048, .f32⟩ : BufTy).Contents (Elt F)),
    StableHlo.nullary main_c (constantI S_ 32 64#32),
    StableHlo.TRef.unary (.of main_c : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S2048, .i32⟩) (broadcastInDim S2048 ![] bcast_S_S2048),
    StableHlo.TRef.binary (.of main_v1 : StableHlo.TRef sig ⟨S2048, .i32⟩) (.of main_call1_v1 : StableHlo.TRef sig ⟨S2048, .i32⟩) (.of main_call1_v2 : StableHlo.TRef sig ⟨S2048, .i32⟩) Host.divsi,
    StableHlo.TRef.unary (.of main_v1 : StableHlo.TRef sig ⟨S2048, .i32⟩) (.of main_call1_v3 : StableHlo.TRef sig ⟨S2048, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S2048, .i32⟩) (broadcastInDim S2048 ![] bcast_S_S2048),
    StableHlo.TRef.binary (.of main_call1_v3 : StableHlo.TRef sig ⟨S2048, .i32⟩) (.of main_call1_v5 : StableHlo.TRef sig ⟨S2048, .i32⟩) (.of main_call1_v6 : StableHlo.TRef sig ⟨S2048, .i1⟩) (cmpi .ne),
    StableHlo.TRef.unary (.of main_call1_v0 : StableHlo.TRef sig ⟨S_, .i32⟩) (.of main_call1_v7 : StableHlo.TRef sig ⟨S2048, .i32⟩) (broadcastInDim S2048 ![] bcast_S_S2048),
    StableHlo.TRef.binary (.of main_v1 : StableHlo.TRef sig ⟨S2048, .i32⟩) (.of main_call1_v7 : StableHlo.TRef sig ⟨S2048, .i32⟩) (.of main_call1_v8 : StableHlo.TRef sig ⟨S2048, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S2048, .i32⟩) (broadcastInDim S2048 ![] bcast_S_S2048),
    StableHlo.TRef.binary (.of main_call1_v8 : StableHlo.TRef sig ⟨S2048, .i32⟩) (.of main_call1_v9 : StableHlo.TRef sig ⟨S2048, .i32⟩) (.of main_call1_v10 : StableHlo.TRef sig ⟨S2048, .i1⟩) (cmpi .ne),
    StableHlo.TRef.binary (.of main_call1_v6 : StableHlo.TRef sig ⟨S2048, .i1⟩) (.of main_call1_v10 : StableHlo.TRef sig ⟨S2048, .i1⟩) (.of main_call1_v11 : StableHlo.TRef sig ⟨S2048, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S2048, .i32⟩) (broadcastInDim S2048 ![] bcast_S_S2048),
    StableHlo.TRef.binary (.of main_call1_v2 : StableHlo.TRef sig ⟨S2048, .i32⟩) (.of main_call1_v12 : StableHlo.TRef sig ⟨S2048, .i32⟩) (.of main_call1_v13 : StableHlo.TRef sig ⟨S2048, .i32⟩) subi,
    StableHlo.TRef.ternary (.of main_call1_v11 : StableHlo.TRef sig ⟨S2048, .i1⟩) (.of main_call1_v13 : StableHlo.TRef sig ⟨S2048, .i32⟩) (.of main_call1_v2 : StableHlo.TRef sig ⟨S2048, .i32⟩) (.of main_v9 : StableHlo.TRef sig ⟨S2048, .i32⟩) select,
    StableHlo.nullary main_c_1 (constantI S_ 32 64#32),
    StableHlo.TRef.unary (.of main_c_1 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S2048, .i32⟩) (broadcastInDim S2048 ![] bcast_S_S2048),
    StableHlo.TRef.binary (.of main_v0 : StableHlo.TRef sig ⟨S2048, .i32⟩) (.of main_call2_v1 : StableHlo.TRef sig ⟨S2048, .i32⟩) (.of main_call2_v2 : StableHlo.TRef sig ⟨S2048, .i32⟩) Host.divsi,
    StableHlo.TRef.unary (.of main_v0 : StableHlo.TRef sig ⟨S2048, .i32⟩) (.of main_call2_v3 : StableHlo.TRef sig ⟨S2048, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S2048, .i32⟩) (broadcastInDim S2048 ![] bcast_S_S2048),
    StableHlo.TRef.binary (.of main_call2_v3 : StableHlo.TRef sig ⟨S2048, .i32⟩) (.of main_call2_v5 : StableHlo.TRef sig ⟨S2048, .i32⟩) (.of main_call2_v6 : StableHlo.TRef sig ⟨S2048, .i1⟩) (cmpi .ne),
    StableHlo.TRef.unary (.of main_call2_v0 : StableHlo.TRef sig ⟨S_, .i32⟩) (.of main_call2_v7 : StableHlo.TRef sig ⟨S2048, .i32⟩) (broadcastInDim S2048 ![] bcast_S_S2048),
    StableHlo.TRef.binary (.of main_v0 : StableHlo.TRef sig ⟨S2048, .i32⟩) (.of main_call2_v7 : StableHlo.TRef sig ⟨S2048, .i32⟩) (.of main_call2_v8 : StableHlo.TRef sig ⟨S2048, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S2048, .i32⟩) (broadcastInDim S2048 ![] bcast_S_S2048),
    StableHlo.TRef.binary (.of main_call2_v8 : StableHlo.TRef sig ⟨S2048, .i32⟩) (.of main_call2_v9 : StableHlo.TRef sig ⟨S2048, .i32⟩) (.of main_call2_v10 : StableHlo.TRef sig ⟨S2048, .i1⟩) (cmpi .ne),
    StableHlo.TRef.binary (.of main_call2_v6 : StableHlo.TRef sig ⟨S2048, .i1⟩) (.of main_call2_v10 : StableHlo.TRef sig ⟨S2048, .i1⟩) (.of main_call2_v11 : StableHlo.TRef sig ⟨S2048, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S2048, .i32⟩) (broadcastInDim S2048 ![] bcast_S_S2048),
    StableHlo.TRef.binary (.of main_call2_v2 : StableHlo.TRef sig ⟨S2048, .i32⟩) (.of main_call2_v12 : StableHlo.TRef sig ⟨S2048, .i32⟩) (.of main_call2_v13 : StableHlo.TRef sig ⟨S2048, .i32⟩) subi,
    StableHlo.TRef.ternary (.of main_call2_v11 : StableHlo.TRef sig ⟨S2048, .i1⟩) (.of main_call2_v13 : StableHlo.TRef sig ⟨S2048, .i32⟩) (.of main_call2_v2 : StableHlo.TRef sig ⟨S2048, .i32⟩) (.of main_v10 : StableHlo.TRef sig ⟨S2048, .i32⟩) select,
    StableHlo.unary main_v10 main_v11 (broadcastInDim S1x2048 ![1] bcast_S2048_S1x2048_1 : (⟨S2048, .i32⟩ : BufTy).Contents (Elt F) → (⟨S1x2048, .i32⟩ : BufTy).Contents (Elt F)),
    StableHlo.unary main_v9 main_v12 (broadcastInDim S2048x1 ![0] bcast_S2048_S2048x1_0 : (⟨S2048, .i32⟩ : BufTy).Contents (Elt F) → (⟨S2048x1, .i32⟩ : BufTy).Contents (Elt F)),
    StableHlo.unary main_v11 main_v13 (broadcastInDim S2048x2048 ![0, 1] bcast_S1x2048_S2048x2048_0_1 : (⟨S1x2048, .i32⟩ : BufTy).Contents (Elt F) → (⟨S2048x2048, .i32⟩ : BufTy).Contents (Elt F)),
    StableHlo.unary main_v12 main_v14 (broadcastInDim S2048x2048 ![0, 1] bcast_S2048x1_S2048x2048_0_1 : (⟨S2048x1, .i32⟩ : BufTy).Contents (Elt F) → (⟨S2048x2048, .i32⟩ : BufTy).Contents (Elt F)),
    StableHlo.binary main_v13 main_v14 main_v15 (cmpi .sle : (⟨S2048x2048, .i32⟩ : BufTy).Contents (Elt F) → (⟨S2048x2048, .i32⟩ : BufTy).Contents (Elt F) → (⟨S2048x2048, .i1⟩ : BufTy).Contents (Elt F)),
    StableHlo.unary main_v15 main_v16 (broadcastInDim S1x2048x2048 ![1, 2] bcast_S2048x2048_S1x2048x2048_1_2 : (⟨S2048x2048, .i1⟩ : BufTy).Contents (Elt F) → (⟨S1x2048x2048, .i1⟩ : BufTy).Contents (Elt F)),
    StableHlo.nullary main_cst_2 (constant S_ .f32 0xFF800000#32),
    StableHlo.TRef.unary (.of main_cst_2 : StableHlo.TRef sig ⟨S_, .f32⟩) (.of main_call3_v0 : StableHlo.TRef sig ⟨S_, .f32⟩) id,
    StableHlo.TRef.unary (.of main_v16 : StableHlo.TRef sig ⟨S1x2048x2048, .i1⟩) (.of main_call3_v1 : StableHlo.TRef sig ⟨S16x2048x2048, .i1⟩) (broadcastInDim S16x2048x2048 ![0, 1, 2] bcast_S1x2048x2048_S16x2048x2048_0_1_2),
    StableHlo.TRef.unary (.of main_call3_v0 : StableHlo.TRef sig ⟨S_, .f32⟩) (.of main_call3_v2 : StableHlo.TRef sig ⟨S16x2048x2048, .f32⟩) (broadcastInDim S16x2048x2048 ![] bcast_S_S16x2048x2048),
    StableHlo.TRef.ternary (.of main_call3_v1 : StableHlo.TRef sig ⟨S16x2048x2048, .i1⟩) (.of main_v8 : StableHlo.TRef sig ⟨S16x2048x2048, .f32⟩) (.of main_call3_v2 : StableHlo.TRef sig ⟨S16x2048x2048, .f32⟩) (.of main_v17 : StableHlo.TRef sig ⟨S16x2048x2048, .f32⟩) select,
    StableHlo.unary main_v17 main_values ((fun x => (Host.topK S16x2048x256 2 (FloatOps.cmpfTotal .gt) x sliceFits_S16x2048x2048_S16x2048x256).1) : (⟨S16x2048x2048, .f32⟩ : BufTy).Contents (Elt F) → (⟨S16x2048x256, .f32⟩ : BufTy).Contents (Elt F)),
    StableHlo.unary main_v17 main_indices ((fun x => (Host.topK S16x2048x256 2 (FloatOps.cmpfTotal .gt) x sliceFits_S16x2048x2048_S16x2048x256).2) : (⟨S16x2048x2048, .f32⟩ : BufTy).Contents (Elt F) → (⟨S16x2048x256, .i32⟩ : BufTy).Contents (Elt F)),
    StableHlo.nullary main_c_3 (constantI S_ 32 0#32),
    StableHlo.unary main_c_3 main_v18 (broadcastInDim S16x2048x256 ![] bcast_S_S16x2048x256 : (⟨S_, .i32⟩ : BufTy).Contents (Elt F) → (⟨S16x2048x256, .i32⟩ : BufTy).Contents (Elt F)),
    StableHlo.binary main_indices main_v18 main_v19 (cmpi .slt : (⟨S16x2048x256, .i32⟩ : BufTy).Contents (Elt F) → (⟨S16x2048x256, .i32⟩ : BufTy).Contents (Elt F) → (⟨S16x2048x256, .i1⟩ : BufTy).Contents (Elt F)),
    StableHlo.nullary main_c_4 (constantI S_ 32 2048#32),
    StableHlo.unary main_c_4 main_v20 (broadcastInDim S16x2048x256 ![] bcast_S_S16x2048x256 : (⟨S_, .i32⟩ : BufTy).Contents (Elt F) → (⟨S16x2048x256, .i32⟩ : BufTy).Contents (Elt F)),
    StableHlo.binary main_indices main_v20 main_v21 (addi : (⟨S16x2048x256, .i32⟩ : BufTy).Contents (Elt F) → (⟨S16x2048x256, .i32⟩ : BufTy).Contents (Elt F) → (⟨S16x2048x256, .i32⟩ : BufTy).Contents (Elt F)),
    StableHlo.ternary main_v19 main_v21 main_indices main_v22 (select : (⟨S16x2048x256, .i1⟩ : BufTy).Contents (Elt F) → (⟨S16x2048x256, .i32⟩ : BufTy).Contents (Elt F) → (⟨S16x2048x256, .i32⟩ : BufTy).Contents (Elt F) → (⟨S16x2048x256, .i32⟩ : BufTy).Contents (Elt F)),
    StableHlo.unary main_v22 main_v23 (broadcastInDim S16x2048x256x1 ![0, 1, 2] bcast_S16x2048x256_S16x2048x256x1_0_1_2 : (⟨S16x2048x256, .i32⟩ : BufTy).Contents (Elt F) → (⟨S16x2048x256x1, .i32⟩ : BufTy).Contents (Elt F)),
    StableHlo.binary main_v10 main_v23 main_v24 ((fun x i => Host.gather gather_S2048_S16x2048x256x1_S16x2048x256_n_0_n_n_0_3_1 x i) : (⟨S2048, .i32⟩ : BufTy).Contents (Elt F) → (⟨S16x2048x256x1, .i32⟩ : BufTy).Contents (Elt F) → (⟨S16x2048x256, .i32⟩ : BufTy).Contents (Elt F)),
    StableHlo.unary main_v9 main_v25 (broadcastInDim S1x2048x1 ![1] bcast_S2048_S1x2048x1_1 : (⟨S2048, .i32⟩ : BufTy).Contents (Elt F) → (⟨S1x2048x1, .i32⟩ : BufTy).Contents (Elt F)),
    StableHlo.unary main_v25 main_v26 (broadcastInDim S16x2048x256 ![0, 1, 2] bcast_S1x2048x1_S16x2048x256_0_1_2 : (⟨S1x2048x1, .i32⟩ : BufTy).Contents (Elt F) → (⟨S16x2048x256, .i32⟩ : BufTy).Contents (Elt F)),
    StableHlo.binary main_v24 main_v26 main_v27 (cmpi .sle : (⟨S16x2048x256, .i32⟩ : BufTy).Contents (Elt F) → (⟨S16x2048x256, .i32⟩ : BufTy).Contents (Elt F) → (⟨S16x2048x256, .i1⟩ : BufTy).Contents (Elt F)),
    StableHlo.nullary main_c_5 (constantI S_ 32 0#32),
    StableHlo.unary main_c_5 main_v28 (broadcastInDim S16x2048x256 ![] bcast_S_S16x2048x256 : (⟨S_, .i32⟩ : BufTy).Contents (Elt F) → (⟨S16x2048x256, .i32⟩ : BufTy).Contents (Elt F)),
    StableHlo.binary main_indices main_v28 main_v29 (cmpi .slt : (⟨S16x2048x256, .i32⟩ : BufTy).Contents (Elt F) → (⟨S16x2048x256, .i32⟩ : BufTy).Contents (Elt F) → (⟨S16x2048x256, .i1⟩ : BufTy).Contents (Elt F)),
    StableHlo.nullary main_c_6 (constantI S_ 32 2048#32),
    StableHlo.unary main_c_6 main_v30 (broadcastInDim S16x2048x256 ![] bcast_S_S16x2048x256 : (⟨S_, .i32⟩ : BufTy).Contents (Elt F) → (⟨S16x2048x256, .i32⟩ : BufTy).Contents (Elt F)),
    StableHlo.binary main_indices main_v30 main_v31 (addi : (⟨S16x2048x256, .i32⟩ : BufTy).Contents (Elt F) → (⟨S16x2048x256, .i32⟩ : BufTy).Contents (Elt F) → (⟨S16x2048x256, .i32⟩ : BufTy).Contents (Elt F)),
    StableHlo.ternary main_v29 main_v31 main_indices main_v32 (select : (⟨S16x2048x256, .i1⟩ : BufTy).Contents (Elt F) → (⟨S16x2048x256, .i32⟩ : BufTy).Contents (Elt F) → (⟨S16x2048x256, .i32⟩ : BufTy).Contents (Elt F) → (⟨S16x2048x256, .i32⟩ : BufTy).Contents (Elt F)),
    StableHlo.unary main_v32 main_v33 (broadcastInDim S16x2048x256x1 ![0, 1, 2] bcast_S16x2048x256_S16x2048x256x1_0_1_2 : (⟨S16x2048x256, .i32⟩ : BufTy).Contents (Elt F) → (⟨S16x2048x256x1, .i32⟩ : BufTy).Contents (Elt F)),
    StableHlo.binary main_arg1 main_v33 main_v34 ((fun x i => Host.gather gather_S16x2048x8x64_S16x2048x256x1_S16x2048x256x8x64_34_1_0_0_1_3_11864 x i) : (⟨S16x2048x8x64, .f32⟩ : BufTy).Contents (Elt F) → (⟨S16x2048x256x1, .i32⟩ : BufTy).Contents (Elt F) → (⟨S16x2048x256x8x64, .f32⟩ : BufTy).Contents (Elt F)),
    StableHlo.nullary main_c_7 (constantI S_ 32 0#32),
    StableHlo.unary main_c_7 main_v35 (broadcastInDim S16x2048x256 ![] bcast_S_S16x2048x256 : (⟨S_, .i32⟩ : BufTy).Contents (Elt F) → (⟨S16x2048x256, .i32⟩ : BufTy).Contents (Elt F)),
    StableHlo.binary main_indices main_v35 main_v36 (cmpi .slt : (⟨S16x2048x256, .i32⟩ : BufTy).Contents (Elt F) → (⟨S16x2048x256, .i32⟩ : BufTy).Contents (Elt F) → (⟨S16x2048x256, .i1⟩ : BufTy).Contents (Elt F)),
    StableHlo.nullary main_c_8 (constantI S_ 32 2048#32),
    StableHlo.unary main_c_8 main_v37 (broadcastInDim S16x2048x256 ![] bcast_S_S16x2048x256 : (⟨S_, .i32⟩ : BufTy).Contents (Elt F) → (⟨S16x2048x256, .i32⟩ : BufTy).Contents (Elt F)),
    StableHlo.binary main_indices main_v37 main_v38 (addi : (⟨S16x2048x256, .i32⟩ : BufTy).Contents (Elt F) → (⟨S16x2048x256, .i32⟩ : BufTy).Contents (Elt F) → (⟨S16x2048x256, .i32⟩ : BufTy).Contents (Elt F)),
    StableHlo.ternary main_v36 main_v38 main_indices main_v39 (select : (⟨S16x2048x256, .i1⟩ : BufTy).Contents (Elt F) → (⟨S16x2048x256, .i32⟩ : BufTy).Contents (Elt F) → (⟨S16x2048x256, .i32⟩ : BufTy).Contents (Elt F) → (⟨S16x2048x256, .i32⟩ : BufTy).Contents (Elt F)),
    StableHlo.unary main_v39 main_v40 (broadcastInDim S16x2048x256x1 ![0, 1, 2] bcast_S16x2048x256_S16x2048x256x1_0_1_2 : (⟨S16x2048x256, .i32⟩ : BufTy).Contents (Elt F) → (⟨S16x2048x256x1, .i32⟩ : BufTy).Contents (Elt F)),
    StableHlo.binary main_arg2 main_v40 main_v41 ((fun x i => Host.gather gather_S16x2048x8x64_S16x2048x256x1_S16x2048x256x8x64_34_1_0_0_1_3_11864 x i) : (⟨S16x2048x8x64, .f32⟩ : BufTy).Contents (Elt F) → (⟨S16x2048x256x1, .i32⟩ : BufTy).Contents (Elt F) → (⟨S16x2048x256x8x64, .f32⟩ : BufTy).Contents (Elt F)),
    StableHlo.binary main_arg0 main_v34 main_v42 ((fun l r => Host.dotGeneral dot_S16x2048x8x64_S16x2048x256x8x64_S16x2048x8x256_3_4_n_2_012_013 none l r) : (⟨S16x2048x8x64, .f32⟩ : BufTy).Contents (Elt F) → (⟨S16x2048x256x8x64, .f32⟩ : BufTy).Contents (Elt F) → (⟨S16x2048x8x256, .f32⟩ : BufTy).Contents (Elt F)),
    StableHlo.nullary main_cst_9 (constant S_ .f32 0x3E000000#32),
    StableHlo.unary main_cst_9 main_v43 (broadcastInDim S16x2048x8x256 ![] bcast_S_S16x2048x8x256 : (⟨S_, .f32⟩ : BufTy).Contents (Elt F) → (⟨S16x2048x8x256, .f32⟩ : BufTy).Contents (Elt F)),
    StableHlo.binary main_v42 main_v43 main_v44 (mulf : (⟨S16x2048x8x256, .f32⟩ : BufTy).Contents (Elt F) → (⟨S16x2048x8x256, .f32⟩ : BufTy).Contents (Elt F) → (⟨S16x2048x8x256, .f32⟩ : BufTy).Contents (Elt F)),
    StableHlo.unary main_v27 main_v45 (broadcastInDim S16x2048x1x256 ![0, 1, 3] bcast_S16x2048x256_S16x2048x1x256_0_1_3 : (⟨S16x2048x256, .i1⟩ : BufTy).Contents (Elt F) → (⟨S16x2048x1x256, .i1⟩ : BufTy).Contents (Elt F)),
    StableHlo.nullary main_cst_10 (constant S_ .f32 0xFF800000#32),
    StableHlo.TRef.unary (.of main_cst_10 : StableHlo.TRef sig ⟨S_, .f32⟩) (.of main_call4_v0 : StableHlo.TRef sig ⟨S_, .f32⟩) id,
    StableHlo.TRef.unary (.of main_v45 : StableHlo.TRef sig ⟨S16x2048x1x256, .i1⟩) (.of main_call4_v1 : StableHlo.TRef sig ⟨S16x2048x8x256, .i1⟩) (broadcastInDim S16x2048x8x256 ![0, 1, 2, 3] bcast_S16x2048x1x256_S16x2048x8x256_0_1_2_3),
    StableHlo.TRef.unary (.of main_call4_v0 : StableHlo.TRef sig ⟨S_, .f32⟩) (.of main_call4_v2 : StableHlo.TRef sig ⟨S16x2048x8x256, .f32⟩) (broadcastInDim S16x2048x8x256 ![] bcast_S_S16x2048x8x256),
    StableHlo.TRef.ternary (.of main_call4_v1 : StableHlo.TRef sig ⟨S16x2048x8x256, .i1⟩) (.of main_v44 : StableHlo.TRef sig ⟨S16x2048x8x256, .f32⟩) (.of main_call4_v2 : StableHlo.TRef sig ⟨S16x2048x8x256, .f32⟩) (.of main_v46 : StableHlo.TRef sig ⟨S16x2048x8x256, .f32⟩) select,
    StableHlo.nullary main_cst_11 (constant S_ .f32 0xFF800000#32),
    StableHlo.binary main_v46 main_cst_11 main_v47 ((fun x v => Host.reduce FloatOps.maximumf x v reducesTo_S16x2048x8x256_S16x2048x8_d3 h_S_) : (⟨S16x2048x8x256, .f32⟩ : BufTy).Contents (Elt F) → (⟨S_, .f32⟩ : BufTy).Contents (Elt F) → (⟨S16x2048x8, .f32⟩ : BufTy).Contents (Elt F)),
    StableHlo.nullary main_cst_12 (constant S_ .f32 0xFF800000#32),
    StableHlo.unary main_cst_12 main_v48 (broadcastInDim S16x2048x8 ![] bcast_S_S16x2048x8 : (⟨S_, .f32⟩ : BufTy).Contents (Elt F) → (⟨S16x2048x8, .f32⟩ : BufTy).Contents (Elt F)),
    StableHlo.binary main_v48 main_v47 main_v49 (maximumf : (⟨S16x2048x8, .f32⟩ : BufTy).Contents (Elt F) → (⟨S16x2048x8, .f32⟩ : BufTy).Contents (Elt F) → (⟨S16x2048x8, .f32⟩ : BufTy).Contents (Elt F)),
    StableHlo.unary main_v49 main_v50 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    StableHlo.unary main_v50 main_v51 (broadcastInDim S16x2048x8x256 ![0, 1, 2, 3] bcast_S16x2048x8x1_S16x2048x8x256_0_1_2_3 : (⟨S16x2048x8x1, .f32⟩ : BufTy).Contents (Elt F) → (⟨S16x2048x8x256, .f32⟩ : BufTy).Contents (Elt F)),
    StableHlo.binary main_v46 main_v51 main_v52 (subf : (⟨S16x2048x8x256, .f32⟩ : BufTy).Contents (Elt F) → (⟨S16x2048x8x256, .f32⟩ : BufTy).Contents (Elt F) → (⟨S16x2048x8x256, .f32⟩ : BufTy).Contents (Elt F)),
    StableHlo.unary main_v52 main_v53 (Host.exp : (⟨S16x2048x8x256, .f32⟩ : BufTy).Contents (Elt F) → (⟨S16x2048x8x256, .f32⟩ : BufTy).Contents (Elt F)),
    StableHlo.nullary main_cst_13 (constant S_ .f32 0x00000000#32),
    StableHlo.binary main_v53 main_cst_13 main_v54 ((fun x v => Host.reduceAdd x v reducesTo_S16x2048x8x256_S16x2048x8_d3 h_S_) : (⟨S16x2048x8x256, .f32⟩ : BufTy).Contents (Elt F) → (⟨S_, .f32⟩ : BufTy).Contents (Elt F) → (⟨S16x2048x8, .f32⟩ : BufTy).Contents (Elt F)),
    StableHlo.unary main_v54 main_v55 (broadcastInDim S16x2048x8x1 ![0, 1, 2] bcast_S16x2048x8_S16x2048x8x1_0_1_2 : (⟨S16x2048x8, .f32⟩ : BufTy).Contents (Elt F) → (⟨S16x2048x8x1, .f32⟩ : BufTy).Contents (Elt F)),
    StableHlo.unary main_v55 main_v56 (broadcastInDim S16x2048x8x256 ![0, 1, 2, 3] bcast_S16x2048x8x1_S16x2048x8x256_0_1_2_3 : (⟨S16x2048x8x1, .f32⟩ : BufTy).Contents (Elt F) → (⟨S16x2048x8x256, .f32⟩ : BufTy).Contents (Elt F)),
    StableHlo.binary main_v53 main_v56 main_v57 (Host.divf : (⟨S16x2048x8x256, .f32⟩ : BufTy).Contents (Elt F) → (⟨S16x2048x8x256, .f32⟩ : BufTy).Contents (Elt F) → (⟨S16x2048x8x256, .f32⟩ : BufTy).Contents (Elt F)),
    StableHlo.binary main_v57 main_v41 main_v58 ((fun l r => Host.dotGeneral dot_S16x2048x8x256_S16x2048x256x8x64_S16x2048x8x64_3_2_n_4_012_013 none l r) : (⟨S16x2048x8x256, .f32⟩ : BufTy).Contents (Elt F) → (⟨S16x2048x256x8x64, .f32⟩ : BufTy).Contents (Elt F) → (⟨S16x2048x8x64, .f32⟩ : BufTy).Contents (Elt F)),
    StableHlo.reshape main_v58 main_v59 (rfl : (.f32 : EltTy) = .f32) shapeCasts_S16x2048x8x64_S16x2048x512,
    StableHlo.unary main_v59 main_v60 ((transpose S16x512x2048 [0, 2, 1] · transposes_S16x2048x512_S16x512x2048_0_2_1) : (⟨S16x2048x512, .f32⟩ : BufTy).Contents (Elt F) → (⟨S16x512x2048, .f32⟩ : BufTy).Contents (Elt F)),
    StableHlo.unary main_v60 main_v61 ((truncf .bf16 · bitsLt_bf16_f32) : (⟨S16x512x2048, .f32⟩ : BufTy).Contents (Elt F) → (⟨S16x512x2048, .bf16⟩ : BufTy).Contents (Elt F)) ]

set_option maxRecDepth 100000 in
set_option maxHeartbeats 20000000 in
theorem main_eq (c : Dev nD) : main (F := F) c = seq ops := by
  simp only [main, main_part0, main_part1, fn_relu.body, fn_floor_divide.body, fn_where.body, fn_where_0.body, fn_where_1.body, seq, bind_assoc, pure_bind]

theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., unary_bufs_sub .., unary_bufs_sub .., unary_bufs_sub .., binary_bufs_sub .., unary_bufs_sub .., nullary_bufs_sub .., unary_bufs_sub .., unary_bufs_sub .., unary_bufs_sub .., ternary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., unary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., reshape_bufs_sub .., unary_bufs_sub .., unary_bufs_sub ..⟩

/-- The buffers written, in order. -/
abbrev written : List (Ref sig .tc) := [main_v0, main_v1, main_v2, main_cst, main_v3, main_v4, main_cst_0, main_v5, main_v6, main_call0_cst, main_call0_v0, main_v7, main_v8, main_c, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v9, main_c_1, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v10, main_v11, main_v12, main_v13, main_v14, main_v15, main_v16, main_cst_2, main_call3_v0, main_call3_v1, main_call3_v2, main_v17, main_values, main_indices, main_c_3, main_v18, main_v19, main_c_4, main_v20, main_v21, main_v22, main_v23, main_v24, main_v25, main_v26, main_v27, main_c_5, main_v28, main_v29, main_c_6, main_v30, main_v31, main_v32, main_v33, main_v34, main_c_7, main_v35, main_v36, main_c_8, main_v37, main_v38, main_v39, main_v40, main_v41, main_v42, main_cst_9, main_v43, main_v44, main_v45, main_cst_10, main_call4_v0, main_call4_v1, main_call4_v2, main_v46, main_cst_11, main_v47, main_cst_12, main_v48, main_v49, main_v50, main_v51, main_v52, main_v53, main_cst_13, main_v54, main_v55, main_v56, main_v57, main_v58, main_v59, main_v60, main_v61]

theorem written_eq : (ops : List (HloOp τ sig (Elt F))).map HloOp.writes = written.map fun w => {Proc.devRef (τ := τ) .tc w} := rfl

theorem scopedRefs_eq : (Finset.univ.filter fun b : Ref sig .tc => b.isScoped) = ∅ := by decide
theorem scopedSems_eq : (Finset.univ.filter fun sm : SemLoc sig => sm.isScoped .tc) = ∅ := by decide

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- A buffer no operation writes ends as it began. -/
theorem kept (m : (ℓ : Loc nD τ sig) → Buf (Elt F) ℓ) (c : Dev nD) (b : Ref sig .tc) (hb : b ∉ written) :
    after (ops (F := F)) (launchContents m c) (b : DevRef τ sig) = m ((c.tc : Thread nD τ).loc b) :=
  after_unwritten written written_eq hb _

theorem frame : Cert.quiescent_ReferenceIdeal := by
  intro m ρ _
  exact (θ_run Cert.ReferenceIdeal.defs _ _).mono
    (fun r h => ⟨fun c => ⟨(h c main_arg0).trans (kept m c _ (by decide)), (h c main_arg1).trans (kept m c _ (by decide)),
      (h c main_arg2).trans (kept m c _ (by decide)), (h c main_arg3).trans (kept m c _ (by decide)),
      (h c main_arg4).trans (kept m c _ (by decide)), (h c main_arg5).trans (kept m c _ (by decide))⟩,
      Idealize.ShloMosaic.sem_eq_zero_of_no_sems (by decide) r.2⟩)
    (run_main (F := Ideal) m ρ)

end Cert.Proof.Reference

end
-- ==== Proof.lean ====
module

public import proofs.«01_k».proof.Defs
public import proofs.«01_k».proof.Proof.Gen.OutFfnIdeal.Value
public import proofs.«01_k».proof.Proof.Gen.OutRefIdeal.Run
public import proofs.«01_k».proof.Proof.Gen.OutRefIdeal.Read
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.OutFfn.Frame
public import proofs.«01_k».proof.Proof.Gen.Ffn.Frame
public import proofs.«01_k».proof.Proof.Gen.OutRef.Run
public import proofs.«01_k».proof.Proof.Gen.FfnRef.Run
public import proofs.«01_k».proof.Proof.Gen.Sample.Frame
public import proofs.«01_k».proof.Proof.Gen.SampleIdeal.Value
public import proofs.«01_k».proof.Proof.Gen.SampleRef.Run
public import proofs.«01_k».proof.Proof.Gen.SampleRefIdeal.Run
public import proofs.«01_k».proof.Proof.Gen.SampleRefIdeal.Read
public import proofs.«01_k».proof.Proof.Gen.FfnSample.Frame
public import proofs.«01_k».proof.Proof.Gen.FfnSampleIdeal.Value
public import proofs.«01_k».proof.Proof.Gen.FfnSampleRef.Run
public import proofs.«01_k».proof.Proof.Gen.FfnSampleRefIdeal.Run
public import proofs.«01_k».proof.Proof.Gen.FfnSampleRefIdeal.Read
public import proofs.«01_k».proof.Proof.FfnValue
public import proofs.«01_k».proof.Proof.FfnRefRows
public import proofs.«01_k».proof.Proof.FfnSampleValue
public import proofs.«01_k».proof.Proof.FfnSampleRefRows
public import proofs.«01_k».proof.Proof.SampleValue
public import proofs.«01_k».proof.Proof.SampleRefRows
public import proofs.«01_k».proof.Proof.OutValue
public import proofs.«01_k».proof.Proof.OutRefRows
public import proofs.«01_k».proof.Proof.Run
public import proofs.«01_k».proof.Proof.Gen.InRefIdeal.Run
public import proofs.«01_k».proof.Proof.Gen.InRefIdeal.Read
public import proofs.«01_k».proof.Proof.InValue
public import proofs.«01_k».proof.Proof.InRefRows
public import proofs.«01_k».proof.Proof.Reference

@[expose] public section

noncomputable section

namespace Cert.Proof

open Idealize.ShloMosaic Idealize.ShloMosaic.TcCoe Idealize.ShloMosaic.StableHlo Idealize.SL.Sem

/-- A reference holds no semaphore, so its run leaves every counter at zero. -/
theorem frame_OutRef : Cert.quiescent_OutRef := fun m ρ _ =>
  (θ_run Cert.OutRef.defs _ _).mono (fun r h => ⟨fun c => (h c).2, sem_eq_zero_of_no_sems (by decide) r.2⟩) (Cert.OutRef.Value.run m ρ)

/-- A reference holds no semaphore, so its run leaves every counter at zero. -/
theorem frame_OutRefIdeal : Cert.quiescent_OutRefIdeal := fun m ρ _ =>
  (θ_run Cert.OutRefIdeal.defs _ _).mono (fun r h => ⟨fun c => (h c).2, sem_eq_zero_of_no_sems (by decide) r.2⟩) (Cert.OutRefIdeal.Value.run m ρ)

/-- A reference holds no semaphore, so its run leaves every counter at zero. -/
theorem frame_FfnRef : Cert.quiescent_FfnRef := fun m ρ _ =>
  (θ_run Cert.FfnRef.defs _ _).mono (fun r h => ⟨fun c => (h c).2, sem_eq_zero_of_no_sems (by decide) r.2⟩) (Cert.FfnRef.Value.run m ρ)

theorem frame_FfnSampleRef : Cert.quiescent_FfnSampleRef := fun m ρ _ =>
  (θ_run Cert.FfnSampleRef.defs _ _).mono (fun r h => ⟨fun c => (h c).2, sem_eq_zero_of_no_sems (by decide) r.2⟩) (Cert.FfnSampleRef.Value.run m ρ)

/-- A reference holds no semaphore, so its run leaves every counter at zero. -/
theorem frame_FfnRefIdeal : Cert.quiescent_FfnRefIdeal := fun m ρ _ =>
  (θ_run Cert.FfnRefIdeal.defs _ _).mono (fun r h => ⟨fun c => (h c).2, sem_eq_zero_of_no_sems (by decide) r.2⟩) (Cert.FfnRefIdeal.Value.run m ρ)

theorem frame_FfnSampleRefIdeal : Cert.quiescent_FfnSampleRefIdeal := fun m ρ _ =>
  (θ_run Cert.FfnSampleRefIdeal.defs _ _).mono (fun r h => ⟨fun c => (h c).2, sem_eq_zero_of_no_sems (by decide) r.2⟩) (Cert.FfnSampleRefIdeal.Value.run m ρ)

/-- A reference holds no semaphore, so its run leaves every counter at zero. -/
theorem frame_SampleRef : Cert.quiescent_SampleRef := fun m ρ _ =>
  (θ_run Cert.SampleRef.defs _ _).mono (fun r h => ⟨fun c => (h c).2, sem_eq_zero_of_no_sems (by decide) r.2⟩) (Cert.SampleRef.Value.run m ρ)

/-- A reference holds no semaphore, so its run leaves every counter at zero. -/
theorem frame_SampleRefIdeal : Cert.quiescent_SampleRefIdeal := fun m ρ _ =>
  (θ_run Cert.SampleRefIdeal.defs _ _).mono (fun r h => ⟨fun c => (h c).2, sem_eq_zero_of_no_sems (by decide) r.2⟩) (Cert.SampleRefIdeal.Value.run m ρ)

/-- The first feed-forward call's value and its reference's are one function of the arguments. -/
theorem ffn_value (x0 : Vec Ideal Cert.FfnIdeal.S16x2048x1024 .f32) (x1 x2 : Vec Ideal Cert.FfnIdeal.S1024 .f32)
    (x3 : Vec Ideal Cert.FfnIdeal.S1024x5632 .f32) (x4 : Vec Ideal Cert.FfnIdeal.S2816x1024 .f32) :
    Cert.FfnRefIdeal.Read.val_main_v35 (F := Ideal) x0 x1 x2 x3 x4 = FfnValue.G x0 x1 x2 x3 x4 := by
  funext i
  obtain ⟨r, j, rfl⟩ : ∃ (r : Fin 32768) (j : Fin 1024), i = ValueIdx.ix2 r j := ⟨i 0, i 1, by
    funext a
    match a with
    | ⟨0, _⟩ => rfl
    | ⟨1, _⟩ => rfl⟩
  exact FfnRefRows.result_eq x0 x1 x2 x3 x4 r j

/-- The first feed-forward call's value for the sample and its reference's are one function of the arguments. -/
theorem ffn_sample_value (x0 : Vec Ideal Cert.FfnSampleIdeal.S8x32x1024 .f32) (x1 x2 : Vec Ideal Cert.FfnSampleIdeal.S1024 .f32)
    (x3 : Vec Ideal Cert.FfnSampleIdeal.S1024x5632 .f32) (x4 : Vec Ideal Cert.FfnSampleIdeal.S2816x1024 .f32) :
    Cert.FfnSampleRefIdeal.Read.val_main_v35 (F := Ideal) x0 x1 x2 x3 x4 = FfnSampleValue.G x0 x1 x2 x3 x4 := by
  funext i
  obtain ⟨r, j, rfl⟩ : ∃ (r : Fin 256) (j : Fin 1024), i = ValueIdx.ix2 r j := ⟨i 0, i 1, by
    funext a
    match a with
    | ⟨0, _⟩ => rfl
    | ⟨1, _⟩ => rfl⟩
  exact FfnSampleRefRows.result_eq x0 x1 x2 x3 x4 r j

theorem frame_InRefIdeal : Cert.quiescent_InRefIdeal := fun m ρ _ =>
  (θ_run Cert.InRefIdeal.defs _ _).mono (fun r h => ⟨fun c => (h c).2, sem_eq_zero_of_no_sems (by decide) r.2⟩) (Cert.InRefIdeal.Value.run m ρ)

/-- The second feed-forward call's value and its reference's are one function of the arguments. -/
theorem out_value (x0 : Vec Ideal Cert.OutFfnIdeal.S16x2048x1024 .f32) (x1 : Vec Ideal Cert.OutFfnIdeal.S16x2048x512 .f32)
    (x2 : Vec Ideal Cert.OutFfnIdeal.S16x2048x8x64 .f32) (x3 : Vec Ideal Cert.OutFfnIdeal.S1024x1024 .f32)
    (x4 x5 x6 : Vec Ideal Cert.OutFfnIdeal.S1024 .f32)
    (x7 : Vec Ideal Cert.OutFfnIdeal.S1024x5632 .f32) (x8 : Vec Ideal Cert.OutFfnIdeal.S2816x1024 .f32) :
    Cert.OutRefIdeal.Read.val_main_v51 (F := Ideal) x0 x1 x2 x3 x4 x5 x6 x7 x8 = OutValue.G x0 x1 x2 x3 x4 x5 x6 x7 x8 := by
  funext i
  obtain ⟨b, t, j, rfl⟩ : ∃ (b : Fin 16) (t : Fin 2048) (j : Fin 1024), i = ValueIdx.ix3 b t j := ⟨i 0, i 1, i 2, by
    funext a
    match a with
    | ⟨0, _⟩ => rfl
    | ⟨1, _⟩ => rfl
    | ⟨2, _⟩ => rfl⟩
  exact OutRefRows.result_eq x0 x1 x2 x3 x4 x5 x6 x7 x8 b t j

/-- The second feed-forward call's value for the sample and its reference's are one function of the arguments. -/
theorem sample_value (x0 : Vec Ideal Cert.SampleIdeal.S8x32x1024 .f32) (x1 : Vec Ideal Cert.SampleIdeal.S8x32x512 .f32)
    (x2 : Vec Ideal Cert.SampleIdeal.S8x32x8x64 .f32) (x3 : Vec Ideal Cert.SampleIdeal.S1024x1024 .f32)
    (x4 x5 x6 : Vec Ideal Cert.SampleIdeal.S1024 .f32)
    (x7 : Vec Ideal Cert.SampleIdeal.S1024x5632 .f32) (x8 : Vec Ideal Cert.SampleIdeal.S2816x1024 .f32) :
    Cert.SampleRefIdeal.Read.val_main_v52 (F := Ideal) x0 x1 x2 x3 x4 x5 x6 x7 x8 = SampleValue.G x0 x1 x2 x3 x4 x5 x6 x7 x8 := by
  funext i
  obtain ⟨r, j, rfl⟩ : ∃ (r : Fin 256) (j : Fin 1024), i = ValueIdx.ix3 (0 : Fin 1) r j := ⟨i 1, i 2, by
    funext a
    match a with
    | ⟨0, _⟩ => exact Fin.ext (by have h : (i 0).val < 1 := (i 0).isLt; show (i 0).val = 0; omega)
    | ⟨1, _⟩ => rfl
    | ⟨2, _⟩ => rfl⟩
  exact SampleRefRows.result_eq x0 x1 x2 x3 x4 x5 x6 x7 x8 r j

theorem algebraic_OutFfnIdeal : Cert.algebraic_OutFfnIdeal_OutRefIdeal := fun m ρ m' ρ' _ hagree =>
  ⟨OutValue.Gm m, OutValue.run m ρ, (θ_run Cert.OutRefIdeal.defs _ _).mono (fun r h c => ⟨(h c).1.trans (by
      obtain ⟨h0, h1, h2, h3, h4, h5, h6, h7, h8⟩ := hagree c
      rw [Cert.OutRefIdeal.Read.val_main_v51_eq, h0, h1, h2, h3, h4, h5, h6, h7, h8]
      exact out_value _ _ _ _ _ _ _ _ _), (h c).2⟩) (Cert.OutRefIdeal.Value.run m' ρ')⟩

theorem algebraic_SampleIdeal : Cert.algebraic_SampleIdeal_SampleRefIdeal := fun m ρ m' ρ' _ hagree =>
  ⟨SampleValue.Gm m, SampleValue.run m ρ, (θ_run Cert.SampleRefIdeal.defs _ _).mono (fun r h c => ⟨(h c).1.trans (by
      obtain ⟨h0, h1, h2, h3, h4, h5, h6, h7, h8⟩ := hagree c
      rw [Cert.SampleRefIdeal.Read.val_main_v52_eq, h0, h1, h2, h3, h4, h5, h6, h7, h8]
      exact sample_value _ _ _ _ _ _ _ _ _), (h c).2⟩) (Cert.SampleRefIdeal.Value.run m' ρ')⟩

theorem algebraic_FfnIdeal : Cert.algebraic_FfnIdeal_FfnRefIdeal := fun m ρ m' ρ' _ hagree =>
  ⟨FfnValue.Gm m, FfnValue.run m ρ, (θ_run Cert.FfnRefIdeal.defs _ _).mono (fun r h c => ⟨(h c).1.trans (by
      obtain ⟨h0, h1, h2, h3, h4⟩ := hagree c
      rw [Cert.FfnRefIdeal.Read.val_main_v35_eq, h0, h1, h2, h3, h4]
      exact ffn_value _ _ _ _ _), (h c).2⟩) (Cert.FfnRefIdeal.Value.run m' ρ')⟩

theorem algebraic_FfnSampleIdeal : Cert.algebraic_FfnSampleIdeal_FfnSampleRefIdeal := fun m ρ m' ρ' _ hagree =>
  ⟨FfnSampleValue.Gm m, FfnSampleValue.run m ρ, (θ_run Cert.FfnSampleRefIdeal.defs _ _).mono (fun r h c => ⟨(h c).1.trans (by
      obtain ⟨h0, h1, h2, h3, h4⟩ := hagree c
      rw [Cert.FfnSampleRefIdeal.Read.val_main_v35_eq, h0, h1, h2, h3, h4]
      exact ffn_sample_value _ _ _ _ _), (h c).2⟩) (Cert.FfnSampleRefIdeal.Value.run m' ρ')⟩

theorem algebraic_InProjIdeal : Cert.algebraic_InProjIdeal_InRefIdeal := fun m ρ m' ρ' _ hagree =>
  ⟨InValue.Gm m, InValue.run m ρ, (θ_run Cert.InRefIdeal.defs _ _).mono (fun r h c => ⟨(h c).1.trans (by
      obtain ⟨h0, h1, h2, -, -, -, -, -, -, h9, -, -⟩ := hagree c
      rw [Cert.InRefIdeal.Read.val_main_v17_eq, h0, h1, h2, h9]
      exact InRefRows.result_eq _ _ _ _), (h c).2⟩) (Cert.InRefIdeal.Value.run m' ρ')⟩

theorem claim : Cert.Claim := ⟨Cert.KernelIdeal.Gen.facts, Cert.ReferenceIdeal.Gen.facts, Cert.OutFfn.Gen.facts, Cert.OutRef.Gen.facts,
  Cert.OutFfnIdeal.Gen.facts, Cert.OutRefIdeal.Gen.facts, Cert.Ffn.Gen.facts, Cert.FfnRef.Gen.facts, Cert.FfnIdeal.Gen.facts, Cert.FfnRefIdeal.Gen.facts,
  Cert.Sample.Gen.facts, Cert.SampleRef.Gen.facts, Cert.SampleIdeal.Gen.facts, Cert.SampleRefIdeal.Gen.facts,
  Cert.FfnSample.Gen.facts, Cert.FfnSampleRef.Gen.facts, Cert.FfnSampleIdeal.Gen.facts, Cert.FfnSampleRefIdeal.Gen.facts,
  Cert.InProjIdeal.Gen.facts, Cert.InRefIdeal.Gen.facts,
  Cert.Proof.KernelIdeal.frame, Cert.Proof.Reference.frame,
  fun m ρ _ => Cert.OutFfn.Gen.frame m ρ, frame_OutRef, fun m ρ _ => Cert.OutFfnIdeal.Gen.frame m ρ, frame_OutRefIdeal,
  fun m ρ _ => Cert.Ffn.Gen.frame m ρ, frame_FfnRef, fun m ρ _ => Cert.FfnIdeal.Gen.frame m ρ, frame_FfnRefIdeal,
  fun m ρ _ => Cert.Sample.Gen.frame m ρ, frame_SampleRef, fun m ρ _ => Cert.SampleIdeal.Gen.frame m ρ, frame_SampleRefIdeal,
  fun m ρ _ => Cert.FfnSample.Gen.frame m ρ, frame_FfnSampleRef, fun m ρ _ => Cert.FfnSampleIdeal.Gen.frame m ρ, frame_FfnSampleRefIdeal,
  Cert.Proof.InProjIdeal.frame, frame_InRefIdeal,
  trivial, trivial, algebraic_OutFfnIdeal, trivial, trivial, algebraic_FfnIdeal, trivial, trivial, algebraic_SampleIdeal,
  trivial, trivial, algebraic_FfnSampleIdeal, algebraic_InProjIdeal⟩

end Cert.Proof

end
